-- ==== Defs.lean ====
def Pre_Kernel [hPre_start_fits : Cert.Pre_start_fits.Facts] (m : (ℓ : Loc Cert.Kernel.nD Cert.Kernel.τ Cert.Kernel.sig) → Buf (Elt Bits) ℓ) : Prop :=
  ∀ c : Dev Cert.Kernel.nD,
    (Cert.Pre_start_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_start_fits : Cert.Pre_start_fits.Facts] (m : (ℓ : Loc Cert.KernelIdeal.nD Cert.KernelIdeal.τ Cert.KernelIdeal.sig) → Buf (Elt Ideal) ℓ) : Prop :=
  ∀ c : Dev Cert.KernelIdeal.nD,
    (Cert.Pre_start_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_from_zero_and_finite [hPre_from_zero_and_finite : Cert.Pre_from_zero_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_from_zero_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_from_zero_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_from_zero_and_finite [hPre_from_zero_and_finite : Cert.Pre_from_zero_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_from_zero_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_from_zero_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_weights_below_inf [hPre_weights_below_inf : Cert.Pre_weights_below_inf.Facts] (m : (ℓ : Loc Cert.GateIdeal.nD Cert.GateIdeal.τ Cert.GateIdeal.sig) → Buf (Elt Ideal) ℓ) : Prop :=
  ∀ c : Dev Cert.GateIdeal.nD,
    (Cert.Pre_weights_below_inf.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_weights_below_inf [hPre_weights_below_inf : Cert.Pre_weights_below_inf.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_weights_below_inf.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2))) = (fun _ => 1#1)

def quiescent_Kernel [hKernel : Cert.Kernel.Facts] [hPre_start_fits : Cert.Pre_start_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_start_fits : Cert.Pre_start_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_from_zero_and_finite [hKernelIdeal : Cert.KernelIdeal.Facts] [hPre_from_zero_and_finite : Cert.Pre_from_zero_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_from_zero_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_from_zero_and_finite [hReferenceIdeal : Cert.ReferenceIdeal.Facts] [hPre_from_zero_and_finite : Cert.Pre_from_zero_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_from_zero_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateIdeal_pre_weights_below_inf [hGateIdeal : Cert.GateIdeal.Facts] [hPre_weights_below_inf : Cert.Pre_weights_below_inf.Facts] : Prop :=
  ∀ (m : (ℓ : Loc Cert.GateIdeal.nD Cert.GateIdeal.τ Cert.GateIdeal.sig) → Buf (Elt Ideal) ℓ) (g : Dev Cert.GateIdeal.nD → PrngReg), Pre_GateIdeal_weights_below_inf m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_GateReferenceIdeal_pre_weights_below_inf [hGateReferenceIdeal : Cert.GateReferenceIdeal.Facts] [hPre_weights_below_inf : Cert.Pre_weights_below_inf.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_weights_below_inf m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_from_zero_and_finite [hKernelIdeal : Cert.KernelIdeal.Facts] [hReferenceIdeal : Cert.ReferenceIdeal.Facts] [hPre_from_zero_and_finite : Cert.Pre_from_zero_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_from_zero_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Gate_GateIdeal : Prop :=
  True

def algebraic_GateIdeal_GateReferenceIdeal_pre_weights_below_inf [hGateIdeal : Cert.GateIdeal.Facts] [hGateReferenceIdeal : Cert.GateReferenceIdeal.Facts] [hPre_weights_below_inf : Cert.Pre_weights_below_inf.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal_weights_below_inf m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v12_0)) (v1 : (c : Dev Cert.GateIdeal.nD) → Buf (Elt Ideal) ((c.tc : Thread Cert.GateIdeal.nD Cert.GateIdeal.τ).loc Cert.GateIdeal.main_v12_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v12_0) = v0 c
          ∧ r.2.mem ((c.tc : Thread Cert.GateIdeal.nD Cert.GateIdeal.τ).loc Cert.GateIdeal.main_v12_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v4) = v0 c
          ∧ r.2.mem ((c.tc : Thread Cert.GateReferenceIdeal.nD Cert.GateReferenceIdeal.τ).loc Cert.GateReferenceIdeal.main_v7) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateReferenceIdeal : Cert.GateReferenceIdeal.Facts) (hPre_start_fits : Cert.Pre_start_fits.Facts) (hPre_from_zero_and_finite : Cert.Pre_from_zero_and_finite.Facts) (hPre_weights_below_inf : Cert.Pre_weights_below_inf.Facts),
    quiescent_Kernel (hKernel := hKernel) (hPre_start_fits := hPre_start_fits)
    ∧ quiescent_KernelIdeal (hKernelIdeal := hKernelIdeal) (hPre_start_fits := hPre_start_fits)
    ∧ quiescent_KernelIdeal_pre_from_zero_and_finite (hKernelIdeal := hKernelIdeal) (hPre_from_zero_and_finite := hPre_from_zero_and_finite)
    ∧ quiescent_ReferenceIdeal (hReferenceIdeal := hReferenceIdeal)
    ∧ quiescent_ReferenceIdeal_pre_from_zero_and_finite (hReferenceIdeal := hReferenceIdeal) (hPre_from_zero_and_finite := hPre_from_zero_and_finite)
    ∧ quiescent_Gate (hGate := hGate)
    ∧ quiescent_GateIdeal (hGateIdeal := hGateIdeal)
    ∧ quiescent_GateIdeal_pre_weights_below_inf (hGateIdeal := hGateIdeal) (hPre_weights_below_inf := hPre_weights_below_inf)
    ∧ quiescent_GateReferenceIdeal (hGateReferenceIdeal := hGateReferenceIdeal)
    ∧ quiescent_GateReferenceIdeal_pre_weights_below_inf (hGateReferenceIdeal := hGateReferenceIdeal) (hPre_weights_below_inf := hPre_weights_below_inf)
    ∧ preserves_Kernel_KernelIdeal
    ∧ algebraic_KernelIdeal_ReferenceIdeal_pre_from_zero_and_finite (hKernelIdeal := hKernelIdeal) (hReferenceIdeal := hReferenceIdeal) (hPre_from_zero_and_finite := hPre_from_zero_and_finite)
    ∧ preserves_Gate_GateIdeal
    ∧ algebraic_GateIdeal_GateReferenceIdeal_pre_weights_below_inf (hGateIdeal := hGateIdeal) (hGateReferenceIdeal := hGateReferenceIdeal) (hPre_weights_below_inf := hPre_weights_below_inf)
-- ==== Pre_from_zero_and_finite.lean ====
abbrev S2x16384x32x128 : Shape := ⟨4, ![2, 16384, 32, 128]⟩
abbrev S2x32 : Shape := ⟨2, ![2, 32]⟩
abbrev S2x16384x8x128 : Shape := ⟨4, ![2, 16384, 8, 128]⟩
abbrev S2x8 : Shape := ⟨2, ![2, 8]⟩
abbrev S2x8x128 : Shape := ⟨3, ![2, 8, 128]⟩
abbrev S2x32x16384 : Shape := ⟨3, ![2, 32, 16384]⟩
abbrev S2x32x64 : Shape := ⟨3, ![2, 32, 64]⟩
abbrev S_ : Shape := ⟨0, ![]⟩

class Facts : Prop where
  bcast_S_S2x32x64 : S_.BroadcastsInDim S2x32x64 (![] : Fin 0 → Fin S2x32x64.rank)
  bcast_S_S2x32x16384 : S_.BroadcastsInDim S2x32x16384 (![] : Fin 0 → Fin S2x32x16384.rank)

variable [Facts]

def fn {F : FTy → Type} [FloatOps F] (main_arg0 : FVec F S2x16384x32x128 .fp8e4m3) (main_arg1 : FVec F S2x32 .f32) (main_arg2 : FVec F S2x16384x8x128 .fp8e4m3) (main_arg3 : FVec F S2x8 .f32) (main_arg4 : FVec F S2x16384x8x128 .fp8e4m3) (main_arg5 : FVec F S2x8x128 .f32) (main_arg6 : FVec F S2x32x16384 .f32) (main_arg7 : IVec S2x32x64 32) : IVec S2x32x64 1 × IVec S2x32x16384 1 :=
  let main_c : IVec S_ 32 := constantI S_ 32 0#32
  let main_v0 : IVec S2x32x64 32 := broadcastInDim S2x32x64 ![] bcast_S_S2x32x64 main_c
  let main_v1 : IVec S2x32x64 1 := cmpi .eq main_arg7 main_v0
  let main_v2 : FVec F S2x32x16384 .f32 := Host.absf main_arg6
  let main_cst : FVec F S_ .f32 := constant S_ .f32 0x7F800000#32
  let main_v3 : FVec F S2x32x16384 .f32 := broadcastInDim S2x32x16384 ![] bcast_S_S2x32x16384 main_cst
  let main_v4 : IVec S2x32x16384 1 := cmpf .olt main_v2 main_v3
  (main_v1, main_v4)
-- ==== Pre_start_fits.lean ====
abbrev S2x16384x32x128 : Shape := ⟨4, ![2, 16384, 32, 128]⟩
abbrev S2x32 : Shape := ⟨2, ![2, 32]⟩
abbrev S2x16384x8x128 : Shape := ⟨4, ![2, 16384, 8, 128]⟩
abbrev S2x8 : Shape := ⟨2, ![2, 8]⟩
abbrev S2x8x128 : Shape := ⟨3, ![2, 8, 128]⟩
abbrev S2x32x16384 : Shape := ⟨3, ![2, 32, 16384]⟩
abbrev S2x32x64 : Shape := ⟨3, ![2, 32, 64]⟩
abbrev S_ : Shape := ⟨0, ![]⟩

class Facts : Prop where
  bcast_S_S2x32x64 : S_.BroadcastsInDim S2x32x64 (![] : Fin 0 → Fin S2x32x64.rank)

variable [Facts]

def fn {F : FTy → Type} [FloatOps F] (main_arg0 : FVec F S2x16384x32x128 .fp8e4m3) (main_arg1 : FVec F S2x32 .f32) (main_arg2 : FVec F S2x16384x8x128 .fp8e4m3) (main_arg3 : FVec F S2x8 .f32) (main_arg4 : FVec F S2x16384x8x128 .fp8e4m3) (main_arg5 : FVec F S2x8x128 .f32) (main_arg6 : FVec F S2x32x16384 .f32) (main_arg7 : IVec S2x32x64 32) : IVec S2x32x64 1 :=
  let main_c : IVec S_ 32 := constantI S_ 32 0#32
  let main_v0 : IVec S2x32x64 32 := broadcastInDim S2x32x64 ![] bcast_S_S2x32x64 main_c
  let main_v1 : IVec S2x32x64 1 := cmpi .sge main_arg7 main_v0
  main_v1
-- ==== Pre_weights_below_inf.lean ====
abbrev S2x16384x4096 : Shape := ⟨3, ![2, 16384, 4096]⟩
abbrev S4096x32 : Shape := ⟨2, ![4096, 32]⟩
abbrev S32 : Shape := ⟨1, ![32]⟩
abbrev S_ : Shape := ⟨0, ![]⟩

class Facts : Prop where
  bcast_S_S4096x32 : S_.BroadcastsInDim S4096x32 (![] : Fin 0 → Fin S4096x32.rank)

variable [Facts]

def fn {F : FTy → Type} [FloatOps F] (main_arg0 : FVec F S2x16384x4096 .bf16) (main_arg1 : FVec F S4096x32 .f32) (main_arg2 : FVec F S32 .f32) : IVec S4096x32 1 :=
  let main_cst : FVec F S_ .f32 := constant S_ .f32 0x7F800000#32
  let main_v0 : FVec F S4096x32 .f32 := broadcastInDim S4096x32 ![] bcast_S_S4096x32 main_cst
  let main_v1 : IVec S4096x32 1 := cmpf .olt main_arg1 main_v0
  main_v1
-- ==== Kernel.lean ====
abbrev S2x16384x32x128 : Shape := ⟨4, ![2, 16384, 32, 128]⟩
abbrev S2x32 : Shape := ⟨2, ![2, 32]⟩
abbrev S2x16384x8x128 : Shape := ⟨4, ![2, 16384, 8, 128]⟩
abbrev S2x8 : Shape := ⟨2, ![2, 8]⟩
abbrev S2x8x128 : Shape := ⟨3, ![2, 8, 128]⟩
abbrev S2x32x16384 : Shape := ⟨3, ![2, 32, 16384]⟩
abbrev S2x32x64 : Shape := ⟨3, ![2, 32, 64]⟩
abbrev S2x32x16384x128 : Shape := ⟨4, ![2, 32, 16384, 128]⟩
abbrev S2x8x16384x128 : Shape := ⟨4, ![2, 8, 16384, 128]⟩
abbrev S2x8x128x16384 : Shape := ⟨4, ![2, 8, 128, 16384]⟩
abbrev S2x8x4 : Shape := ⟨3, ![2, 8, 4]⟩
abbrev S_ : Shape := ⟨0, ![]⟩
abbrev S2x32x64x256 : Shape := ⟨4, ![2, 32, 64, 256]⟩
abbrev S2x32x64x1 : Shape := ⟨4, ![2, 32, 64, 1]⟩
abbrev S2x32x1 : Shape := ⟨3, ![2, 32, 1]⟩
abbrev S2x32x63 : Shape := ⟨3, ![2, 32, 63]⟩
abbrev S64 : Shape := ⟨1, ![64]⟩
abbrev S4096 : Shape := ⟨1, ![4096]⟩
abbrev S2x32x1x16384 : Shape := ⟨4, ![2, 32, 1, 16384]⟩
abbrev S2x8x1x128 : Shape := ⟨4, ![2, 8, 1, 128]⟩
abbrev S2x16384x4096 : Shape := ⟨3, ![2, 16384, 4096]⟩
abbrev S1x1x16384x128 : Shape := ⟨4, ![1, 1, 16384, 128]⟩
abbrev S1x1x128x16384 : Shape := ⟨4, ![1, 1, 128, 16384]⟩
abbrev S1x1x1x16384 : Shape := ⟨4, ![1, 1, 1, 16384]⟩
abbrev S1x1x1x128 : Shape := ⟨4, ![1, 1, 1, 128]⟩
abbrev S1x16384x128 : Shape := ⟨3, ![1, 16384, 128]⟩
abbrev S16384x128 : Shape := ⟨2, ![16384, 128]⟩
abbrev S128x256 : Shape := ⟨2, ![128, 256]⟩
abbrev S8x256 : Shape := ⟨2, ![8, 256]⟩
abbrev S1x256 : Shape := ⟨2, ![1, 256]⟩
abbrev S1 : Shape := ⟨1, ![1]⟩
abbrev S1x128 : Shape := ⟨2, ![1, 128]⟩
abbrev S128x128 : Shape := ⟨2, ![128, 128]⟩
abbrev S256x256 : Shape := ⟨2, ![256, 256]⟩
abbrev S1x1x256x128 : Shape := ⟨4, ![1, 1, 256, 128]⟩
abbrev S256x128 : Shape := ⟨2, ![256, 128]⟩
abbrev S1x1x1x256 : Shape := ⟨4, ![1, 1, 1, 256]⟩
abbrev S32x8x256 : Shape := ⟨3, ![32, 8, 256]⟩
abbrev S1x1x128x256 : Shape := ⟨4, ![1, 1, 128, 256]⟩
abbrev S256 : Shape := ⟨1, ![256]⟩
abbrev S1x1x256 : Shape := ⟨3, ![1, 1, 256]⟩
abbrev S1x1x1 : Shape := ⟨3, ![1, 1, 1]⟩
abbrev S1x256x128 : Shape := ⟨3, ![1, 256, 128]⟩

abbrev nBuf : Space → Nat
  | .hbm => 31
  | .vmem => 18
  | .smem => 3
  | _ => 0

abbrev bufTy : (tb : Table) → Fin (tcTables nBuf tb) → BufTy
  | .hbm, ⟨0, _⟩ => ⟨S2x16384x32x128, .fp8e4m3⟩
  | .hbm, ⟨1, _⟩ => ⟨S2x32, .f32⟩
  | .hbm, ⟨2, _⟩ => ⟨S2x16384x8x128, .fp8e4m3⟩
  | .hbm, ⟨3, _⟩ => ⟨S2x8, .f32⟩
  | .hbm, ⟨4, _⟩ => ⟨S2x16384x8x128, .fp8e4m3⟩
  | .hbm, ⟨5, _⟩ => ⟨S2x8x128, .f32⟩
  | .hbm, ⟨6, _⟩ => ⟨S2x32x16384, .f32⟩
  | .hbm, ⟨7, _⟩ => ⟨S2x32x64, .i32⟩
  | .hbm, ⟨8, _⟩ => ⟨S2x32x16384x128, .fp8e4m3⟩
  | .hbm, ⟨9, _⟩ => ⟨S2x8x16384x128, .fp8e4m3⟩
  | .hbm, ⟨10, _⟩ => ⟨S2x8x128x16384, .fp8e4m3⟩
  | .hbm, ⟨11, _⟩ => ⟨S2x8x4, .f32⟩
  | .hbm, ⟨12, _⟩ => ⟨S2x32, .f32⟩
  | .hbm, ⟨13, _⟩ => ⟨S2x32, .f32⟩
  | .hbm, ⟨14, _⟩ => ⟨S_, .f32⟩
  | .hbm, ⟨15, _⟩ => ⟨S2x32x16384, .f32⟩
  | .hbm, ⟨16, _⟩ => ⟨S2x32x16384, .f32⟩
  | .hbm, ⟨17, _⟩ => ⟨S2x32x64x256, .f32⟩
  | .hbm, ⟨18, _⟩ => ⟨S2x32x64x1, .f32⟩
  | .hbm, ⟨19, _⟩ => ⟨S2x32x64, .f32⟩
  | .hbm, ⟨20, _⟩ => ⟨S_, .f32⟩
  | .hbm, ⟨21, _⟩ => ⟨S2x32x1, .f32⟩
  | .hbm, ⟨22, _⟩ => ⟨S2x32x63, .f32⟩
  | .hbm, ⟨23, _⟩ => ⟨S2x32x64, .f32⟩
  | .hbm, ⟨24, _⟩ => ⟨S64, .f32⟩
  | .hbm, ⟨25, _⟩ => ⟨S4096, .i32⟩
  | .hbm, ⟨26, _⟩ => ⟨S4096, .f32⟩
  | .hbm, ⟨27, _⟩ => ⟨S2x32x1x16384, .f32⟩
  | .hbm, ⟨28, _⟩ => ⟨S2x8x1x128, .f32⟩
  | .hbm, ⟨29, _⟩ => ⟨S2x16384x4096, .bf16⟩
  | .hbm, ⟨30, _⟩ => ⟨S2x32x1x16384, .f32⟩
  | .local _ .vmem, ⟨0, _⟩ => ⟨S1x1x16384x128, .fp8e4m3⟩
  | .local _ .vmem, ⟨1, _⟩ => ⟨S1x1x16384x128, .fp8e4m3⟩
  | .local _ .vmem, ⟨2, _⟩ => ⟨S1x1x16384x128, .fp8e4m3⟩
  | .local _ .vmem, ⟨3, _⟩ => ⟨S1x1x16384x128, .fp8e4m3⟩
  | .local _ .vmem, ⟨4, _⟩ => ⟨S1x1x128x16384, .fp8e4m3⟩
  | .local _ .vmem, ⟨5, _⟩ => ⟨S1x1x128x16384, .fp8e4m3⟩
  | .local _ .vmem, ⟨6, _⟩ => ⟨S1x1x1x16384, .f32⟩
  | .local _ .vmem, ⟨7, _⟩ => ⟨S1x1x1x16384, .f32⟩
  | .local _ .vmem, ⟨8, _⟩ => ⟨S1x1x1x128, .f32⟩
  | .local _ .vmem, ⟨9, _⟩ => ⟨S1x1x1x128, .f32⟩
  | .local _ .vmem, ⟨10, _⟩ => ⟨S1x16384x128, .bf16⟩
  | .local _ .vmem, ⟨11, _⟩ => ⟨S1x16384x128, .bf16⟩
  | .local _ .vmem, ⟨12, _⟩ => ⟨S1x1x1x16384, .f32⟩
  | .local _ .vmem, ⟨13, _⟩ => ⟨S1x1x1x16384, .f32⟩
  | .local _ .vmem, ⟨14, _⟩ => ⟨S16384x128, .f32⟩
  | .local _ .vmem, ⟨15, _⟩ => ⟨S128x256, .f32⟩
  | .local _ .vmem, ⟨16, _⟩ => ⟨S8x256, .f32⟩
  | .local _ .vmem, ⟨17, _⟩ => ⟨S1x256, .f32⟩
  | .local _ .smem, ⟨0, _⟩ => ⟨S4096, .i32⟩
  | .local _ .smem, ⟨1, _⟩ => ⟨S64, .f32⟩
  | .local _ .smem, ⟨2, _⟩ => ⟨S4096, .f32⟩
  | _, _ => ⟨S2x16384x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 32], ![false, false]⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
@[reducible] def k0_t1_loop : Scf.Loop 32 :=
  let c0_i32 : BitVec 32 := 0#32
  let c128_i32 : BitVec 32 := 128#32
  let v5 : BitVec 32 := Scalar.addi c0_i32 c128_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c128_i32_4 : BitVec 32 := 128#32
  let v9 : BitVec 32 := Scalar.muli arg16 c128_i32_4
  v9
def k0_off2 (k0_t1 : Fin k0_t1_loop.trips) : Fin 4 → Nat :=
  let c0 : Index := 0#32
  let c0_5 : Index := 0#32
  let c0_6 : Index := 0#32
  let c0_i32 : BitVec 32 := 0#32
  let c1_i32 : BitVec 32 := 1#32
  let arg16 : BitVec 32 := Scf.iv c0_i32 c1_i32 k0_t1
  let c128_i32_4 : BitVec 32 := 128#32
  let v9 : BitVec 32 := Scalar.muli arg16 c128_i32_4
  let v10 : BitVec 32 := v9
  let v11 : Index := Scalar.indexCast v10
  ![0, 0, 0, v11.toNat]
def k0_off3 (k0_t1 : Fin k0_t1_loop.trips) : Fin 2 → Nat :=
  let c0_i32 : BitVec 32 := 0#32
  let c1_i32 : BitVec 32 := 1#32
  let arg16 : BitVec 32 := Scf.iv c0_i32 c1_i32 k0_t1
  let c128_i32_4 : BitVec 32 := 128#32
  let v9 : BitVec 32 := Scalar.muli arg16 c128_i32_4
  let v10 : BitVec 32 := v9
  let v19 : Index := Scalar.indexCast v10
  let c0_8 : Index := 0#32
  ![v19.toNat, 0]
@[reducible] def k0_t2_loop : Scf.Loop 32 :=
  let c0_i32_1 : BitVec 32 := 0#32
  let c64_i32 : BitVec 32 := 64#32
  let v8 : BitVec 32 := Scalar.addi c0_i32_1 c64_i32
  let c1_i32_2 : BitVec 32 := 1#32
  ⟨c0_i32_1, v8, c1_i32_2⟩
def k0_mult2 (k0_t2 : Fin k0_t2_loop.trips) : BitVec 32 :=
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  v9
def k0_off4 (k0_t2 : Fin k0_t2_loop.trips) : Fin 4 → Nat :=
  let c0 : Index := 0#32
  let c0_4 : Index := 0#32
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  let v10 : BitVec 32 := v9
  let v11 : Index := Scalar.indexCast v10
  let c0_5 : Index := 0#32
  ![0, 0, v11.toNat, 0]
def k0_off5 (k0_t2 : Fin k0_t2_loop.trips) : Fin 4 → Nat :=
  let c0_6 : Index := 0#32
  let c0_7 : Index := 0#32
  let c0_8 : Index := 0#32
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  let v10 : BitVec 32 := v9
  let v14 : Index := Scalar.indexCast v10
  ![0, 0, 0, v14.toNat]
def k0_off6 (i : grid0.Coords) (k0_t2 : Fin k0_t2_loop.trips) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c64_i32_10 : BitVec 32 := 64#32
  let v19 : BitVec 32 := Scalar.muli v1 c64_i32_10
  let c0_i32_1 : BitVec 32 := 0#32
  let c1_i32_2 : BitVec 32 := 1#32
  let arg16 : BitVec 32 := Scf.iv c0_i32_1 c1_i32_2 k0_t2
  let v20 : BitVec 32 := Scalar.addi v19 arg16
  let v21 : Index := Scalar.indexCast v20
  ![v21.toNat]
@[reducible] def k0_t3_loop (k0_t2 : Fin k0_t2_loop.trips) (v34 : BitVec 32) : Scf.Loop 32 :=
  let c0_i32_1 : BitVec 32 := 0#32
  let c1_i32_2 : BitVec 32 := 1#32
  let arg16 : BitVec 32 := Scf.iv c0_i32_1 c1_i32_2 k0_t2
  let v35 : BitVec 32 := Scalar.subi arg16 v34
  let c1_i32_19 : BitVec 32 := 1#32
  let v37 : BitVec 32 := Scalar.divsi v35 c1_i32_19
  let v38 : BitVec 32 := Scalar.muli v37 c1_i32_19
  let v39 : BitVec 32 := Scalar.addi v34 v38
  let c1_i32_20 : BitVec 32 := 1#32
  ⟨v34, v39, c1_i32_20⟩

def k0_mult3 (k0_t2 : Fin k0_t2_loop.trips) (v34 : BitVec 32) (k0_t3 : Fin (k0_t3_loop k0_t2 v34).trips) : BitVec 32 :=
  let c1_i32_20 : BitVec 32 := 1#32
  let arg17 : BitVec 32 := Scf.iv v34 c1_i32_20 k0_t3
  let c256_i32_61 : BitVec 32 := 256#32
  let v127 : BitVec 32 := Scalar.muli arg17 c256_i32_61
  v127
def k0_off7 (k0_t2 : Fin k0_t2_loop.trips) (v34 : BitVec 32) (k0_t3 : Fin (k0_t3_loop k0_t2 v34).trips) : Fin 4 → Nat :=
  let c0_62 : Index := 0#32
  let c0_63 : Index := 0#32
  let c1_i32_20 : BitVec 32 := 1#32
  let arg17 : BitVec 32 := Scf.iv v34 c1_i32_20 k0_t3
  let c256_i32_61 : BitVec 32 := 256#32
  let v127 : BitVec 32 := Scalar.muli arg17 c256_i32_61
  let v128 : BitVec 32 := v127
  let v129 : Index := Scalar.indexCast v128
  let c0_64 : Index := 0#32
  ![0, 0, v129.toNat, 0]
def k0_off8 (k0_t2 : Fin k0_t2_loop.trips) (v34 : BitVec 32) (k0_t3 : Fin (k0_t3_loop k0_t2 v34).trips) : Fin 2 → Nat :=
  let c1_i32_20 : BitVec 32 := 1#32
  let arg17 : BitVec 32 := Scf.iv v34 c1_i32_20 k0_t3
  let c256_i32_61 : BitVec 32 := 256#32
  let v127 : BitVec 32 := Scalar.muli arg17 c256_i32_61
  let v128 : BitVec 32 := v127
  let v135 : Index := Scalar.indexCast v128
  let c0_66 : Index := 0#32
  ![v135.toNat, 0]
def k0_off9 (k0_t2 : Fin k0_t2_loop.trips) (v34 : BitVec 32) (k0_t3 : Fin (k0_t3_loop k0_t2 v34).trips) : Fin 4 → Nat :=
  let c0_74 : Index := 0#32
  let c0_75 : Index := 0#32
  let c0_76 : Index := 0#32
  let c1_i32_20 : BitVec 32 := 1#32
  let arg17 : BitVec 32 := Scf.iv v34 c1_i32_20 k0_t3
  let c256_i32_61 : BitVec 32 := 256#32
  let v127 : BitVec 32 := Scalar.muli arg17 c256_i32_61
  let v128 : BitVec 32 := v127
  let v150 : Index := Scalar.indexCast v128
  ![0, 0, 0, v150.toNat]
@[reducible] def k0_t4_loop (k0_t2 : Fin k0_t2_loop.trips) (v34 : BitVec 32) : Scf.Loop 32 :=
  let c0_i32_1 : BitVec 32 := 0#32
  let c1_i32_2 : BitVec 32 := 1#32
  let arg16 : BitVec 32 := Scf.iv c0_i32_1 c1_i32_2 k0_t2
  let v35 : BitVec 32 := Scalar.subi arg16 v34
  let c1_i32_19 : BitVec 32 := 1#32
  let v37 : BitVec 32 := Scalar.divsi v35 c1_i32_19
  let v38 : BitVec 32 := Scalar.muli v37 c1_i32_19
  let v39 : BitVec 32 := Scalar.addi v34 v38
  let v36 : BitVec 32 := Scalar.addi v34 v35
  let c1_i32_21 : BitVec 32 := 1#32
  ⟨v39, v36, c1_i32_21⟩
def k0_mult4 (k0_t2 : Fin k0_t2_loop.trips) (v34 : BitVec 32) (k0_t4 : Fin (k0_t4_loop k0_t2 v34).trips) : BitVec 32 :=
  let c0_i32_1 : BitVec 32 := 0#32
  let c1_i32_2 : BitVec 32 := 1#32
  let arg16 : BitVec 32 := Scf.iv c0_i32_1 c1_i32_2 k0_t2
  let v35 : BitVec 32 := Scalar.subi arg16 v34
  let c1_i32_19 : BitVec 32 := 1#32
  let v37 : BitVec 32 := Scalar.divsi v35 c1_i32_19
  let v38 : BitVec 32 := Scalar.muli v37 c1_i32_19
  let v39 : BitVec 32 := Scalar.addi v34 v38
  let c1_i32_21 : BitVec 32 := 1#32
  let arg17 : BitVec 32 := Scf.iv v39 c1_i32_21 k0_t4
  let c256_i32_61 : BitVec 32 := 256#32
  let v127 : BitVec 32 := Scalar.muli arg17 c256_i32_61
  v127
def k0_off10 (k0_t2 : Fin k0_t2_loop.trips) (v34 : BitVec 32) (k0_t4 : Fin (k0_t4_loop k0_t2 v34).trips) : Fin 4 → Nat :=
  let c0_62 : Index := 0#32
  let c0_63 : Index := 0#32
  let c0_i32_1 : BitVec 32 := 0#32
  let c1_i32_2 : BitVec 32 := 1#32
  let arg16 : BitVec 32 := Scf.iv c0_i32_1 c1_i32_2 k0_t2
  let v35 : BitVec 32 := Scalar.subi arg16 v34
  let c1_i32_19 : BitVec 32 := 1#32
  let v37 : BitVec 32 := Scalar.divsi v35 c1_i32_19
  let v38 : BitVec 32 := Scalar.muli v37 c1_i32_19
  let v39 : BitVec 32 := Scalar.addi v34 v38
  let c1_i32_21 : BitVec 32 := 1#32
  let arg17 : BitVec 32 := Scf.iv v39 c1_i32_21 k0_t4
  let c256_i32_61 : BitVec 32 := 256#32
  let v127 : BitVec 32 := Scalar.muli arg17 c256_i32_61
  let v128 : BitVec 32 := v127
  let v129 : Index := Scalar.indexCast v128
  let c0_64 : Index := 0#32
  ![0, 0, v129.toNat, 0]
def k0_off11 (k0_t2 : Fin k0_t2_loop.trips) (v34 : BitVec 32) (k0_t4 : Fin (k0_t4_loop k0_t2 v34).trips) : Fin 2 → Nat :=
  let c0_i32_1 : BitVec 32 := 0#32
  let c1_i32_2 : BitVec 32 := 1#32
  let arg16 : BitVec 32 := Scf.iv c0_i32_1 c1_i32_2 k0_t2
  let v35 : BitVec 32 := Scalar.subi arg16 v34
  let c1_i32_19 : BitVec 32 := 1#32
  let v37 : BitVec 32 := Scalar.divsi v35 c1_i32_19
  let v38 : BitVec 32 := Scalar.muli v37 c1_i32_19
  let v39 : BitVec 32 := Scalar.addi v34 v38
  let c1_i32_21 : BitVec 32 := 1#32
  let arg17 : BitVec 32 := Scf.iv v39 c1_i32_21 k0_t4
  let c256_i32_61 : BitVec 32 := 256#32
  let v127 : BitVec 32 := Scalar.muli arg17 c256_i32_61
  let v128 : BitVec 32 := v127
  let v135 : Index := Scalar.indexCast v128
  let c0_66 : Index := 0#32
  ![v135.toNat, 0]
def k0_off12 (k0_t2 : Fin k0_t2_loop.trips) (v34 : BitVec 32) (k0_t4 : Fin (k0_t4_loop k0_t2 v34).trips) : Fin 4 → Nat :=
  let c0_74 : Index := 0#32
  let c0_75 : Index := 0#32
  let c0_76 : Index := 0#32
  let c0_i32_1 : BitVec 32 := 0#32
  let c1_i32_2 : BitVec 32 := 1#32
  let arg16 : BitVec 32 := Scf.iv c0_i32_1 c1_i32_2 k0_t2
  let v35 : BitVec 32 := Scalar.subi arg16 v34
  let c1_i32_19 : BitVec 32 := 1#32
  let v37 : BitVec 32 := Scalar.divsi v35 c1_i32_19
  let v38 : BitVec 32 := Scalar.muli v37 c1_i32_19
  let v39 : BitVec 32 := Scalar.addi v34 v38
  let c1_i32_21 : BitVec 32 := 1#32
  let arg17 : BitVec 32 := Scf.iv v39 c1_i32_21 k0_t4
  let c256_i32_61 : BitVec 32 := 256#32
  let v127 : BitVec 32 := Scalar.muli arg17 c256_i32_61
  let v128 : BitVec 32 := v127
  let v150 : Index := Scalar.indexCast v128
  ![0, 0, 0, v150.toNat]

def k0_chk1 (k0_t2 : Fin k0_t2_loop.trips) (v34 : BitVec 32) : Prop :=
  ((k0_t3_loop k0_t2 v34).OK) ∧
  (∀ k0_t3 : Fin (k0_t3_loop k0_t2 v34).trips, 256 ∣ (k0_mult3 k0_t2 v34 k0_t3).toNat) ∧
  (∀ k0_t3 : Fin (k0_t3_loop k0_t2 v34).trips, ∀ a, (k0_off7 k0_t2 v34 k0_t3) a + S1x1x256x128.size a ≤ S1x1x16384x128.size a) ∧
  (∀ k0_t3 : Fin (k0_t3_loop k0_t2 v34).trips, ∀ a, (k0_off8 k0_t2 v34 k0_t3) a + S256x128.size a ≤ S16384x128.size a) ∧
  (∀ k0_t3 : Fin (k0_t3_loop k0_t2 v34).trips, ∀ a, (k0_off9 k0_t2 v34 k0_t3) a + S1x1x128x256.size a ≤ S1x1x128x16384.size a) ∧
  ((k0_t4_loop k0_t2 v34).OK) ∧
  (∀ k0_t4 : Fin (k0_t4_loop k0_t2 v34).trips, 256 ∣ (k0_mult4 k0_t2 v34 k0_t4).toNat) ∧
  (∀ k0_t4 : Fin (k0_t4_loop k0_t2 v34).trips, ∀ a, (k0_off10 k0_t2 v34 k0_t4) a + S1x1x256x128.size a ≤ S1x1x16384x128.size a) ∧
  (∀ k0_t4 : Fin (k0_t4_loop k0_t2 v34).trips, ∀ a, (k0_off11 k0_t2 v34 k0_t4) a + S256x128.size a ≤ S16384x128.size a) ∧
  (∀ k0_t4 : Fin (k0_t4_loop k0_t2 v34).trips, ∀ a, (k0_off12 k0_t2 v34 k0_t4) a + S1x1x128x256.size a ≤ S1x1x128x16384.size a)
theorem k0_t3_ok : ∀ (k0_t2 : Fin k0_t2_loop.trips) (v34 : BitVec 32) (k0_hw1 : k0_chk1 k0_t2 v34), (k0_t3_loop k0_t2 v34).OK := fun k0_t2 v34 k0_hw1 => k0_hw1.1
theorem k0_mult3_dvd : ∀ (k0_t2 : Fin k0_t2_loop.trips) (v34 : BitVec 32) (k0_hw1 : k0_chk1 k0_t2 v34) (k0_t3 : Fin (k0_t3_loop k0_t2 v34).trips), 256 ∣ (k0_mult3 k0_t2 v34 k0_t3).toNat := fun k0_t2 v34 k0_hw1 k0_t3 => k0_hw1.2.1 k0_t3
theorem k0_off7_inb : ∀ (k0_t2 : Fin k0_t2_loop.trips) (v34 : BitVec 32) (k0_hw1 : k0_chk1 k0_t2 v34) (k0_t3 : Fin (k0_t3_loop k0_t2 v34).trips), ∀ a, (k0_off7 k0_t2 v34 k0_t3) a + S1x1x256x128.size a ≤ S1x1x16384x128.size a := fun k0_t2 v34 k0_hw1 k0_t3 => k0_hw1.2.2.1 k0_t3
theorem k0_off8_inb : ∀ (k0_t2 : Fin k0_t2_loop.trips) (v34 : BitVec 32) (k0_hw1 : k0_chk1 k0_t2 v34) (k0_t3 : Fin (k0_t3_loop k0_t2 v34).trips), ∀ a, (k0_off8 k0_t2 v34 k0_t3) a + S256x128.size a ≤ S16384x128.size a := fun k0_t2 v34 k0_hw1 k0_t3 => k0_hw1.2.2.2.1 k0_t3
theorem k0_off9_inb : ∀ (k0_t2 : Fin k0_t2_loop.trips) (v34 : BitVec 32) (k0_hw1 : k0_chk1 k0_t2 v34) (k0_t3 : Fin (k0_t3_loop k0_t2 v34).trips), ∀ a, (k0_off9 k0_t2 v34 k0_t3) a + S1x1x128x256.size a ≤ S1x1x128x16384.size a := fun k0_t2 v34 k0_hw1 k0_t3 => k0_hw1.2.2.2.2.1 k0_t3
theorem k0_t4_ok : ∀ (k0_t2 : Fin k0_t2_loop.trips) (v34 : BitVec 32) (k0_hw1 : k0_chk1 k0_t2 v34), (k0_t4_loop k0_t2 v34).OK := fun k0_t2 v34 k0_hw1 => k0_hw1.2.2.2.2.2.1
theorem k0_mult4_dvd : ∀ (k0_t2 : Fin k0_t2_loop.trips) (v34 : BitVec 32) (k0_hw1 : k0_chk1 k0_t2 v34) (k0_t4 : Fin (k0_t4_loop k0_t2 v34).trips), 256 ∣ (k0_mult4 k0_t2 v34 k0_t4).toNat := fun k0_t2 v34 k0_hw1 k0_t4 => k0_hw1.2.2.2.2.2.2.1 k0_t4
theorem k0_off10_inb : ∀ (k0_t2 : Fin k0_t2_loop.trips) (v34 : BitVec 32) (k0_hw1 : k0_chk1 k0_t2 v34) (k0_t4 : Fin (k0_t4_loop k0_t2 v34).trips), ∀ a, (k0_off10 k0_t2 v34 k0_t4) a + S1x1x256x128.size a ≤ S1x1x16384x128.size a := fun k0_t2 v34 k0_hw1 k0_t4 => k0_hw1.2.2.2.2.2.2.2.1 k0_t4
theorem k0_off11_inb : ∀ (k0_t2 : Fin k0_t2_loop.trips) (v34 : BitVec 32) (k0_hw1 : k0_chk1 k0_t2 v34) (k0_t4 : Fin (k0_t4_loop k0_t2 v34).trips), ∀ a, (k0_off11 k0_t2 v34 k0_t4) a + S256x128.size a ≤ S16384x128.size a := fun k0_t2 v34 k0_hw1 k0_t4 => k0_hw1.2.2.2.2.2.2.2.2.1 k0_t4
theorem k0_off12_inb : ∀ (k0_t2 : Fin k0_t2_loop.trips) (v34 : BitVec 32) (k0_hw1 : k0_chk1 k0_t2 v34) (k0_t4 : Fin (k0_t4_loop k0_t2 v34).trips), ∀ a, (k0_off12 k0_t2 v34 k0_t4) a + S1x1x128x256.size a ≤ S1x1x128x16384.size a := fun k0_t2 v34 k0_hw1 k0_t4 => k0_hw1.2.2.2.2.2.2.2.2.2 k0_t4

def k0_off13 (k0_t2 : Fin k0_t2_loop.trips) : Fin 4 → Nat :=
  let c0_22 : Index := 0#32
  let c0_23 : Index := 0#32
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  let v10 : BitVec 32 := v9
  let v42 : Index := Scalar.indexCast v10
  let c0_24 : Index := 0#32
  ![0, 0, v42.toNat, 0]
def k0_off14 (k0_t2 : Fin k0_t2_loop.trips) : Fin 2 → Nat :=
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  let v10 : BitVec 32 := v9
  let v48 : Index := Scalar.indexCast v10
  let c0_26 : Index := 0#32
  ![v48.toNat, 0]
def k0_off15 (k0_t2 : Fin k0_t2_loop.trips) : Fin 4 → Nat :=
  let c0_33 : Index := 0#32
  let c0_34 : Index := 0#32
  let c0_35 : Index := 0#32
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  let v10 : BitVec 32 := v9
  let v70 : Index := Scalar.indexCast v10
  ![0, 0, 0, v70.toNat]
def k0_off16 (k0_t2 : Fin k0_t2_loop.trips) : Fin 3 → Nat :=
  let c0_51 : Index := 0#32
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  let v10 : BitVec 32 := v9
  let v109 : Index := Scalar.indexCast v10
  let c0_52 : Index := 0#32
  ![0, v109.toNat, 0]
def k0_off17 (k0_t2 : Fin k0_t2_loop.trips) : Fin 4 → Nat :=
  let c0_56 : Index := 0#32
  let c0_57 : Index := 0#32
  let c0_58 : Index := 0#32
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  let v10 : BitVec 32 := v9
  let v120 : Index := Scalar.indexCast v10
  ![0, 0, 0, v120.toNat]
@[reducible] def k0_t5_loop (k0_t2 : Fin k0_t2_loop.trips) : Scf.Loop 32 :=
  let c0_i32_71 : BitVec 32 := 0#32
  let c0_i32_1 : BitVec 32 := 0#32
  let c1_i32_2 : BitVec 32 := 1#32
  let arg16 : BitVec 32 := Scf.iv c0_i32_1 c1_i32_2 k0_t2
  let c1_i32_70 : BitVec 32 := 1#32
  let v139 : BitVec 32 := Scalar.addi arg16 c1_i32_70
  let v140 : BitVec 32 := Scalar.subi v139 c0_i32_71
  let c1_i32_73 : BitVec 32 := 1#32
  let v142 : BitVec 32 := Scalar.divsi v140 c1_i32_73
  let v143 : BitVec 32 := Scalar.muli v142 c1_i32_73
  let v144 : BitVec 32 := Scalar.addi c0_i32_71 v143
  let c1_i32_74 : BitVec 32 := 1#32
  ⟨c0_i32_71, v144, c1_i32_74⟩
def k0_mult5 (k0_t2 : Fin k0_t2_loop.trips) (k0_t5 : Fin (k0_t5_loop k0_t2).trips) : BitVec 32 :=
  let c0_i32_71 : BitVec 32 := 0#32
  let c1_i32_74 : BitVec 32 := 1#32
  let arg17 : BitVec 32 := Scf.iv c0_i32_71 c1_i32_74 k0_t5
  let c256_i32_95 : BitVec 32 := 256#32
  let v176 : BitVec 32 := Scalar.muli arg17 c256_i32_95
  v176
def k0_off18 (k0_t2 : Fin k0_t2_loop.trips) (k0_t5 : Fin (k0_t5_loop k0_t2).trips) : Fin 4 → Nat :=
  let c0_96 : Index := 0#32
  let c0_97 : Index := 0#32
  let c0_i32_71 : BitVec 32 := 0#32
  let c1_i32_74 : BitVec 32 := 1#32
  let arg17 : BitVec 32 := Scf.iv c0_i32_71 c1_i32_74 k0_t5
  let c256_i32_95 : BitVec 32 := 256#32
  let v176 : BitVec 32 := Scalar.muli arg17 c256_i32_95
  let v177 : BitVec 32 := v176
  let v178 : Index := Scalar.indexCast v177
  let c0_98 : Index := 0#32
  ![0, 0, v178.toNat, 0]
def k0_off19 (k0_t2 : Fin k0_t2_loop.trips) (k0_t5 : Fin (k0_t5_loop k0_t2).trips) : Fin 2 → Nat :=
  let c0_i32_71 : BitVec 32 := 0#32
  let c1_i32_74 : BitVec 32 := 1#32
  let arg17 : BitVec 32 := Scf.iv c0_i32_71 c1_i32_74 k0_t5
  let c256_i32_95 : BitVec 32 := 256#32
  let v176 : BitVec 32 := Scalar.muli arg17 c256_i32_95
  let v177 : BitVec 32 := v176
  let v184 : Index := Scalar.indexCast v177
  let c0_100 : Index := 0#32
  ![v184.toNat, 0]
def k0_off20 (k0_t2 : Fin k0_t2_loop.trips) (k0_t5 : Fin (k0_t5_loop k0_t2).trips) : Fin 4 → Nat :=
  let c0_116 : Index := 0#32
  let c0_117 : Index := 0#32
  let c0_118 : Index := 0#32
  let c0_i32_71 : BitVec 32 := 0#32
  let c1_i32_74 : BitVec 32 := 1#32
  let arg17 : BitVec 32 := Scf.iv c0_i32_71 c1_i32_74 k0_t5
  let c256_i32_95 : BitVec 32 := 256#32
  let v176 : BitVec 32 := Scalar.muli arg17 c256_i32_95
  let v177 : BitVec 32 := v176
  let v222 : Index := Scalar.indexCast v177
  ![0, 0, 0, v222.toNat]
@[reducible] def k0_t6_loop (k0_t2 : Fin k0_t2_loop.trips) : Scf.Loop 32 :=
  let c0_i32_71 : BitVec 32 := 0#32
  let c0_i32_1 : BitVec 32 := 0#32
  let c1_i32_2 : BitVec 32 := 1#32
  let arg16 : BitVec 32 := Scf.iv c0_i32_1 c1_i32_2 k0_t2
  let c1_i32_70 : BitVec 32 := 1#32
  let v139 : BitVec 32 := Scalar.addi arg16 c1_i32_70
  let v140 : BitVec 32 := Scalar.subi v139 c0_i32_71
  let c1_i32_73 : BitVec 32 := 1#32
  let v142 : BitVec 32 := Scalar.divsi v140 c1_i32_73
  let v143 : BitVec 32 := Scalar.muli v142 c1_i32_73
  let v144 : BitVec 32 := Scalar.addi c0_i32_71 v143
  let v141 : BitVec 32 := Scalar.addi c0_i32_71 v140
  let c1_i32_75 : BitVec 32 := 1#32
  ⟨v144, v141, c1_i32_75⟩
def k0_mult6 (k0_t2 : Fin k0_t2_loop.trips) (k0_t6 : Fin (k0_t6_loop k0_t2).trips) : BitVec 32 :=
  let c0_i32_71 : BitVec 32 := 0#32
  let c0_i32_1 : BitVec 32 := 0#32
  let c1_i32_2 : BitVec 32 := 1#32
  let arg16 : BitVec 32 := Scf.iv c0_i32_1 c1_i32_2 k0_t2
  let c1_i32_70 : BitVec 32 := 1#32
  let v139 : BitVec 32 := Scalar.addi arg16 c1_i32_70
  let v140 : BitVec 32 := Scalar.subi v139 c0_i32_71
  let c1_i32_73 : BitVec 32 := 1#32
  let v142 : BitVec 32 := Scalar.divsi v140 c1_i32_73
  let v143 : BitVec 32 := Scalar.muli v142 c1_i32_73
  let v144 : BitVec 32 := Scalar.addi c0_i32_71 v143
  let c1_i32_75 : BitVec 32 := 1#32
  let arg17 : BitVec 32 := Scf.iv v144 c1_i32_75 k0_t6
  let c256_i32_95 : BitVec 32 := 256#32
  let v176 : BitVec 32 := Scalar.muli arg17 c256_i32_95
  v176
def k0_off21 (k0_t2 : Fin k0_t2_loop.trips) (k0_t6 : Fin (k0_t6_loop k0_t2).trips) : Fin 4 → Nat :=
  let c0_96 : Index := 0#32
  let c0_97 : Index := 0#32
  let c0_i32_71 : BitVec 32 := 0#32
  let c0_i32_1 : BitVec 32 := 0#32
  let c1_i32_2 : BitVec 32 := 1#32
  let arg16 : BitVec 32 := Scf.iv c0_i32_1 c1_i32_2 k0_t2
  let c1_i32_70 : BitVec 32 := 1#32
  let v139 : BitVec 32 := Scalar.addi arg16 c1_i32_70
  let v140 : BitVec 32 := Scalar.subi v139 c0_i32_71
  let c1_i32_73 : BitVec 32 := 1#32
  let v142 : BitVec 32 := Scalar.divsi v140 c1_i32_73
  let v143 : BitVec 32 := Scalar.muli v142 c1_i32_73
  let v144 : BitVec 32 := Scalar.addi c0_i32_71 v143
  let c1_i32_75 : BitVec 32 := 1#32
  let arg17 : BitVec 32 := Scf.iv v144 c1_i32_75 k0_t6
  let c256_i32_95 : BitVec 32 := 256#32
  let v176 : BitVec 32 := Scalar.muli arg17 c256_i32_95
  let v177 : BitVec 32 := v176
  let v178 : Index := Scalar.indexCast v177
  let c0_98 : Index := 0#32
  ![0, 0, v178.toNat, 0]
def k0_off22 (k0_t2 : Fin k0_t2_loop.trips) (k0_t6 : Fin (k0_t6_loop k0_t2).trips) : Fin 2 → Nat :=
  let c0_i32_71 : BitVec 32 := 0#32
  let c0_i32_1 : BitVec 32 := 0#32
  let c1_i32_2 : BitVec 32 := 1#32
  let arg16 : BitVec 32 := Scf.iv c0_i32_1 c1_i32_2 k0_t2
  let c1_i32_70 : BitVec 32 := 1#32
  let v139 : BitVec 32 := Scalar.addi arg16 c1_i32_70
  let v140 : BitVec 32 := Scalar.subi v139 c0_i32_71
  let c1_i32_73 : BitVec 32 := 1#32
  let v142 : BitVec 32 := Scalar.divsi v140 c1_i32_73
  let v143 : BitVec 32 := Scalar.muli v142 c1_i32_73
  let v144 : BitVec 32 := Scalar.addi c0_i32_71 v143
  let c1_i32_75 : BitVec 32 := 1#32
  let arg17 : BitVec 32 := Scf.iv v144 c1_i32_75 k0_t6
  let c256_i32_95 : BitVec 32 := 256#32
  let v176 : BitVec 32 := Scalar.muli arg17 c256_i32_95
  let v177 : BitVec 32 := v176
  let v184 : Index := Scalar.indexCast v177
  let c0_100 : Index := 0#32
  ![v184.toNat, 0]
def k0_off23 (k0_t2 : Fin k0_t2_loop.trips) (k0_t6 : Fin (k0_t6_loop k0_t2).trips) : Fin 4 → Nat :=
  let c0_116 : Index := 0#32
  let c0_117 : Index := 0#32
  let c0_118 : Index := 0#32
  let c0_i32_71 : BitVec 32 := 0#32
  let c0_i32_1 : BitVec 32 := 0#32
  let c1_i32_2 : BitVec 32 := 1#32
  let arg16 : BitVec 32 := Scf.iv c0_i32_1 c1_i32_2 k0_t2
  let c1_i32_70 : BitVec 32 := 1#32
  let v139 : BitVec 32 := Scalar.addi arg16 c1_i32_70
  let v140 : BitVec 32 := Scalar.subi v139 c0_i32_71
  let c1_i32_73 : BitVec 32 := 1#32
  let v142 : BitVec 32 := Scalar.divsi v140 c1_i32_73
  let v143 : BitVec 32 := Scalar.muli v142 c1_i32_73
  let v144 : BitVec 32 := Scalar.addi c0_i32_71 v143
  let c1_i32_75 : BitVec 32 := 1#32
  let arg17 : BitVec 32 := Scf.iv v144 c1_i32_75 k0_t6
  let c256_i32_95 : BitVec 32 := 256#32
  let v176 : BitVec 32 := Scalar.muli arg17 c256_i32_95
  let v177 : BitVec 32 := v176
  let v222 : Index := Scalar.indexCast v177
  ![0, 0, 0, v222.toNat]
def k0_off24 (k0_t2 : Fin k0_t2_loop.trips) : Fin 3 → Nat :=
  let c0_88 : Index := 0#32
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  let v10 : BitVec 32 := v9
  let v162 : Index := Scalar.indexCast v10
  let c0_89 : Index := 0#32
  ![0, v162.toNat, 0]
def k0_off25 (k0_t2 : Fin k0_t2_loop.trips) : Fin 4 → Nat :=
  let c0_92 : Index := 0#32
  let c0_93 : Index := 0#32
  let c0_94 : Index := 0#32
  let c0_i32_1 : BitVec 32 := 0#32
  let c1_i32_2 : BitVec 32 := 1#32
  let arg16 : BitVec 32 := Scf.iv c0_i32_1 c1_i32_2 k0_t2
  let c256_i32 : BitVec 32 := 256#32
  let v9 : BitVec 32 := Scalar.muli arg16 c256_i32
  let v10 : BitVec 32 := v9
  let v172 : Index := Scalar.indexCast v10
  ![0, 0, 0, v172.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x16384x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16384x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x16384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "scale_log2e" => some (((Real.sqrt 128)⁻¹ * (Real.log 2)⁻¹ : ℝ) : EReal)
  | _ => none
-- ==== ReferenceIdeal.lean ====
abbrev S2x16384x32x128 : Shape := ⟨4, ![2, 16384, 32, 128]⟩
abbrev S2x32 : Shape := ⟨2, ![2, 32]⟩
abbrev S2x16384x8x128 : Shape := ⟨4, ![2, 16384, 8, 128]⟩
abbrev S2x8 : Shape := ⟨2, ![2, 8]⟩
abbrev S2x8x128 : Shape := ⟨3, ![2, 8, 128]⟩
abbrev S2x32x16384 : Shape := ⟨3, ![2, 32, 16384]⟩
abbrev S2x32x64 : Shape := ⟨3, ![2, 32, 64]⟩
abbrev S2x8x4x16384 : Shape := ⟨4, ![2, 8, 4, 16384]⟩
abbrev S2x8x4 : Shape := ⟨3, ![2, 8, 4]⟩
abbrev S2x8x1 : Shape := ⟨3, ![2, 8, 1]⟩
abbrev S_ : Shape := ⟨0, ![]⟩
abbrev S2x1x8x1x128 : Shape := ⟨5, ![2, 1, 8, 1, 128]⟩
abbrev S2x16384x8x4x128 : Shape := ⟨5, ![2, 16384, 8, 4, 128]⟩
abbrev S2x8x16384x16384x4 : Shape := ⟨5, ![2, 8, 16384, 16384, 4]⟩
abbrev S2x8x4x16384x16384 : Shape := ⟨5, ![2, 8, 4, 16384, 16384]⟩
abbrev S2x8x4x1x1 : Shape := ⟨5, ![2, 8, 4, 1, 1]⟩
abbrev S2x8x4x16384x1 : Shape := ⟨5, ![2, 8, 4, 16384, 1]⟩
abbrev S2x8x4x1x16384 : Shape := ⟨5, ![2, 8, 4, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x8x128x4x16384 : Shape := ⟨5, ![2, 8, 128, 4, 16384]⟩
abbrev S2x16384x4096 : Shape := ⟨3, ![2, 16384, 4096]⟩
abbrev S2x32x1x16384 : Shape := ⟨4, ![2, 32, 1, 16384]⟩

abbrev nBuf : Space → Nat
  | .hbm => 70
  | .vmem => 6
  | .smem => 0
  | _ => 0

abbrev bufTy : (tb : Table) → Fin (tcTables nBuf tb) → BufTy
  | .hbm, ⟨0, _⟩ => ⟨S2x16384x32x128, .fp8e4m3⟩
  | .hbm, ⟨1, _⟩ => ⟨S2x32, .f32⟩
  | .hbm, ⟨2, _⟩ => ⟨S2x16384x8x128, .fp8e4m3⟩
  | .hbm, ⟨3, _⟩ => ⟨S2x8, .f32⟩
  | .hbm, ⟨4, _⟩ => ⟨S2x16384x8x128, .fp8e4m3⟩
  | .hbm, ⟨5, _⟩ => ⟨S2x8x128, .f32⟩
  | .hbm, ⟨6, _⟩ => ⟨S2x32x16384, .f32⟩
  | .hbm, ⟨7, _⟩ => ⟨S2x32x64, .i32⟩
  | .hbm, ⟨8, _⟩ => ⟨S2x16384x32x128, .f32⟩
  | .hbm, ⟨9, _⟩ => ⟨S2x16384x8x128, .f32⟩
  | .hbm, ⟨10, _⟩ => ⟨S2x16384x8x128, .bf16⟩
  | .hbm, ⟨11, _⟩ => ⟨S2x8x4x16384, .f32⟩
  | .hbm, ⟨12, _⟩ => ⟨S2x8x4, .f32⟩
  | .hbm, ⟨13, _⟩ => ⟨S2x8x1, .f32⟩
  | .hbm, ⟨14, _⟩ => ⟨S2x8x4, .f32⟩
  | .hbm, ⟨15, _⟩ => ⟨S2x8x4, .f32⟩
  | .hbm, ⟨16, _⟩ => ⟨S_, .f32⟩
  | .hbm, ⟨17, _⟩ => ⟨S_, .f32⟩
  | .hbm, ⟨18, _⟩ => ⟨S2x8x4, .f32⟩
  | .hbm, ⟨19, _⟩ => ⟨S2x8x4, .f32⟩
  | .hbm, ⟨20, _⟩ => ⟨S2x1x8x1x128, .f32⟩
  | .hbm, ⟨21, _⟩ => ⟨S2x16384x8x4x128, .f32⟩
  | .hbm, ⟨22, _⟩ => ⟨S2x8x16384x16384x4, .f32⟩
  | .hbm, ⟨23, _⟩ => ⟨S2x8x4x16384x16384, .f32⟩
  | .hbm, ⟨24, _⟩ => ⟨S2x8x4x1x1, .f32⟩
  | .hbm, ⟨25, _⟩ => ⟨S2x8x4x16384x16384, .f32⟩
  | .hbm, ⟨26, _⟩ => ⟨S2x8x4x16384x16384, .f32⟩
  | .hbm, ⟨27, _⟩ => ⟨S2x8x4x16384x1, .f32⟩
  | .hbm, ⟨28, _⟩ => ⟨S2x8x4x16384x16384, .f32⟩
  | .hbm, ⟨29, _⟩ => ⟨S2x8x4x16384x16384, .f32⟩
  | .hbm, ⟨30, _⟩ => ⟨S2x8x4x1x16384, .f32⟩
  | .hbm, ⟨31, _⟩ => ⟨S2x8x4x16384x16384, .f32⟩
  | .hbm, ⟨32, _⟩ => ⟨S2x8x4x16384x16384, .f32⟩
  | .hbm, ⟨33, _⟩ => ⟨S16384, .i32⟩
  | .hbm, ⟨34, _⟩ => ⟨S16384x1, .i32⟩
  | .hbm, ⟨35, _⟩ => ⟨S16384, .i32⟩
  | .hbm, ⟨36, _⟩ => ⟨S1x16384, .i32⟩
  | .hbm, ⟨37, _⟩ => ⟨S16384x16384, .i32⟩
  | .hbm, ⟨38, _⟩ => ⟨S16384x16384, .i32⟩
  | .hbm, ⟨39, _⟩ => ⟨S16384x16384, .i1⟩
  | .hbm, ⟨40, _⟩ => ⟨S_, .f32⟩
  | .hbm, ⟨41, _⟩ => ⟨S_, .f32⟩
  | .hbm, ⟨42, _⟩ => ⟨S2x8x4x16384x16384, .i1⟩
  | .hbm, ⟨43, _⟩ => ⟨S2x8x4x16384x16384, .f32⟩
  | .hbm, ⟨44, _⟩ => ⟨S2x8x4x16384x16384, .f32⟩
  | .hbm, ⟨45, _⟩ => ⟨S_, .f32⟩
  | .hbm, ⟨46, _⟩ => ⟨S2x8x4x16384, .f32⟩
  | .hbm, ⟨47, _⟩ => ⟨S2x8x4x16384x1, .f32⟩
  | .hbm, ⟨48, _⟩ => ⟨S2x8x4x16384x16384, .f32⟩
  | .hbm, ⟨49, _⟩ => ⟨S2x8x4x16384x16384, .f32⟩
  | .hbm, ⟨50, _⟩ => ⟨S2x8x4x16384x16384, .f32⟩
  | .hbm, ⟨51, _⟩ => ⟨S_, .f32⟩
  | .hbm, ⟨52, _⟩ => ⟨S2x8x4x16384, .f32⟩
  | .hbm, ⟨53, _⟩ => ⟨S2x8x4x16384x1, .f32⟩
  | .hbm, ⟨54, _⟩ => ⟨S_, .f32⟩
  | .hbm, ⟨55, _⟩ => ⟨S2x8x4x16384x1, .f32⟩
  | .hbm, ⟨56, _⟩ => ⟨S2x8x4x16384x1, .f32⟩
  | .hbm, ⟨57, _⟩ => ⟨S2x8x4x16384x16384, .f32⟩
  | .hbm, ⟨58, _⟩ => ⟨S2x8x4x16384x16384, .f32⟩
  | .hbm, ⟨59, _⟩ => ⟨S2x8x4x16384x1, .f32⟩
  | .hbm, ⟨60, _⟩ => ⟨S2x8x4x16384x1, .f32⟩
  | .hbm, ⟨61, _⟩ => ⟨S2x8x4x16384, .f32⟩
  | .hbm, ⟨62, _⟩ => ⟨S2x8x4x16384x16384, .bf16⟩
  | .hbm, ⟨63, _⟩ => ⟨S2x8x128x4x16384, .f32⟩
  | .hbm, ⟨64, _⟩ => ⟨S2x16384x8x4x128, .f32⟩
  | .hbm, ⟨65, _⟩ => ⟨S2x16384x8x4x128, .f32⟩
  | .hbm, ⟨66, _⟩ => ⟨S2x16384x8x4x128, .f32⟩
  | .hbm, ⟨67, _⟩ => ⟨S2x16384x8x4x128, .bf16⟩
  | .hbm, ⟨68, _⟩ => ⟨S2x16384x4096, .bf16⟩
  | .hbm, ⟨69, _⟩ => ⟨S2x32x1x16384, .f32⟩
  | .local _ .vmem, ⟨0, _⟩ => ⟨S2x16384x32x128, .fp8e4m3⟩
  | .local _ .vmem, ⟨1, _⟩ => ⟨S2x16384x8x128, .fp8e4m3⟩
  | .local _ .vmem, ⟨2, _⟩ => ⟨S2x16384x8x128, .fp8e4m3⟩
  | .local _ .vmem, ⟨3, _⟩ => ⟨S2x16384x32x128, .f32⟩
  | .local _ .vmem, ⟨4, _⟩ => ⟨S2x16384x8x128, .f32⟩
  | .local _ .vmem, ⟨5, _⟩ => ⟨S2x16384x8x128, .bf16⟩
  | _, _ => ⟨S2x16384x32x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x16384x32x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16384x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Gate.lean ====
abbrev S2x16384x4096 : Shape := ⟨3, ![2, 16384, 4096]⟩
abbrev S4096x32 : Shape := ⟨2, ![4096, 32]⟩
abbrev S32 : Shape := ⟨1, ![32]⟩
abbrev S_ : Shape := ⟨0, ![]⟩
abbrev S4096x128 : Shape := ⟨2, ![4096, 128]⟩
abbrev S96 : Shape := ⟨1, ![96]⟩
abbrev S128 : Shape := ⟨1, ![128]⟩
abbrev S1x128 : Shape := ⟨2, ![1, 128]⟩
abbrev S2x16384x32 : Shape := ⟨3, ![2, 16384, 32]⟩
abbrev S2x32x16384 : Shape := ⟨3, ![2, 32, 16384]⟩
abbrev S1x512x4096 : Shape := ⟨3, ![1, 512, 4096]⟩
abbrev S1x512x32 : Shape := ⟨3, ![1, 512, 32]⟩
abbrev S1x32x512 : Shape := ⟨3, ![1, 32, 512]⟩
abbrev S512x4096 : Shape := ⟨2, ![512, 4096]⟩
abbrev S512x128 : Shape := ⟨2, ![512, 128]⟩
abbrev S512x32 : Shape := ⟨2, ![512, 32]⟩
abbrev S512x512 : Shape := ⟨2, ![512, 512]⟩
abbrev S128x512 : Shape := ⟨2, ![128, 512]⟩
abbrev S32x512 : Shape := ⟨2, ![32, 512]⟩

abbrev nBuf : Space → Nat
  | .hbm => 19
  | .vmem => 9
  | .smem => 0
  | _ => 0

abbrev bufTy : (tb : Table) → Fin (tcTables nBuf tb) → BufTy
  | .hbm, ⟨0, _⟩ => ⟨S2x16384x4096, .bf16⟩
  | .hbm, ⟨1, _⟩ => ⟨S4096x32, .f32⟩
  | .hbm, ⟨2, _⟩ => ⟨S32, .f32⟩
  | .hbm, ⟨3, _⟩ => ⟨S4096x32, .bf16⟩
  | .hbm, ⟨4, _⟩ => ⟨S4096x32, .f32⟩
  | .hbm, ⟨5, _⟩ => ⟨S4096x32, .f32⟩
  | .hbm, ⟨6, _⟩ => ⟨S4096x32, .bf16⟩
  | .hbm, ⟨7, _⟩ => ⟨S4096x32, .f32⟩
  | .hbm, ⟨8, _⟩ => ⟨S4096x32, .f32⟩
  | .hbm, ⟨9, _⟩ => ⟨S4096x32, .bf16⟩
  | .hbm, ⟨10, _⟩ => ⟨S_, .bf16⟩
  | .hbm, ⟨11, _⟩ => ⟨S4096x32, .bf16⟩
  | .hbm, ⟨12, _⟩ => ⟨S4096x128, .bf16⟩
  | .hbm, ⟨13, _⟩ => ⟨S_, .f32⟩
  | .hbm, ⟨14, _⟩ => ⟨S96, .f32⟩
  | .hbm, ⟨15, _⟩ => ⟨S128, .f32⟩
  | .hbm, ⟨16, _⟩ => ⟨S1x128, .f32⟩
  | .hbm, ⟨17, _⟩ => ⟨S2x16384x32, .f32⟩
  | .hbm, ⟨18, _⟩ => ⟨S2x32x16384, .f32⟩
  | .local _ .vmem, ⟨0, _⟩ => ⟨S1x512x4096, .bf16⟩
  | .local _ .vmem, ⟨1, _⟩ => ⟨S1x512x4096, .bf16⟩
  | .local _ .vmem, ⟨2, _⟩ => ⟨S4096x128, .bf16⟩
  | .local _ .vmem, ⟨3, _⟩ => ⟨S1x128, .f32⟩
  | .local _ .vmem, ⟨4, _⟩ => ⟨S1x512x32, .f32⟩
  | .local _ .vmem, ⟨5, _⟩ => ⟨S1x512x32, .f32⟩
  | .local _ .vmem, ⟨6, _⟩ => ⟨S1x32x512, .f32⟩
  | .local _ .vmem, ⟨7, _⟩ => ⟨S1x32x512, .f32⟩
  | .local _ .vmem, ⟨8, _⟩ => ⟨S1x128, .f32⟩
  | _, _ => ⟨S2x16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateReferenceIdeal.lean ====
abbrev S2x16384x4096 : Shape := ⟨3, ![2, 16384, 4096]⟩
abbrev S4096x32 : Shape := ⟨2, ![4096, 32]⟩
abbrev S32 : Shape := ⟨1, ![32]⟩
abbrev S2x16384x32 : Shape := ⟨3, ![2, 16384, 32]⟩
abbrev S1x1x32 : Shape := ⟨3, ![1, 1, 32]⟩
abbrev S_ : Shape := ⟨0, ![]⟩
abbrev S2x32x16384 : Shape := ⟨3, ![2, 32, 16384]⟩

abbrev nBuf : Space → Nat
  | .hbm => 28
  | .vmem => 0
  | .smem => 0
  | _ => 0

abbrev bufTy : (tb : Table) → Fin (tcTables nBuf tb) → BufTy
  | .hbm, ⟨0, _⟩ => ⟨S2x16384x4096, .bf16⟩
  | .hbm, ⟨1, _⟩ => ⟨S4096x32, .f32⟩
  | .hbm, ⟨2, _⟩ => ⟨S32, .f32⟩
  | .hbm, ⟨3, _⟩ => ⟨S2x16384x4096, .f32⟩
  | .hbm, ⟨4, _⟩ => ⟨S2x16384x32, .f32⟩
  | .hbm, ⟨5, _⟩ => ⟨S1x1x32, .f32⟩
  | .hbm, ⟨6, _⟩ => ⟨S2x16384x32, .f32⟩
  | .hbm, ⟨7, _⟩ => ⟨S2x16384x32, .f32⟩
  | .hbm, ⟨8, _⟩ => ⟨S2x16384x32, .f32⟩
  | .hbm, ⟨9, _⟩ => ⟨S_, .f32⟩
  | .hbm, ⟨10, _⟩ => ⟨S2x16384x32, .f32⟩
  | .hbm, ⟨11, _⟩ => ⟨S2x16384x32, .f32⟩
  | .hbm, ⟨12, _⟩ => ⟨S2x16384x32, .f32⟩
  | .hbm, ⟨13, _⟩ => ⟨S2x16384x32, .f32⟩
  | .hbm, ⟨14, _⟩ => ⟨S2x16384x32, .i1⟩
  | .hbm, ⟨15, _⟩ => ⟨S2x16384x32, .f32⟩
  | .hbm, ⟨16, _⟩ => ⟨S2x16384x32, .f32⟩
  | .hbm, ⟨17, _⟩ => ⟨S2x16384x32, .f32⟩
  | .hbm, ⟨18, _⟩ => ⟨S2x16384x32, .f32⟩
  | .hbm, ⟨19, _⟩ => ⟨S2x16384x32, .f32⟩
  | .hbm, ⟨20, _⟩ => ⟨S2x16384x32, .f32⟩
  | .hbm, ⟨21, _⟩ => ⟨S2x16384x32, .f32⟩
  | .hbm, ⟨22, _⟩ => ⟨S2x16384x32, .f32⟩
  | .hbm, ⟨23, _⟩ => ⟨S2x16384x32, .f32⟩
  | .hbm, ⟨24, _⟩ => ⟨S_, .f32⟩
  | .hbm, ⟨25, _⟩ => ⟨S_, .f32⟩
  | .hbm, ⟨26, _⟩ => ⟨S2x16384x32, .f32⟩
  | .hbm, ⟨27, _⟩ => ⟨S2x32x16384, .f32⟩
  | _, _ => ⟨S2x16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_call1_call0_cst : Ref sig .tc := ⟨.hbm, 24, rfl⟩
abbrev main_call1_call0_v0 : Ref sig .tc := ⟨.hbm, 25, rfl⟩
abbrev main_v6 : Ref sig .tc := ⟨.hbm, 26, rfl⟩
abbrev main_v7 : Ref sig .tc := ⟨.hbm, 27, rfl⟩

abbrev nD : Nat := 1
abbrev τ : Topo := Topo.v7x

variable {F : FTy → Type} [FloatOps F]
-- ==== Proof.Bits.Fns.lean ====
/- The pure functions of the attention kernel's body: what each of its loops computes, tile by tile, over the contents
   of the blocks that it reads. Nothing here is about execution: `Run.lean` proves that the body computes these. -/
module

public import proofs.«01_k».proof.Proof.Gen.Kernel.Skeleton
public import Idealize.ShloMosaic.Lib.ValueIdxCore

@[expose] public section

noncomputable section

namespace Cert.Kernel.Body

open Idealize.ShloMosaic Idealize.ShloMosaic.ValueIdx Idealize.SL.Sem
open Cert.Kernel.Gen

variable {F : FTy → Type} [FloatOps F]

/-- Rows `256 j … 256 j + 255` of a block of rows (`q`, `k`). -/
def rowsAt {e : EltTy} (x : Vec F S1x1x16384x128 e) (j : ℕ) : Vec F S1x1x256x128 e := fun y =>
  x (ix4 (y 0) (y 1) ⟨(256 * j + (y 2).val) % 16384, Nat.mod_lt _ (by norm_num)⟩ (y 3))

/-- Columns `256 j … 256 j + 255` of the transposed values. -/
def colsAt {e : EltTy} (x : Vec F S1x1x128x16384 e) (j : ℕ) : Vec F S1x1x128x256 e := fun y =>
  x (ix4 (y 0) (y 1) (y 2) ⟨(256 * j + (y 3).val) % 16384, Nat.mod_lt _ (by norm_num)⟩)

/-- Lanes `256 j … 256 j + 255` of the row of cumulative gates. -/
def lanesAt {e : EltTy} (x : Vec F S1x1x1x16384 e) (j : ℕ) : Vec F S1x1x1x256 e := fun y =>
  x (ix4 (y 0) (y 1) (y 2) ⟨(256 * j + (y 3).val) % 16384, Nat.mod_lt _ (by norm_num)⟩)

/-- Lanes `128 j … 128 j + 127` of the row of cumulative gates. -/
def lanes128At {e : EltTy} (x : Vec F S1x1x1x16384 e) (j : ℕ) : Vec F S1x1x1x128 e := fun y =>
  x (ix4 (y 0) (y 1) (y 2) ⟨(128 * j + (y 3).val) % 16384, Nat.mod_lt _ (by norm_num)⟩)

/-- Rows `256 j … 256 j + 255` of the key biases. -/
def biasAt {e : EltTy} (x : Vec F S16384x128 e) (j : ℕ) : Vec F S256x128 e := fun y =>
  x (ix2 ⟨(256 * j + (y 0).val) % 16384, Nat.mod_lt _ (by norm_num)⟩ (y 1))

/-- The key biases that the first loop leaves: row `r` holds the gate of key `r`, in every lane. -/
def bias (x8 : Vec F S1x1x1x16384 .f32) : Vec F S16384x128 .f32 := fun y =>
  k0_pay2 (lanes128At x8 ((y 0).val / 128)) (ix2 ⟨(y 0).val % 128, Nat.mod_lt _ (by norm_num)⟩ (y 1))

theorem trips_t2 : k0_t2_loop.trips = 64 := by decide +kernel

/-- The tiles left of the diagonal, after `n` of them from tile `s` on: the sum of the weights (in eight parts) and
    the weighted sum of the values. -/
def off (a : F .f32) (q : Vec F S1x1x256x128 .fp8e4m3) (b : Elt F .f32) (x6 : Vec F S1x1x16384x128 .fp8e4m3)
    (x7 : Vec F S1x1x128x16384 .fp8e4m3) (cb : Vec F S16384x128 .f32) (s : ℕ) : ℕ → Vec F S8x256 .f32 × Vec F S128x256 .f32
  | 0 => (k0_pay29, k0_pay28)
  | n + 1 => (k0_pay31 a q b (rowsAt x6 (s + n)) (biasAt cb (s + n)) (off a q b x6 x7 cb s n).1,
      k0_pay32 a q b (rowsAt x6 (s + n)) (biasAt cb (s + n)) (off a q b x6 x7 cb s n).2 (colsAt x7 (s + n)))

/-- The row and column numbers of a tile of scores. -/
def keyIota : IVec S256x256 32 := iota .tc S256x256 32 [0] iota_S256x256_d0_w32
def qryIota : IVec S256x256 32 := iota .tc S256x256 32 [1] iota_S256x256_d1_w32

/-- The word of query tile `k`'s first row. -/
def tileWord (k : Fin k0_t2_loop.trips) : BitVec 32 := Scalar.muli (Scf.iv 0#32 1#32 k) 256#32

/-- One step of the running-maximum loop: the maxima, the sums (in eight parts), the weighted values. -/
def onStep (a : F .f32) (k : Fin k0_t2_loop.trips) (q : FVec F S256x128 .fp8e4m3) (ci : FVec F S1x256 .f32)
    (n : Fin (k0_t5_loop k).trips) (xk : Vec F S1x1x256x128 .fp8e4m3) (xc : Vec F S256x128 .f32) (xv : Vec F S1x1x128x256 .fp8e4m3)
    (p : Vec F S1x256 .f32 × Vec F S8x256 .f32 × Vec F S128x256 .f32) : Vec F S1x256 .f32 × Vec F S8x256 .f32 × Vec F S128x256 .f32 :=
  (k0_pay9 a keyIota qryIota k (tileWord k) q ci 0#32 1#32 n xk xc p.1,
    k0_pay20 (k0_pay10 a keyIota qryIota k (tileWord k) q ci 0#32 1#32 n xk xc p.1 p.1 p.2.1),
    k0_pay21 (k0_pay7 a keyIota qryIota k (tileWord k) q ci 0#32 1#32 n xk xc p.1 p.1)
      (k0_pay8 a keyIota qryIota k (tileWord k) q ci 0#32 1#32 n xk xc p.1) p.2.2 xv)

/-- The running-maximum loop's state after `n` tiles. -/
def on (a : F .f32) (k : Fin k0_t2_loop.trips) (q : FVec F S256x128 .fp8e4m3) (ci : FVec F S1x256 .f32)
    (x6 : Vec F S1x1x16384x128 .fp8e4m3) (x7 : Vec F S1x1x128x16384 .fp8e4m3) (cb : Vec F S16384x128 .f32) :
    ℕ → Vec F S1x256 .f32 × Vec F S8x256 .f32 × Vec F S128x256 .f32
  | 0 => (k0_pay19, k0_pay18, k0_pay17)
  | n + 1 => if h : n < (k0_t5_loop k).trips then
      onStep a k q ci ⟨n, h⟩ (rowsAt x6 n) (biasAt cb n) (colsAt x7 n) (on a k q ci x6 x7 cb n)
    else on a k q ci x6 x7 cb n

section tile

variable (a : F .f32) (b : Elt F .f32) (s : BitVec 32) (x5 x6 : Vec F S1x1x16384x128 .fp8e4m3)
  (x7 : Vec F S1x1x128x16384 .fp8e4m3) (x8 : Vec F S1x1x1x16384 .f32) (x9 : Vec F S1x1x1x128 .f32) (k : Fin k0_t2_loop.trips)

/-- The off-diagonal sums of query tile `k`. -/
def offAll : Vec F S8x256 .f32 × Vec F S128x256 .f32 :=
  off a (rowsAt x5 k) b x6 x7 (bias x8) s.toNat (k0_t3_loop k s).trips

/-- The sum of the diagonal tile's weights, of the off-diagonal tiles', of both; the weighted values; part of the test
    of the sums. -/
def ldOf : FVec F S1x256 .f32 := k0_pay37 a keyIota qryIota (k0_pay26 (rowsAt x5 k)) (k0_pay27 (lanesAt x8 k)) (rowsAt x6 k) (biasAt (bias x8) k)
def loOf : FVec F S1x256 .f32 := k0_pay38 (offAll a b s x5 x6 x7 x8 k).1
def lOf : FVec F S1x256 .f32 := k0_pay40 a keyIota qryIota (k0_pay26 (rowsAt x5 k)) (k0_pay27 (lanesAt x8 k)) b (rowsAt x6 k) (biasAt (bias x8) k) (offAll a b s x5 x6 x7 x8 k).1
def oOf : FVec F S128x256 .f32 := k0_pay41 a keyIota qryIota (k0_pay26 (rowsAt x5 k)) (k0_pay27 (lanesAt x8 k)) b (rowsAt x6 k) (biasAt (bias x8) k) (colsAt x7 k) (offAll a b s x5 x6 x7 x8 k).2
def okOf : IVec S1x256 1 := k0_pay42 a keyIota qryIota (k0_pay26 (rowsAt x5 k)) (k0_pay27 (lanesAt x8 k)) (rowsAt x6 k) (biasAt (bias x8) k)

/-- The word that says that some row's sums failed the test. -/
def badWord : BitVec 1 := Scalar.cmpi .ne (Scalar.extui (Scalar.cmpf .ogt (k0_pay43 (ldOf a x5 x6 x8 k) (loOf a b s x5 x6 x7 x8 k) (okOf a x5 x6 x8 k) (Scalar.ofBits .f32 0x71800000#32 : F .f32))
  (Scalar.ofBits .f32 0x00000000#32 : F .f32)) : BitVec 32) 0#32

/-- The running-maximum loop's final state of query tile `k`. -/
def onAll : Vec F S1x256 .f32 × Vec F S8x256 .f32 × Vec F S128x256 .f32 :=
  on a k (k0_pay26 (rowsAt x5 k)) (k0_pay27 (lanesAt x8 k)) x6 x7 (bias x8) (k0_t5_loop k).trips

/-- Query tile `k` of the two results. -/
def oTile : FVec F S1x256x128 .bf16 :=
  if badWord a b s x5 x6 x7 x8 k = 1#1 then k0_pay3 (k0_pay25 (onAll a x5 x6 x7 x8 k).2.2 (onAll a x5 x6 x7 x8 k).2.1) x9
  else k0_pay44 (lOf a b s x5 x6 x7 x8 k) (oOf a b s x5 x6 x7 x8 k) x9
def lseTile : FVec F S1x1x1x256 .f32 :=
  if badWord a b s x5 x6 x7 x8 k = 1#1 then k0_pay4 (k0_pay24 (onAll a x5 x6 x7 x8 k).2.1) (onAll a x5 x6 x7 x8 k).1
  else k0_pay45 (lOf a b s x5 x6 x7 x8 k)

end tile

section point

variable (i : grid0.Coords) (x2 : Vec F S4096 .i32) (x3 : Vec F S64 .f32) (x4 : Vec F S4096 .f32) (x5 x6 : Vec F S1x1x16384x128 .fp8e4m3)
  (x7 : Vec F S1x1x128x16384 .fp8e4m3) (x8 : Vec F S1x1x1x16384 .f32) (x9 : Vec F S1x1x1x128 .f32)

/-- The scale of grid point `i`; the first tile and the base of its query tile `k`. -/
def scaleOf : F .f32 := k0_pay1 (x3 (ix1 ⟨(32 * (i 0).val + (i 1).val) % 64, Nat.mod_lt _ (by norm_num)⟩))
def startOf (k : ℕ) : BitVec 32 := x2 (ix1 ⟨(2048 * (i 0).val + 64 * (i 1).val + k) % 4096, Nat.mod_lt _ (by norm_num)⟩)
def baseOf (k : ℕ) : F .f32 := x4 (ix1 ⟨(2048 * (i 0).val + 64 * (i 1).val + k) % 4096, Nat.mod_lt _ (by norm_num)⟩)

/-- The two result blocks of grid point `i`. -/
def oBlock : FVec F S1x16384x128 .bf16 := fun y =>
  oTile (scaleOf i x3) (baseOf i x4 ((y 1).val / 256)) (startOf i x2 ((y 1).val / 256)) x5 x6 x7 x8 x9
    ⟨(y 1).val / 256, by rw [trips_t2]; have : (y 1).val < 16384 := (y 1).isLt; omega⟩
    (ix3 (y 0) ⟨(y 1).val % 256, Nat.mod_lt _ (by norm_num)⟩ (y 2))
def lseBlock : FVec F S1x1x1x16384 .f32 := fun y =>
  lseTile (scaleOf i x3) (baseOf i x4 ((y 3).val / 256)) (startOf i x2 ((y 3).val / 256)) x5 x6 x7 x8
    ⟨(y 3).val / 256, by rw [trips_t2]; have : (y 3).val < 16384 := (y 3).isLt; omega⟩
    (ix4 (y 0) (y 1) (y 2) ⟨(y 3).val % 256, Nat.mod_lt _ (by norm_num)⟩)

end point

end Cert.Kernel.Body

end
-- ==== Proof.Bits.Trips.lean ====
/- What the word that names a query tile's first key tile decides: the number of trips of the loop over the tiles left
   of the diagonal, the tile that each trip reads, and the condition that the body assumes of the word. -/
module

public import proofs.«01_k».proof.Proof.Bits.Fns
public import Idealize.ShloMosaic.Lib.Affine

@[expose] public section

namespace Cert.Kernel.Body

open Idealize.ShloMosaic Idealize.SL.Sem
open Cert.Kernel.Gen

/-- A query tile's number is below 64. -/
theorem tile_lt (k : Fin k0_t2_loop.trips) : k.val < 64 := lt_of_lt_of_eq k.isLt trips_t2

/-- The query tile's number as a word. -/
theorem tile_isInt (k : Fin k0_t2_loop.trips) : Affine.IsInt (Scf.iv 0#32 1#32 k) (k.val : Int) :=
  Affine.iv (Affine.ofNat (e := 0) 0 (by omega)) (Affine.ofNat (e := 1) 1 (by omega)) k.val (by have := tile_lt k; omega)

section word

variable (k : Fin k0_t2_loop.trips) (s : BitVec 32) (hs : 0 ≤ s.toInt)

include hs

/-- A nonnegative word reads the same signed and unsigned. -/
theorem word_isInt : Affine.IsInt s (s.toNat : Int) := by
  have h := Affine.word s
  exact Affine.relit h (Affine.toNat_of h hs).symm

theorem word_lt : (s.toNat : Int) < 2 ^ 31 := by
  have h := Affine.toNat_of (Affine.word s) hs
  have := (Affine.word_range s).2
  omega

/-- The loop's upper bound is the query tile. -/
theorem ub_isInt : Affine.IsInt (k0_t3_loop k s).ub (k.val : Int) := by
  have hk := tile_lt k
  have hw := word_lt s hs
  have h1 : Affine.IsInt 1#32 (1) := Affine.ofNat _ (by omega)
  have h35 : Affine.IsInt _ ((k.val : Int) - s.toNat) := Affine.subi (tile_isInt k) (word_isInt s hs) (by omega)
  have h37 : Affine.IsInt _ ((k.val : Int) - s.toNat) := Affine.divsi_one h35 h1 (by omega)
  have h38 : Affine.IsInt _ ((k.val : Int) - s.toNat) := Affine.muli h37 h1 (by omega)
  exact Affine.addi (word_isInt s hs) h38 (by omega)

/-- The loop over the tiles left of the diagonal runs over the tiles `s … k - 1`. -/
theorem trips_t3 : (k0_t3_loop k s).trips = k.val - s.toNat := by
  have h1 : Affine.IsInt 1#32 (1) := Affine.ofNat _ (by omega)
  have hk := tile_lt k
  have hw := word_lt s hs
  rcases Nat.lt_or_ge k.val s.toNat with h | h
  · have : (k0_t3_loop k s).trips ≤ 0 := Affine.trips_le (word_isInt s hs) (ub_isInt k s hs) h1 0 ⟨by omega, by rw [Int.ediv_one]; omega⟩
    omega
  · exact Affine.trips_eq (word_isInt s hs) (ub_isInt k s hs) h1 _ ⟨by omega, by rw [Int.ediv_one]; omega⟩

theorem ok_t3 : (k0_t3_loop k s).OK := by
  have hk := tile_lt k
  have hw := word_lt s hs
  exact Affine.ok (word_isInt s hs) (ub_isInt k s hs) (Affine.ofNat (e := 1) 1 (by omega)) ⟨by omega, by rw [Int.ediv_one]; omega⟩

/-- Its trip `n` is at tile `s + n`, before the query tile. -/
theorem tile_t3 (n : Fin (k0_t3_loop k s).trips) : s.toNat + n.val < k.val := by
  have := lt_of_lt_of_eq n.isLt (trips_t3 k s hs); omega

theorem iv_t3 (n : Fin (k0_t3_loop k s).trips) : Affine.IsInt (Scalar.muli (Scf.iv s 1#32 n) 256#32) (256 * ((s.toNat + n.val : ℕ) : Int)) := by
  have hk := tile_lt k
  have hn := tile_t3 k s hs n
  exact Affine.muli (Affine.iv (e := ((s.toNat + n.val : ℕ) : Int)) (word_isInt s hs) (Affine.ofNat (e := 1) 1 (by omega)) n.val (by push_cast; omega))
    (Affine.ofNat (e := 256) 256 (by omega)) (by omega)

theorem off7_eq (n : Fin (k0_t3_loop k s).trips) : k0_off7 k s n = ![0, 0, 256 * (s.toNat + n.val), 0] :=
  Affine.vec_cons (Affine.ofNat 0 (by omega) : Affine.IsInt 0#32 0) (by omega) <| Affine.vec_cons (Affine.ofNat 0 (by omega) : Affine.IsInt 0#32 0) (by omega) <|
    Affine.vec_cons (Affine.indexCast (iv_t3 k s hs n)) (by push_cast; omega) rfl
theorem off8_eq (n : Fin (k0_t3_loop k s).trips) : k0_off8 k s n = ![256 * (s.toNat + n.val), 0] :=
  Affine.vec_cons (Affine.indexCast (iv_t3 k s hs n)) (by push_cast; omega) rfl
theorem off9_eq (n : Fin (k0_t3_loop k s).trips) : k0_off9 k s n = ![0, 0, 0, 256 * (s.toNat + n.val)] :=
  Affine.vec_cons (Affine.ofNat 0 (by omega) : Affine.IsInt 0#32 0) (by omega) <| Affine.vec_cons (Affine.ofNat 0 (by omega) : Affine.IsInt 0#32 0) (by omega) <|
    Affine.vec_cons (Affine.ofNat 0 (by omega) : Affine.IsInt 0#32 0) (by omega) <| Affine.vec_cons (Affine.indexCast (iv_t3 k s hs n)) (by push_cast; omega) rfl

/-- The remainder loop after it has no trips. -/
theorem trips_t4 : (k0_t4_loop k s).trips = 0 := by
  have h1 : Affine.IsInt 1#32 (1) := Affine.ofNat _ (by omega)
  have hk := tile_lt k
  have hw := word_lt s hs
  have h35 : Affine.IsInt _ ((k.val : Int) - s.toNat) := Affine.subi (tile_isInt k) (word_isInt s hs) (by omega)
  have hub : Affine.IsInt (k0_t4_loop k s).ub (k.val : Int) := Affine.addi (word_isInt s hs) h35 (by omega)
  have : (k0_t4_loop k s).trips ≤ 0 := Affine.trips_le (ub_isInt k s hs) hub h1 0 ⟨by omega, by rw [Int.ediv_one]; omega⟩
  omega

theorem ok_t4 : (k0_t4_loop k s).OK := by
  have h1 : Affine.IsInt 1#32 (1) := Affine.ofNat _ (by omega)
  have hk := tile_lt k
  have hw := word_lt s hs
  have h35 : Affine.IsInt _ ((k.val : Int) - s.toNat) := Affine.subi (tile_isInt k) (word_isInt s hs) (by omega)
  have hub : Affine.IsInt (k0_t4_loop k s).ub (k.val : Int) := Affine.addi (word_isInt s hs) h35 (by omega)
  exact Affine.ok (ub_isInt k s hs) hub h1 ⟨by omega, by rw [Int.ediv_one]; omega⟩

theorem no_t4 (n : Fin (k0_t4_loop k s).trips) : False := by
  have := lt_of_lt_of_eq n.isLt (trips_t4 k s hs); omega

/-- What the body assumes of the word holds of every nonnegative one. -/
theorem chk1 : k0_chk1 k s := by
  have hk := tile_lt k
  refine ⟨ok_t3 k s hs, fun n => ?_, fun n => ?_, fun n => ?_, fun n => ?_, ok_t4 k s hs,
    fun n => (no_t4 k s hs n).elim, fun n => (no_t4 k s hs n).elim, fun n => (no_t4 k s hs n).elim, fun n => (no_t4 k s hs n).elim⟩
  · exact Affine.dvd_of (iv_t3 k s hs n) 256 ⟨⟨_, rfl⟩, by positivity⟩
  all_goals have hn := tile_t3 k s hs n
  · rw [off7_eq k s hs n]; intro a; fin_cases a <;> simp [S1x1x256x128, S1x1x16384x128] <;> omega
  · rw [off8_eq k s hs n]; intro a; fin_cases a <;> simp [S256x128, S16384x128] <;> omega
  · rw [off9_eq k s hs n]; intro a; fin_cases a <;> simp [S1x1x128x256, S1x1x128x16384] <;> omega

end word

/-- The running-maximum loop of query tile `k` runs over the tiles `0 … k`. -/
theorem trips_t5 : ∀ k : Fin k0_t2_loop.trips, (k0_t5_loop k).trips = k.val + 1 := by decide +kernel

/-- The remainder loop after it has no trips. -/
theorem no_t6 (k : Fin k0_t2_loop.trips) (n : Fin (k0_t6_loop k).trips) : False :=
  absurd n.isLt (Nat.not_lt.2 (Nat.le_trans (k0_t6_abs k).2.1 (Nat.zero_le _)))

end Cert.Kernel.Body

end
-- ==== Proof.Bits.LoopOff.lean ====
/- The loop over the key tiles left of the diagonal. -/
module

public import proofs.«01_k».proof.Proof.Bits.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow

@[expose] public section

set_option maxRecDepth 8192

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

/-- The tiles that a trip's loads read. -/
theorem ld_rows {e : EltTy} (x : Vec F S1x1x16384x128 e) (j : ℕ) (hj : j < 64) {off : Fin 4 → ℕ}
    (inb : ∀ a, off a + S1x1x256x128.size a ≤ S1x1x16384x128.size a) (ho : off = ![0, 0, 256 * j, 0]) :
    View.ld (Val := Elt F) x (Rect.unit (s := S1x1x16384x128) off S1x1x256x128.size inb) = rowsAt x j := by
  subst ho
  funext y
  have h : (y 2).val < 256 := (y 2).isLt
  refine View.ld_unit_apply_of x _ _ inb y _ fun a => ?_
  fin_cases a
  · show (y 0).val = 0 + (y 0).val; omega
  · show (y 1).val = 0 + (y 1).val; omega
  · show (256 * j + (y 2).val) % 16384 = 256 * j + (y 2).val; omega
  · show (y 3).val = 0 + (y 3).val; omega

theorem ld_cols {e : EltTy} (x : Vec F S1x1x128x16384 e) (j : ℕ) (hj : j < 64) {off : Fin 4 → ℕ}
    (inb : ∀ a, off a + S1x1x128x256.size a ≤ S1x1x128x16384.size a) (ho : off = ![0, 0, 0, 256 * j]) :
    View.ld (Val := Elt F) x (Rect.unit (s := S1x1x128x16384) off S1x1x128x256.size inb) = colsAt x j := by
  subst ho
  funext y
  have h : (y 3).val < 256 := (y 3).isLt
  refine View.ld_unit_apply_of x _ _ inb y _ fun a => ?_
  fin_cases a
  · show (y 0).val = 0 + (y 0).val; omega
  · show (y 1).val = 0 + (y 1).val; omega
  · show (y 2).val = 0 + (y 2).val; omega
  · show (256 * j + (y 3).val) % 16384 = 256 * j + (y 3).val; omega

theorem ld_lanes {e : EltTy} (x : Vec F S1x1x1x16384 e) (j : ℕ) (hj : j < 64) {off : Fin 4 → ℕ}
    (inb : ∀ a, off a + S1x1x1x256.size a ≤ S1x1x1x16384.size a) (ho : off = ![0, 0, 0, 256 * j]) :
    View.ld (Val := Elt F) x (Rect.unit (s := S1x1x1x16384) off S1x1x1x256.size inb) = lanesAt x j := by
  subst ho
  funext y
  have h : (y 3).val < 256 := (y 3).isLt
  refine View.ld_unit_apply_of x _ _ inb y _ fun a => ?_
  fin_cases a
  · show (y 0).val = 0 + (y 0).val; omega
  · show (y 1).val = 0 + (y 1).val; omega
  · show (y 2).val = 0 + (y 2).val; omega
  · show (256 * j + (y 3).val) % 16384 = 256 * j + (y 3).val; omega

theorem ld_bias {e : EltTy} (x : Vec F S16384x128 e) (j : ℕ) (hj : j < 64) {off : Fin 2 → ℕ}
    (inb : ∀ a, off a + S256x128.size a ≤ S16384x128.size a) (ho : off = ![256 * j, 0]) :
    View.ld (Val := Elt F) x (Rect.unit (s := S16384x128) off S256x128.size inb) = biasAt x j := by
  subst ho
  funext y
  have h : (y 0).val < 256 := (y 0).isLt
  refine View.ld_unit_apply_of x _ _ inb y _ fun a => ?_
  fin_cases a
  · show (256 * j + (y 0).val) % 16384 = 256 * j + (y 0).val; omega
  · show (y 1).val = 0 + (y 1).val; omega

/-- A load of a whole buffer reads its contents. -/
theorem ld_full {e : EltTy} {S : Shape} (x : S.Idx → Elt F e) {off : Fin S.rank → ℕ} (inb : ∀ a, off a + S.size a ≤ S.size a) :
    View.ld (Val := Elt F) x (Rect.unit (s := S) off S.size inb) = x := by
  funext y
  refine View.ld_unit_apply_of x _ _ inb y _ fun a => ?_
  have := inb a; show (y a).val = off a + (y a).val; omega

variable (𝒱 : Variants) (c : Dev nD) (bd : Option 𝒱.V) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

set_option maxHeartbeats 1000000 in
/-- One trip of the loop over the tiles left of the diagonal. -/
theorem trip_t3 (E : Set ℕ) (v1 : BitVec 32) (a : F .f32) (k : Fin k0_t2_loop.trips) (q : Vec F S1x1x256x128 .fp8e4m3) (b : Elt F .f32)
    (s : Elt F .i32) (hs : (0 : ℤ) ≤ BitVec.toInt s) (hw : k0_chk1 k s) (X6 : BufTy.Contents (Elt F) arg6.view.ty) (X7 : BufTy.Contents (Elt F) arg7.view.ty) (X12 : BufTy.Contents (Elt F) arg12.view.ty) (f13 : BufTy.Contents (Elt F) arg13.view.ty) (f14 : BufTy.Contents (Elt F) arg14.view.ty)
    (n : Fin (k0_t3_loop k s).trips) (acc : BitVec 32)
    (h14 : (arg14.view.read (Elt F) f14) = (off a q b (arg6.view.read (Elt F) X6) (arg7.view.read (Elt F) X7) (arg12.view.read (Elt F) X12) (BitVec.toNat s) n.val).1)
    (h13 : (arg13.view.read (Elt F) f13) = (off a q b (arg6.view.read (Elt F) X6) (arg7.view.read (Elt F) X7) (arg12.view.read (Elt F) X12) (BitVec.toNat s) n.val).2) :
    (iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v1 a 0#32 1#32 k q b s hw n acc)
          fun _ => iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ ∃ f g, (arg13.view.loc (c : Thread nD τ) ↦[arg13.view.set]{fullShare} f) ∗ (arg14.view.loc (c : Thread nD τ) ↦[arg14.view.set]{fullShare} g) ∗
            ⌜(arg14.view.read (Elt F) g) = (off a q b (arg6.view.read (Elt F) X6) (arg7.view.read (Elt F) X7) (arg12.view.read (Elt F) X12) (BitVec.toNat s) (n.val + 1)).1
              ∧ (arg13.view.read (Elt F) f) = (off a q b (arg6.view.read (Elt F) X6) (arg7.view.read (Elt F) X7) (arg12.view.read (Elt F) X12) (BitVec.toNat s) (n.val + 1)).2⌝) := by
  have hk := tile_lt k
  have hn := tile_t3 k s hs n
  have o7 : ClosedOff (k0_off7 k s n) := ⟨_, off7_eq k s hs n⟩
  have o8 : ClosedOff (k0_off8 k s n) := ⟨_, off8_eq k s hs n⟩
  have o9 : ClosedOff (k0_off9 k s n) := ⟨_, off9_eq k s hs n⟩
  have e6 := ld_rows (arg6.view.read (Elt F) X6) (BitVec.toNat s + n.val) (by omega) (k0_off7_inb k s hw n) (off7_eq k s hs n)
  have e12 := ld_bias (arg12.view.read (Elt F) X12) (BitVec.toNat s + n.val) (by omega) (k0_off8_inb k s hw n) (off8_eq k s hs n)
  have e7 := ld_cols (arg7.view.read (Elt F) X7) (BitVec.toNat s + n.val) (by omega) (k0_off9_inb k s hw n) (off9_eq k s hs n)
  unfold k0_t3_body
  iintro ⟨H6, H7, H12, H13, H14⟩
  sl_exec
  sl_step
  isplitl [H6]; · iexact H6
  isplitl [H7]; · iexact H7
  isplitl [H12]; · iexact H12
  iexists _, _; isplitl [H13]; · iexact H13
  isplitl [H14]; · iexact H14
  ipureintro
  refine ⟨?_, ?_⟩
  · rw [off, View.read_writes_full, View.readAt_eq_ld, ld_full, h14]
  · rw [off, View.read_writes_full, View.readAt_eq_ld, ld_full, h13]

end Cert.Kernel.Body

end
-- ==== Proof.Bits.LoopOn.lean ====
/- The loop over all key tiles up to the diagonal, with the running maximum. -/
module

public import proofs.«01_k».proof.Proof.Bits.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow
public import proofs.«01_k».proof.Proof.Bits.LoopOff

@[expose] public section

set_option maxRecDepth 8192

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

variable (𝒱 : Variants) (c : Dev nD) (bd : Option 𝒱.V) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

set_option maxHeartbeats 1000000 in
/-- One trip of the running-maximum loop. -/
theorem trip_t5 (E : Set ℕ) (a : F .f32) (k : Fin k0_t2_loop.trips) (arg16 : BitVec 32) (q : FVec F S256x128 .fp8e4m3) (ci : FVec F S1x256 .f32)
    (X6 : BufTy.Contents (Elt F) arg6.view.ty) (X7 : BufTy.Contents (Elt F) arg7.view.ty) (X12 : BufTy.Contents (Elt F) arg12.view.ty) (f13 : BufTy.Contents (Elt F) arg13.view.ty) (f14 : BufTy.Contents (Elt F) arg14.view.ty) (f15 : BufTy.Contents (Elt F) arg15.view.ty)
    (n : Fin (k0_t5_loop k).trips) (acc : BitVec 32)
    (h15 : (arg15.view.read (Elt F) f15) = (on a k q ci (arg6.view.read (Elt F) X6) (arg7.view.read (Elt F) X7) (arg12.view.read (Elt F) X12) n.val).1)
    (h14 : (arg14.view.read (Elt F) f14) = (on a k q ci (arg6.view.read (Elt F) X6) (arg7.view.read (Elt F) X7) (arg12.view.read (Elt F) X12) n.val).2.1)
    (h13 : (arg13.view.read (Elt F) f13) = (on a k q ci (arg6.view.read (Elt F) X6) (arg7.view.read (Elt F) X7) (arg12.view.read (Elt F) X12) n.val).2.2) :
    (iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 a keyIota qryIota k arg16 (tileWord k) q ci n acc)
          fun _ => iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ ∃ f g h, (arg13.view.loc (c : Thread nD τ) ↦[arg13.view.set]{fullShare} f) ∗ (arg14.view.loc (c : Thread nD τ) ↦[arg14.view.set]{fullShare} g) ∗ (arg15.view.loc (c : Thread nD τ) ↦[arg15.view.set]{fullShare} h) ∗
            ⌜(arg15.view.read (Elt F) h) = (on a k q ci (arg6.view.read (Elt F) X6) (arg7.view.read (Elt F) X7) (arg12.view.read (Elt F) X12) (n.val + 1)).1
              ∧ (arg14.view.read (Elt F) g) = (on a k q ci (arg6.view.read (Elt F) X6) (arg7.view.read (Elt F) X7) (arg12.view.read (Elt F) X12) (n.val + 1)).2.1
              ∧ (arg13.view.read (Elt F) f) = (on a k q ci (arg6.view.read (Elt F) X6) (arg7.view.read (Elt F) X7) (arg12.view.read (Elt F) X12) (n.val + 1)).2.2⌝) := by
  have hk := tile_lt k
  have hn : n.val < 64 := by have := lt_of_lt_of_eq n.isLt (trips_t5 k); omega
  have e6 := ld_rows (arg6.view.read (Elt F) X6) n.val hn (k0_off18_inb k n) (k0_off18_eq k n)
  have e12 := ld_bias (arg12.view.read (Elt F) X12) n.val hn (k0_off19_inb k n) (k0_off19_eq k n)
  have e7 := ld_cols (arg7.view.read (Elt F) X7) n.val hn (k0_off20_inb k n) (k0_off20_eq k n)
  have es : (on a k q ci (arg6.view.read (Elt F) X6) (arg7.view.read (Elt F) X7) (arg12.view.read (Elt F) X12) (n.val + 1)) = onStep a k q ci n (rowsAt (arg6.view.read (Elt F) X6) n.val) (biasAt (arg12.view.read (Elt F) X12) n.val) (colsAt (arg7.view.read (Elt F) X7) n.val) (on a k q ci (arg6.view.read (Elt F) X6) (arg7.view.read (Elt F) X7) (arg12.view.read (Elt F) X12) n.val) := by
    rw [on]; exact dif_pos n.isLt
  have r13 : View.readAt (Elt F) arg13.view (Rect.unit (s := S128x256) ![0, 0] S128x256.size inb_S128x256_S128x256_0_0).toLoadRect f13 = _ :=
    (ld_full (arg13.view.read (Elt F) f13) inb_S128x256_S128x256_0_0).trans h13
  have r14 : View.readAt (Elt F) arg14.view (Rect.unit (s := S8x256) ![0, 0] S8x256.size inb_S8x256_S8x256_0_0).toLoadRect f14 = _ :=
    (ld_full (arg14.view.read (Elt F) f14) inb_S8x256_S8x256_0_0).trans h14
  have r15 : View.readAt (Elt F) arg15.view (Rect.unit (s := S1x256) ![0, 0] S1x256.size inb_S1x256_S1x256_0_0).toLoadRect f15 = _ :=
    (ld_full (arg15.view.read (Elt F) f15) inb_S1x256_S1x256_0_0).trans h15
  rw [es]
  unfold k0_t5_body
  simp only [k0_part1_eq_skeleton]
  unfold k0_part1_skel
  iintro ⟨H6, H7, H12, H13, H14, H15⟩
  sl_exec
  sl_step
  isplitl [H6]; · iexact H6
  isplitl [H7]; · iexact H7
  isplitl [H12]; · iexact H12
  iexists _, _, _; isplitl [H13]; · iexact H13
  isplitl [H14]; · iexact H14
  isplitl [H15]; · iexact H15
  ipureintro
  refine ⟨?_, ?_, ?_⟩
  all_goals exact (View.read_writes_full _ _ _ _ _).trans rfl

end Cert.Kernel.Body

end
-- ==== Proof.Bits.Tile.lean ====
/- One trip of the loop over the query tiles. -/
module

public import proofs.«01_k».proof.Proof.Bits.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow
public import proofs.«01_k».proof.Proof.Bits.LoopOn

@[expose] public section

set_option maxRecDepth 8192

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

/-- A load of one word of a table. -/
theorem ld_word {e : EltTy} (x : Vec F S4096 e) (n : ℕ) (hn : n < 4096) {off : Fin 1 → ℕ}
    (inb : ∀ a, off a + S1.size a ≤ S4096.size a) (ho : off = ![n]) (y : S1.Idx) :
    View.ld (Val := Elt F) x (Rect.unit (s := S4096) off S1.size inb) y = x (ix1 ⟨n % 4096, Nat.mod_lt _ (by norm_num)⟩) := by
  subst ho
  have h : (y 0).val < 1 := (y 0).isLt
  refine View.ld_unit_apply_of x _ _ inb y _ fun a => ?_
  fin_cases a
  show n % 4096 = n + (y 0).val; omega

/-- Storing query tile `k` of the first result over a buffer that holds the tiles before it. -/
theorem o_step (v : View sig .tc .vmem S1x16384x128 .bf16) (f : v.ty.Contents (Elt F)) (Z : FVec F S1x16384x128 .bf16)
    (k : ℕ) (hk : k < 64) {off : Fin 3 → ℕ} (inb : ∀ a, off a + S1x256x128.size a ≤ S1x16384x128.size a) (ho : off = ![0, 256 * k, 0])
    (w : FVec F S1x256x128 .bf16)
    (hZ : ∀ y : S1x16384x128.Idx, (y 1).val / 256 = k → Z y = w (ix3 (y 0) ⟨(y 1).val % 256, Nat.mod_lt _ (by norm_num)⟩ (y 2)))
    (L : List (View.Piece (Elt F) S1x16384x128 .bf16))
    (hf : ∀ y : S1x16384x128.Idx, (y 1).val < 256 * k → v.read (Elt F) (v.writes (Elt F) f L) y = Z y) :
    ∀ y : S1x16384x128.Idx, (y 1).val < 256 * (k + 1) →
      v.read (Elt F) (v.writes (Elt F) f (⟨Rect.unit (s := S1x16384x128) off S1x256x128.size inb, w⟩ :: L)) y = Z y := by
  intro y hy
  by_cases h : (y 1).val < 256 * k
  · rw [View.read_writes_cons_unit_of_not_mem v f inb w L y ho (1 : Fin 3) (.inl h)]
    exact hf y h
  · have hd : (y 1).val / 256 = k := by omega
    have hx0 : (y 1).val % 256 < 256 := Nat.mod_lt _ (by norm_num)
    rw [View.read_writes_cons_unit_of_mem v f inb w L y (ix3 (n0 := 1) (n1 := 256) (n2 := 128) (y 0) ⟨(y 1).val % 256, hx0⟩ (y 2)) ho
      (by
        intro a; fin_cases a
        · show (y 0).val = 0 + (y 0).val; omega
        · show (y 1).val = 256 * k + (y 1).val % 256; omega
        · show (y 2).val = 0 + (y 2).val; omega)]
    exact (hZ y hd).symm

/-- Such a store leaves the tiles before it as they were. -/
theorem o_keep (v : View sig .tc .vmem S1x16384x128 .bf16) (f : v.ty.Contents (Elt F)) (Z : FVec F S1x16384x128 .bf16)
    (k : ℕ) {off : Fin 3 → ℕ} (inb : ∀ a, off a + S1x256x128.size a ≤ S1x16384x128.size a) (ho : off = ![0, 256 * k, 0])
    (w : FVec F S1x256x128 .bf16)
    (hf : ∀ y : S1x16384x128.Idx, (y 1).val < 256 * k → v.read (Elt F) f y = Z y) :
    ∀ y : S1x16384x128.Idx, (y 1).val < 256 * k →
      v.read (Elt F) (v.writes (Elt F) f [⟨Rect.unit (s := S1x16384x128) off S1x256x128.size inb, w⟩]) y = Z y := by
  intro y hy
  rw [View.read_writes_cons_unit_of_not_mem v f inb w [] y ho (1 : Fin 3) (.inl hy)]
  exact hf y hy

/-- The same of the second result. -/
theorem lse_step (v : View sig .tc .vmem S1x1x1x16384 .f32) (f : v.ty.Contents (Elt F)) (Z : FVec F S1x1x1x16384 .f32)
    (k : ℕ) (hk : k < 64) {off : Fin 4 → ℕ} (inb : ∀ a, off a + S1x1x1x256.size a ≤ S1x1x1x16384.size a) (ho : off = ![0, 0, 0, 256 * k])
    (w : FVec F S1x1x1x256 .f32)
    (hZ : ∀ y : S1x1x1x16384.Idx, (y 3).val / 256 = k → Z y = w (ix4 (y 0) (y 1) (y 2) ⟨(y 3).val % 256, Nat.mod_lt _ (by norm_num)⟩))
    (L : List (View.Piece (Elt F) S1x1x1x16384 .f32))
    (hf : ∀ y : S1x1x1x16384.Idx, (y 3).val < 256 * k → v.read (Elt F) (v.writes (Elt F) f L) y = Z y) :
    ∀ y : S1x1x1x16384.Idx, (y 3).val < 256 * (k + 1) →
      v.read (Elt F) (v.writes (Elt F) f (⟨Rect.unit (s := S1x1x1x16384) off S1x1x1x256.size inb, w⟩ :: L)) y = Z y := by
  intro y hy
  by_cases h : (y 3).val < 256 * k
  · rw [View.read_writes_cons_unit_of_not_mem v f inb w L y ho (3 : Fin 4) (.inl h)]
    exact hf y h
  · have hd : (y 3).val / 256 = k := by omega
    have hx0 : (y 3).val % 256 < 256 := Nat.mod_lt _ (by norm_num)
    rw [View.read_writes_cons_unit_of_mem v f inb w L y (ix4 (n0 := 1) (n1 := 1) (n2 := 1) (n3 := 256) (y 0) (y 1) (y 2) ⟨(y 3).val % 256, hx0⟩) ho
      (by
        intro a; fin_cases a
        · show (y 0).val = 0 + (y 0).val; omega
        · show (y 1).val = 0 + (y 1).val; omega
        · show (y 2).val = 0 + (y 2).val; omega
        · show (y 3).val = 256 * k + (y 3).val % 256; omega)]
    exact (hZ y hd).symm

/-- Such a store leaves the tiles before it as they were. -/
theorem lse_keep (v : View sig .tc .vmem S1x1x1x16384 .f32) (f : v.ty.Contents (Elt F)) (Z : FVec F S1x1x1x16384 .f32)
    (k : ℕ) {off : Fin 4 → ℕ} (inb : ∀ a, off a + S1x1x1x256.size a ≤ S1x1x1x16384.size a) (ho : off = ![0, 0, 0, 256 * k])
    (w : FVec F S1x1x1x256 .f32)
    (hf : ∀ y : S1x1x1x16384.Idx, (y 3).val < 256 * k → v.read (Elt F) f y = Z y) :
    ∀ y : S1x1x1x16384.Idx, (y 3).val < 256 * k →
      v.read (Elt F) (v.writes (Elt F) f [⟨Rect.unit (s := S1x1x1x16384) off S1x1x1x256.size inb, w⟩]) y = Z y := by
  intro y hy
  rw [View.read_writes_cons_unit_of_not_mem v f inb w [] y ho (3 : Fin 4) (.inl hy)]
  exact hf y hy

/-- What the loop over the tiles left of the diagonal keeps: the sums of the tiles so far. -/
def offInv (c : Dev nD) (arg6 : Memref sig .tc .vmem S1x1x16384x128 .fp8e4m3)  (arg7 : Memref sig .tc .vmem S1x1x128x16384 .fp8e4m3)  (arg12 : Memref sig .tc .vmem S16384x128 .f32)  (arg13 : Memref sig .tc .vmem S128x256 .f32)  (arg14 : Memref sig .tc .vmem S8x256 .f32) (a : F .f32) (q : Vec F S1x1x256x128 .fp8e4m3) (b : Elt F .f32) (s : BitVec 32)
    (X6 : BufTy.Contents (Elt F) arg6.view.ty) (X7 : BufTy.Contents (Elt F) arg7.view.ty) (X12 : BufTy.Contents (Elt F) arg12.view.ty) (n : ℕ) (_ : BitVec 32) : sProp 𝕄 :=
  iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ ∃ f g, (arg13.view.loc (c : Thread nD τ) ↦[arg13.view.set]{fullShare} f) ∗ (arg14.view.loc (c : Thread nD τ) ↦[arg14.view.set]{fullShare} g) ∗
    ⌜(arg14.view.read (Elt F) g) = (off a q b (arg6.view.read (Elt F) X6) (arg7.view.read (Elt F) X7) (arg12.view.read (Elt F) X12) s.toNat n).1
      ∧ (arg13.view.read (Elt F) f) = (off a q b (arg6.view.read (Elt F) X6) (arg7.view.read (Elt F) X7) (arg12.view.read (Elt F) X12) s.toNat n).2⌝)

/-- What the running-maximum loop keeps: its state so far. -/
def onInv (c : Dev nD) (arg6 : Memref sig .tc .vmem S1x1x16384x128 .fp8e4m3)  (arg7 : Memref sig .tc .vmem S1x1x128x16384 .fp8e4m3)  (arg12 : Memref sig .tc .vmem S16384x128 .f32)  (arg13 : Memref sig .tc .vmem S128x256 .f32)  (arg14 : Memref sig .tc .vmem S8x256 .f32)  (arg15 : Memref sig .tc .vmem S1x256 .f32) (a : F .f32) (k : Fin k0_t2_loop.trips) (q : FVec F S256x128 .fp8e4m3) (ci : FVec F S1x256 .f32)
    (X6 : BufTy.Contents (Elt F) arg6.view.ty) (X7 : BufTy.Contents (Elt F) arg7.view.ty) (X12 : BufTy.Contents (Elt F) arg12.view.ty) (n : ℕ) (_ : BitVec 32) : sProp 𝕄 :=
  iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ ∃ f g h, (arg13.view.loc (c : Thread nD τ) ↦[arg13.view.set]{fullShare} f) ∗ (arg14.view.loc (c : Thread nD τ) ↦[arg14.view.set]{fullShare} g) ∗ (arg15.view.loc (c : Thread nD τ) ↦[arg15.view.set]{fullShare} h) ∗
    ⌜(arg15.view.read (Elt F) h) = (on a k q ci (arg6.view.read (Elt F) X6) (arg7.view.read (Elt F) X7) (arg12.view.read (Elt F) X12) n).1
      ∧ (arg14.view.read (Elt F) g) = (on a k q ci (arg6.view.read (Elt F) X6) (arg7.view.read (Elt F) X7) (arg12.view.read (Elt F) X12) n).2.1
      ∧ (arg13.view.read (Elt F) f) = (on a k q ci (arg6.view.read (Elt F) X6) (arg7.view.read (Elt F) X7) (arg12.view.read (Elt F) X12) n).2.2⌝)

/-- The remainder loop after the running-maximum loop has no trips. -/
theorem trips_t6 (k : Fin k0_t2_loop.trips) : (k0_t6_loop k).trips = 0 :=
  Nat.le_zero.1 (k0_t6_abs k).2.1

variable (𝒱 : Variants) (c : Dev nD) (bd : Option 𝒱.V) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

set_option maxHeartbeats 400000 in
/-- One trip of the loop over the query tiles. -/
theorem trip_t2 (E : Set ℕ) (v3 : Elt F .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X12 : BufTy.Contents (Elt F) arg12.view.ty)
    (ha : k0_pay1 v3 = scaleOf i (arg3.view.read (Elt F) X3)) (h12 : (arg12.view.read (Elt F) X12) = bias (arg8.view.read (Elt F) X8))
    (k : Fin k0_t2_loop.trips) (hs : (0 : ℤ) ≤ (startOf i (arg2.view.read (Elt F) X2) k.val).toInt)
    (f10 : BufTy.Contents (Elt F) arg10.view.ty) (f11 : BufTy.Contents (Elt F) arg11.view.ty) (f13 : BufTy.Contents (Elt F) arg13.view.ty) (f14 : BufTy.Contents (Elt F) arg14.view.ty) (f15 : BufTy.Contents (Elt F) arg15.view.ty)
    (h10 : ∀ y : S1x16384x128.Idx, (y 1).val < 256 * k.val → (arg10.view.read (Elt F) f10) y = oBlock i (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) y)
    (h11 : ∀ y : S1x1x1x16384.Idx, (y 3).val < 256 * k.val → (arg11.view.read (Elt F) f11) y = lseBlock i (arg2.view.read (Elt F) X2) (arg3.view.read (Elt F) X3) (arg4.view.read (Elt F) X4) (arg5.view.read (Elt F) X5) (arg6.view.read (Elt F) X6) (arg7.view.read (Elt F) X7) (arg8.view.read (Elt F) X8) y) :
    (iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 (Scalar.addi (Scalar.muli (BitVec.ofNat 32 (i 0).val) 32#32) (BitVec.ofNat 32 (i 1).val)) v3 keyIota qryIota k ⟨⟩)
          fun _ => iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (∃ f, (arg10.view.loc (c : Thread nD τ) ↦[arg10.view.set]{fullShare} f) ∗ ⌜∀ y : S1x16384x128.Idx, (y 1).val < 256 * (k.val + 1) → (arg10.view.read (Elt F) f) y = oBlock i (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) y⌝)
            ∗ (∃ f, (arg11.view.loc (c : Thread nD τ) ↦[arg11.view.set]{fullShare} f) ∗ ⌜∀ y : S1x1x1x16384.Idx, (y 3).val < 256 * (k.val + 1) → (arg11.view.read (Elt F) f) y = lseBlock i (arg2.view.read (Elt F) X2) (arg3.view.read (Elt F) X3) (arg4.view.read (Elt F) X4) (arg5.view.read (Elt F) X5) (arg6.view.read (Elt F) X6) (arg7.view.read (Elt F) X7) (arg8.view.read (Elt F) X8) y⌝)
            ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) := by
  have hk := tile_lt k
  have hi0 : (i 0).val < 2 := (i 0).isLt
  have hi1 : (i 1).val < 32 := (i 1).isLt
  have hki : 2048 * (i 0).val + 64 * (i 1).val + k.val < 4096 := by omega
  have e5 := ld_rows (arg5.view.read (Elt F) X5) k.val hk (k0_off4_inb k) (k0_off4_eq k)
  have e8 := ld_lanes (arg8.view.read (Elt F) X8) k.val hk (k0_off5_inb k) (k0_off5_eq k)
  have e6 := ld_rows (arg6.view.read (Elt F) X6) k.val hk (k0_off13_inb k) (k0_off13_eq k)
  have e12 := (ld_bias (arg12.view.read (Elt F) X12) k.val hk (k0_off14_inb k) (k0_off14_eq k)).trans (congrArg (fun z => biasAt z k.val) h12)
  have e7 := ld_cols (arg7.view.read (Elt F) X7) k.val hk (k0_off15_inb k) (k0_off15_eq k)
  have e9 := ld_full (arg9.view.read (Elt F) X9) inb_S1x1x1x128_S1x1x1x128_0_0_0_0
  unfold k0_t2_body
  simp only [k0_part4_eq_skeleton]
  unfold k0_part4_skel
  iintro ⟨H2, H4, H5, H6, H7, H8, H9, H12, H10, H11, H13, H14, H15⟩
  have w2 := ld_word (arg2.view.read (Elt F) X2) _ hki (k0_off6_inb i k) (k0_off6_eq i k) (Shape.Idx.first (numel1_S1.symm ▸ Nat.one_pos))
  have w4 := ld_word (arg4.view.read (Elt F) X4) _ hki (k0_off6_inb i k) (k0_off6_eq i k) (Shape.Idx.first (numel1_S1.symm ▸ Nat.one_pos))
  have hchk := chk1 k _ hs
  sl_exec
  have hr : trip_t2.sl.r_1 i arg2 X2 k = startOf i (arg2.view.read (Elt F) X2) k.val := w2
  have hr' : trip_t2.sl.r i arg4 X4 k = baseOf i (arg4.view.read (Elt F) X4) k.val := w4
  rw [hr, hr']
  sl_exec
  simp only [bind_assoc]
  sl_for (offInv c arg6 arg7 arg12 arg13 arg14 (k0_pay1 v3) (rowsAt (arg5.view.read (Elt F) X5) k.val) (baseOf i (arg4.view.read (Elt F) X4) k.val) (startOf i (arg2.view.read (Elt F) X2) k.val) X6 X7 X12) $$ [H6 H7 H12 H13 H14]
  case region =>
    intro n acc
    unfold offInv
    iintro ⟨H6, H7, H12, %f, %g, H13, H14, %h⟩
    iapply (trip_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 E _ (k0_pay1 v3) k _ _ _ hs hchk X6 X7 X12 f g n acc h.1 h.2) $$ [H6 H7 H12 H13 H14]
    isplitl [H6]; · iexact H6
    isplitl [H7]; · iexact H7
    isplitl [H12]; · iexact H12
    isplitl [H13]; · iexact H13
    iexact H14
  · unfold offInv
    isplitl [H6]; · iexact H6
    isplitl [H7]; · iexact H7
    isplitl [H12]; · iexact H12
    iexists _, _; isplitl [H13]; · iexact H13
    isplitl [H14]; · iexact H14
    ipureintro
    exact ⟨View.read_writes_full _ _ _ _ _, View.read_writes_full _ _ _ _ _⟩
  iintro %acc HI
  unfold offInv
  icases HI with ⟨H6, H7, H12, %f13', %f14', H13, H14, %hoff⟩
  sl_exec
  sl_for0 (trips_t4 k _ hs)
  have r13 : View.readAt (Elt F) arg13.view (Rect.unit (s := S128x256) ![0, 0] S128x256.size inb_S128x256_S128x256_0_0).toLoadRect f13' = (offAll (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k).2 :=
    (ld_full (arg13.view.read (Elt F) f13') inb_S128x256_S128x256_0_0).trans (hoff.2.trans (by unfold offAll; rw [h12]))
  have r14 : View.readAt (Elt F) arg14.view (Rect.unit (s := S8x256) ![0, 0] S8x256.size inb_S8x256_S8x256_0_0).toLoadRect f14' = (offAll (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k).1 :=
    (ld_full (arg14.view.read (Elt F) f14') inb_S8x256_S8x256_0_0).trans (hoff.1.trans (by unfold offAll; rw [h12]))
  sl_exec
  simp only [k0_part3_eq_skeleton]
  unfold k0_part3_skel
  have hr4 : trip_t2.sl.r_4 i arg2 arg4 arg5 arg6 arg7 arg8 v3 X2 X4 X5 X6 X7 X8 k = lOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k := by
    unfold trip_t2.sl.r_4 lOf
    rfl
  have hr5 : trip_t2.sl.r_5 i arg2 arg4 arg5 arg6 arg7 arg8 v3 X2 X4 X5 X6 X7 X8 k = oOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k := by
    unfold trip_t2.sl.r_5 oOf
    rfl
  have h124 : trip_t2.sl.v124 i arg2 arg4 arg5 arg6 arg7 arg8 v3 X2 X4 X5 X6 X7 X8 k = Scalar.cmpf .ogt (k0_pay43 (ldOf (k0_pay1 v3) (arg5.view.read (Elt F) X5) (arg6.view.read (Elt F) X6) (arg8.view.read (Elt F) X8) k) (loOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k) (okOf (k0_pay1 v3) (arg5.view.read (Elt F) X5) (arg6.view.read (Elt F) X6) (arg8.view.read (Elt F) X8) k) (Scalar.ofBits .f32 0x71800000#32 : F .f32)) (Scalar.ofBits .f32 0x00000000#32 : F .f32) := by
    rfl
  have hc : Scalar.cmpi CmpIPredicate.ne (Scalar.extui (trip_t2.sl.v124 i arg2 arg4 arg5 arg6 arg7 arg8 v3 X2 X4 X5 X6 X7 X8 k)) 0#32
      = badWord (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k := congrArg (fun z => Scalar.cmpi CmpIPredicate.ne (Scalar.extui z) 0#32) h124
  have hZ10 : ∀ y : S1x16384x128.Idx, (y 1).val / 256 = k.val → oBlock i (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) y = oTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) (arg9.view.read (Elt F) X9) k (ix3 (y 0) ⟨(y 1).val % 256, Nat.mod_lt _ (by norm_num)⟩ (y 2)) := by
    intro y hy; rw [ha]; unfold oBlock; simp only [hy]
  have hZ11 : ∀ y : S1x1x1x16384.Idx, (y 3).val / 256 = k.val → lseBlock i (arg2.view.read (Elt F) X2) (arg3.view.read (Elt F) X3) (arg4.view.read (Elt F) X4) (arg5.view.read (Elt F) X5) (arg6.view.read (Elt F) X6) (arg7.view.read (Elt F) X7) (arg8.view.read (Elt F) X8) y = lseTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k (ix4 (y 0) (y 1) (y 2) ⟨(y 3).val % 256, Nat.mod_lt _ (by norm_num)⟩) := by
    intro y hy; rw [ha]; unfold lseBlock; simp only [hy]
  rw [hc, hr4, hr5]
  by_cases hb : badWord (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k = 1#1
  · rw [if_pos hb]
    sl_exec
    simp only [bind_assoc]
    sl_for (onInv c arg6 arg7 arg12 arg13 arg14 arg15 (k0_pay1 v3) k (k0_pay26 (rowsAt (arg5.view.read (Elt F) X5) k.val)) (k0_pay27 (lanesAt (arg8.view.read (Elt F) X8) k.val)) X6 X7 X12) $$ [H6 H7 H12 H13 H14 H15]
    case region =>
      intro n acc
      unfold onInv
      iintro ⟨H6, H7, H12, %f, %g, %h, H13, H14, H15, %hh⟩
      iapply (trip_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 E (k0_pay1 v3) k _ (k0_pay26 (rowsAt (arg5.view.read (Elt F) X5) k.val)) (k0_pay27 (lanesAt (arg8.view.read (Elt F) X8) k.val)) X6 X7 X12 f g h n acc hh.1 hh.2.1 hh.2.2) $$ [H6 H7 H12 H13 H14 H15]
      isplitl [H6]; · iexact H6
      isplitl [H7]; · iexact H7
      isplitl [H12]; · iexact H12
      isplitl [H13]; · iexact H13
      isplitl [H14]; · iexact H14
      iexact H15
    · unfold onInv
      isplitl [H6]; · iexact H6
      isplitl [H7]; · iexact H7
      isplitl [H12]; · iexact H12
      iexists _, _, _; isplitl [H13]; · iexact H13
      isplitl [H14]; · iexact H14
      isplitl [H15]; · iexact H15
      ipureintro
      exact ⟨View.read_writes_full _ _ _ _ _, View.read_writes_full _ _ _ _ _, View.read_writes_full _ _ _ _ _⟩
    iintro %acc HI
    unfold onInv
    icases HI with ⟨H6, H7, H12, %f13'', %f14'', %f15'', H13, H14, H15, %hon⟩
    have s13 : View.readAt (Elt F) arg13.view (Rect.unit (s := S128x256) ![0, 0] S128x256.size inb_S128x256_S128x256_0_0).toLoadRect f13'' = (onAll (k0_pay1 v3) (arg5.view.read (Elt F) X5) (arg6.view.read (Elt F) X6) (arg7.view.read (Elt F) X7) (arg8.view.read (Elt F) X8) k).2.2 :=
      (ld_full (arg13.view.read (Elt F) f13'') inb_S128x256_S128x256_0_0).trans (hon.2.2.trans (by unfold onAll; rw [h12]))
    have s14 : View.readAt (Elt F) arg14.view (Rect.unit (s := S8x256) ![0, 0] S8x256.size inb_S8x256_S8x256_0_0).toLoadRect f14'' = (onAll (k0_pay1 v3) (arg5.view.read (Elt F) X5) (arg6.view.read (Elt F) X6) (arg7.view.read (Elt F) X7) (arg8.view.read (Elt F) X8) k).2.1 :=
      (ld_full (arg14.view.read (Elt F) f14'') inb_S8x256_S8x256_0_0).trans (hon.2.1.trans (by unfold onAll; rw [h12]))
    have s15 : View.readAt (Elt F) arg15.view (Rect.unit (s := S1x256) ![0, 0] S1x256.size inb_S1x256_S1x256_0_0).toLoadRect f15'' = (onAll (k0_pay1 v3) (arg5.view.read (Elt F) X5) (arg6.view.read (Elt F) X6) (arg7.view.read (Elt F) X7) (arg8.view.read (Elt F) X8) k).1 :=
      (ld_full (arg15.view.read (Elt F) f15'') inb_S1x256_S1x256_0_0).trans (hon.1.trans (by unfold onAll; rw [h12]))
    sl_exec
    sl_for0 (trips_t6 k)
    sl_exec
    sl_step
    have e10 : oTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) (arg9.view.read (Elt F) X9) k = k0_pay3 (k0_pay25 (onAll (k0_pay1 v3) (arg5.view.read (Elt F) X5) (arg6.view.read (Elt F) X6) (arg7.view.read (Elt F) X7) (arg8.view.read (Elt F) X8) k).2.2 (onAll (k0_pay1 v3) (arg5.view.read (Elt F) X5) (arg6.view.read (Elt F) X6) (arg7.view.read (Elt F) X7) (arg8.view.read (Elt F) X8) k).2.1) (arg9.view.read (Elt F) X9) := if_pos hb
    have e11 : lseTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k = k0_pay4 (k0_pay24 (onAll (k0_pay1 v3) (arg5.view.read (Elt F) X5) (arg6.view.read (Elt F) X6) (arg7.view.read (Elt F) X7) (arg8.view.read (Elt F) X8) k).2.1) (onAll (k0_pay1 v3) (arg5.view.read (Elt F) X5) (arg6.view.read (Elt F) X6) (arg7.view.read (Elt F) X7) (arg8.view.read (Elt F) X8) k).1 := if_pos hb
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H10]
    · iexists _; isplitl [H10]; · iexact H10
      ipureintro
      exact o_step _ f10 _ k.val hk _ (k0_off24_eq k) _ (fun y hy => (hZ10 y hy).trans (congrFun e10 _)) _ (o_keep _ f10 _ k.val _ (k0_off16_eq k) _ h10)
    isplitl [H11]
    · iexists _; isplitl [H11]; · iexact H11
      ipureintro
      exact lse_step _ f11 _ k.val hk _ (k0_off25_eq k) _ (fun y hy => (hZ11 y hy).trans (congrFun e11 _)) _ (lse_keep _ f11 _ k.val _ (k0_off17_eq k) _ h11)
    isplitl [H13]; · iexists _; iexact H13
    isplitl [H14]; · iexists _; iexact H14
    iexists _; iexact H15
  · rw [if_neg hb]
    sl_exec
    sl_step
    have e10 : oTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) (arg9.view.read (Elt F) X9) k = k0_pay44 (lOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k) (oOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k) (arg9.view.read (Elt F) X9) := if_neg hb
    have e11 : lseTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k = k0_pay45 (lOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k) := if_neg hb
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H10]
    · iexists _; isplitl [H10]; · iexact H10
      ipureintro
      exact o_step _ f10 _ k.val hk _ (k0_off16_eq k) _ (fun y hy => (hZ10 y hy).trans (congrFun e10 _)) [] h10
    isplitl [H11]
    · iexists _; isplitl [H11]; · iexact H11
      ipureintro
      exact lse_step _ f11 _ k.val hk _ (k0_off17_eq k) _ (fun y hy => (hZ11 y hy).trans (congrFun e11 _)) [] h11
    isplitl [H13]; · iexists _; iexact H13
    isplitl [H14]; · iexists _; iexact H14
    iexists _; iexact H15

end Cert.Kernel.Body

end
-- ==== Proof.Bits.LoopBias.lean ====
/- The first loop of the kernel's body: it fills the key biases, 128 rows a trip. -/
module

public import proofs.«01_k».proof.Proof.Bits.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow

@[expose] public section

set_option maxRecDepth 8192

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

variable (𝒱 : Variants) (c : Dev nD) (bd : Option 𝒱.V) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

/-- Storing 128 rows of key biases over biases that are there for the rows before leaves them for 128 rows more. -/
theorem bias_step (v : View sig .tc .vmem S16384x128 .f32) (f : v.ty.Contents (Elt F)) (x8 : Vec F S1x1x1x16384 .f32)
    (k : ℕ) (hk : k < 128) {off : Fin 2 → ℕ} (inb : ∀ a, off a + S128x128.size a ≤ S16384x128.size a) (ho : off = ![128 * k, 0])
    (w : Vec F S128x128 .f32) (hw : w = k0_pay2 (lanes128At x8 k))
    (hf : ∀ y : S16384x128.Idx, (y 0).val < 128 * k → v.read (Elt F) f y = bias x8 y) :
    ∀ y : S16384x128.Idx, (y 0).val < 128 * (k + 1) →
      v.read (Elt F) (v.writes (Elt F) f [⟨Rect.unit (s := S16384x128) off S128x128.size inb, w⟩]) y = bias x8 y := by
  intro y hy
  have hy1 : (y 1).val < 128 := (y 1).isLt
  by_cases h : (y 0).val < 128 * k
  · rw [View.read_writes_cons_unit_of_not_mem v f inb w [] y ho (0 : Fin 2) (.inl h)]
    exact hf y h
  · have hd : (y 0).val / 128 = k := by omega
    have hx0 : (y 0).val % 128 < 128 := Nat.mod_lt _ (by norm_num)
    rw [View.read_writes_cons_unit_of_mem v f inb w [] y (ix2 (n0 := 128) (n1 := 128) ⟨(y 0).val % 128, hx0⟩ (y 1)) ho
      (Fin.forall_fin_two.mpr ⟨by show (y 0).val = 128 * k + (y 0).val % 128; omega, by show (y 1).val = 0 + (y 1).val; omega⟩)]
    rw [hw]; unfold bias; rw [hd]

/-- The lanes that a trip reads. -/
theorem ld_lanes128 {e : EltTy} (x : Vec F S1x1x1x16384 e) (k : ℕ) (hk : k < 128) {off : Fin 4 → ℕ}
    (inb : ∀ a, off a + S1x1x1x128.size a ≤ S1x1x1x16384.size a) (ho : off = ![0, 0, 0, 128 * k]) :
    View.ld (Val := Elt F) x (Rect.unit (s := S1x1x1x16384) off S1x1x1x128.size inb) = lanes128At x k := by
  subst ho
  funext y
  have h3 : (y 3).val < 128 := (y 3).isLt
  refine View.ld_unit_apply_of x _ _ inb y _ fun a => ?_
  fin_cases a
  · show (y 0).val = 0 + (y 0).val; omega
  · show (y 1).val = 0 + (y 1).val; omega
  · show (y 2).val = 0 + (y 2).val; omega
  · show (128 * k + (y 3).val) % 16384 = 128 * k + (y 3).val; omega

set_option maxHeartbeats 1000000 in
/-- One trip of the first loop. -/
theorem trip_t1 (E : Set ℕ) (X8 : BufTy.Contents (Elt F) arg8.view.ty) (k : Fin k0_t1_loop.trips) (f12 : BufTy.Contents (Elt F) arg12.view.ty)
    (hf : ∀ y : S16384x128.Idx, (y 0).val < 128 * k.val → (arg12.view.read (Elt F) f12) y = bias (arg8.view.read (Elt F) X8) y) :
    (iprop((arg8.view.loc (c : Thread nD τ) ↦[arg8.view.set]{fullShare} X8) ∗ (arg12.view.loc (c : Thread nD τ) ↦[arg12.view.set]{fullShare} f12)) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k ⟨⟩)
          fun _ => iprop((arg8.view.loc (c : Thread nD τ) ↦[arg8.view.set]{fullShare} X8) ∗ ∃ f, (arg12.view.loc (c : Thread nD τ) ↦[arg12.view.set]{fullShare} f) ∗
            ⌜∀ y : S16384x128.Idx, (y 0).val < 128 * (k.val + 1) → (arg12.view.read (Elt F) f) y = bias (arg8.view.read (Elt F) X8) y⌝) := by
  have hk : k.val < 128 := Nat.lt_of_lt_of_le k.isLt k0_t1_abs.2.1
  unfold k0_t1_body
  iintro ⟨H8, H12⟩
  sl_exec
  sl_step
  isplitl [H8]; · iexact H8
  iexists _; isplitl [H12]; · iexact H12
  ipureintro
  exact bias_step _ f12 _ k.val hk _ (k0_off3_eq k) _ (congrArg k0_pay2 (ld_lanes128 _ k.val hk _ (k0_off2_eq k))) hf

end Cert.Kernel.Body

end
-- ==== Proof.Bits.Run.lean ====
/- The kernel's body at one grid point, the pipeline's proof data, and the run of the whole program. -/
module

public import proofs.«01_k».proof.Proof.Bits.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow
public import proofs.«01_k».proof.Proof.Bits.Tile
public import proofs.«01_k».proof.Proof.Bits.LoopBias
public import proofs.«01_k».proof.Proof.Gen.Kernel.Frame

@[expose] public section

set_option maxRecDepth 8192

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

open Idealize.ShloMosaic.Pipeline (Dat Cfg Window BodyObligation cellOf ΦA)

abbrev 𝒱₀ : Variants := Variants.none

/-- What the first loop keeps: the key biases of the rows so far. -/
def biasInv (c : Dev nD) (arg8 : Memref sig .tc .vmem S1x1x1x16384 .f32) (arg12 : Memref sig .tc .vmem S16384x128 .f32) (X8 : BufTy.Contents (Elt F) arg8.view.ty) (n : ℕ) (_ : PUnit) : sProp 𝕄 :=
  iprop((arg8.view.loc (c : Thread nD τ) ↦[arg8.view.set]{fullShare} X8) ∗ ∃ f, (arg12.view.loc (c : Thread nD τ) ↦[arg12.view.set]{fullShare} f) ∗ ⌜∀ y : S16384x128.Idx, (y 0).val < 128 * n → (arg12.view.read (Elt F) f) y = bias (arg8.view.read (Elt F) X8) y⌝)

/-- What the loop over the query tiles keeps: the two results' rows so far. -/
def tileInv (c : Dev nD) (i : grid0.Coords) (arg2 : Memref sig .tc .smem S4096 .i32) (arg3 : Memref sig .tc .smem S64 .f32) (arg4 : Memref sig .tc .smem S4096 .f32) (arg5 : Memref sig .tc .vmem S1x1x16384x128 .fp8e4m3) (arg6 : Memref sig .tc .vmem S1x1x16384x128 .fp8e4m3) (arg7 : Memref sig .tc .vmem S1x1x128x16384 .fp8e4m3) (arg8 : Memref sig .tc .vmem S1x1x1x16384 .f32) (arg9 : Memref sig .tc .vmem S1x1x1x128 .f32) (arg10 : Memref sig .tc .vmem S1x16384x128 .bf16) (arg11 : Memref sig .tc .vmem S1x1x1x16384 .f32) (arg12 : Memref sig .tc .vmem S16384x128 .f32) (arg13 : Memref sig .tc .vmem S128x256 .f32) (arg14 : Memref sig .tc .vmem S8x256 .f32) (arg15 : Memref sig .tc .vmem S1x256 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X12 : BufTy.Contents (Elt F) arg12.view.ty) (n : ℕ) (_ : PUnit) : sProp 𝕄 :=
  iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (∃ f, (arg10.view.loc (c : Thread nD τ) ↦[arg10.view.set]{fullShare} f) ∗ ⌜∀ y : S1x16384x128.Idx, (y 1).val < 256 * n → (arg10.view.read (Elt F) f) y = oBlock i (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) y⌝)
            ∗ (∃ f, (arg11.view.loc (c : Thread nD τ) ↦[arg11.view.set]{fullShare} f) ∗ ⌜∀ y : S1x1x1x16384.Idx, (y 3).val < 256 * n → (arg11.view.read (Elt F) f) y = lseBlock i (arg2.view.read (Elt F) X2) (arg3.view.read (Elt F) X3) (arg4.view.read (Elt F) X4) (arg5.view.read (Elt F) X5) (arg6.view.read (Elt F) X6) (arg7.view.read (Elt F) X7) (arg8.view.read (Elt F) X8) y⌝)
            ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))

theorem trips_t1 : k0_t1_loop.trips = 128 := by decide

/-- A load of one word of the table of scales. -/
theorem ld_scale {e : EltTy} (x : Vec F S64 e) (n : ℕ) (hn : n < 64) {off : Fin 1 → ℕ}
    (inb : ∀ a, off a + S1.size a ≤ S64.size a) (ho : off = ![n]) (y : S1.Idx) :
    View.ld (Val := Elt F) x (Rect.unit (s := S64) off S1.size inb) y = x (ix1 ⟨n % 64, Nat.mod_lt _ (by norm_num)⟩) := by
  subst ho
  have h : (y 0).val < 1 := (y 0).isLt
  refine View.ld_unit_apply_of x _ _ inb y _ fun a => ?_
  fin_cases a
  show n % 64 = n + (y 0).val; omega

variable (c : Dev nD) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

set_option maxHeartbeats 4000000 in
/-- The kernel's body on any staging buffers: it leaves the inputs as they were and the two result blocks at
    `oBlock` and `lseBlock`. -/
theorem kernelRun (x2 : Vec F S4096 .i32) (x3 : Vec F S64 .f32) (x4 : Vec F S4096 .f32) (x5 : Vec F S1x1x16384x128 .fp8e4m3) (x6 : Vec F S1x1x16384x128 .fp8e4m3) (x7 : Vec F S1x1x128x16384 .fp8e4m3) (x8 : Vec F S1x1x1x16384 .f32) (x9 : Vec F S1x1x1x128 .f32) (hs : ∀ k < 64, (0 : ℤ) ≤ (startOf i x2 k).toInt) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d)
        ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (oBlock i x2 x3 x4 x5 x6 x7 x8 x9) ∗ owns (c : Thread nD τ) arg11 fullShare (lseBlock i x2 x3 x4 x5 x6 x7 x8)
            ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) -∗ K ⟨⟩))
      ⊢ wp frame (wpE (defs₀ (F := F)) 𝒱₀ (c : Thread nD τ) none) E (cc0_attn i arg2 harg2 arg3 harg3 arg4 harg4 arg5 harg5 arg6 harg6 arg7 harg7 arg8 harg8 arg9 harg9 arg10 harg10 arg11 harg11 arg12 harg12 arg13 harg13 arg14 harg14 arg15 harg15) K := by
  have hi0 : (i 0).val < 2 := (i 0).isLt
  have hi1 : (i 1).val < 32 := (i 1).isLt
  unfold owns
  iintro ⟨⟨%X2, %hf2, H2⟩, ⟨%X3, %hf3, H3⟩, ⟨%X4, %hf4, H4⟩, ⟨%X5, %hf5, H5⟩, ⟨%X6, %hf6, H6⟩, ⟨%X7, %hf7, H7⟩, ⟨%X8, %hf8, H8⟩, ⟨%X9, %hf9, H9⟩, ⟨%d10, %f10, -, H10⟩, ⟨%d11, %f11, -, H11⟩, ⟨%f12, H12⟩, ⟨%f13, H13⟩, ⟨%f14, H14⟩, ⟨%f15, H15⟩, Hk⟩
  subst hf2 hf3 hf4 hf5 hf6 hf7 hf8 hf9
  have w3 := ld_scale (arg3.view.read (Elt F) X3) (32 * (i 0).val + (i 1).val) (by omega) (k0_off1_inb i) (k0_off1_eq i) (Shape.Idx.first (numel1_S1.symm ▸ Nat.one_pos))
  sl_unfold [cc0_attn]
  sl_exec
  sl_for (biasInv c arg8 arg12 X8) $$ [H8 H12]
  case region =>
    intro k acc
    unfold biasInv
    iintro ⟨H8, %f, H12, %hf⟩
    iapply (trip_t1 𝒱₀ c none i arg2 harg2 arg3 harg3 arg4 harg4 arg5 harg5 arg6 harg6 arg7 harg7 arg8 harg8 arg9 harg9 arg10 harg10 arg11 harg11 arg12 harg12 arg13 harg13 arg14 harg14 arg15 harg15 E X8 k f hf) $$ [H8 H12]
    isplitl [H8]; · iexact H8
    iexact H12
  · unfold biasInv
    isplitl [H8]; · iexact H8
    iexists _; isplitl [H12]; · iexact H12
    ipureintro
    intro y hy; omega
  iintro %acc HI
  unfold biasInv
  icases HI with ⟨H8, %X12, H12, %h12⟩
  have h12' : arg12.view.read (Elt F) X12 = bias (arg8.view.read (Elt F) X8) := by
    funext y; have hy : (y 0).val < 16384 := (y 0).isLt
    exact h12 y (lt_of_lt_of_eq (by omega : (y 0).val < 128 * 128) (congrArg (fun n => 128 * n) trips_t1.symm))
  sl_exec
  have ha : k0_pay1 (kernelRun.sl.r c i arg3 X3) = scaleOf i (arg3.view.read (Elt F) X3) := congrArg k0_pay1 w3
  sl_for (tileInv c i arg2 arg3 arg4 arg5 arg6 arg7 arg8 arg9 arg10 arg11 arg12 arg13 arg14 arg15 X2 X3 X4 X5 X6 X7 X8 X9 X12) $$ [H2 H4 H5 H6 H7 H8 H9 H12 H10 H11 H13 H14 H15]
  case region =>
    intro k acc
    unfold tileInv
    iintro ⟨H2, H4, H5, H6, H7, H8, H9, H12, ⟨%g10, H10, %h10⟩, ⟨%g11, H11, %h11⟩, ⟨%g13, H13⟩, ⟨%g14, H14⟩, ⟨%g15, H15⟩⟩
    iapply (trip_t2 𝒱₀ c none i arg2 harg2 arg3 harg3 arg4 harg4 arg5 harg5 arg6 harg6 arg7 harg7 arg8 harg8 arg9 harg9 arg10 harg10 arg11 harg11 arg12 harg12 arg13 harg13 arg14 harg14 arg15 harg15 E _ X2 X3 X4 X5 X6 X7 X8 X9 X12 ha h12' k (hs k.val (tile_lt k)) g10 g11 g13 g14 g15 h10 h11) $$ [H2 H4 H5 H6 H7 H8 H9 H12 H10 H11 H13 H14 H15]
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H10]; · iexact H10
    isplitl [H11]; · iexact H11
    isplitl [H13]; · iexact H13
    isplitl [H14]; · iexact H14
    iexact H15
  · unfold tileInv
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H10]
    · iexists _; isplitl [H10]; · iexact H10
      ipureintro; intro y hy; omega
    isplitl [H11]
    · iexists _; isplitl [H11]; · iexact H11
      ipureintro; intro y hy; omega
    isplitl [H13]; · iexists _; iexact H13
    isplitl [H14]; · iexists _; iexact H14
    iexists _; iexact H15
  iintro %acc' HI
  unfold tileInv
  icases HI with ⟨H2, H4, H5, H6, H7, H8, H9, H12, ⟨%g10, H10, %h10⟩, ⟨%g11, H11, %h11⟩, ⟨%g13, H13⟩, ⟨%g14, H14⟩, ⟨%g15, H15⟩⟩
  sl_exec
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; swap; · iexact H10
    ipureintro
    funext y
    have hy : (y 1).val < 16384 := (y 1).isLt
    exact h10 y (lt_of_lt_of_eq (by omega : (y 1).val < 256 * 64) (congrArg (fun n => 256 * n) trips_t2.symm))
  isplitl [H11]
  · iexists _; isplitr; swap; · iexact H11
    ipureintro
    funext y
    have hy : (y 3).val < 16384 := (y 3).isLt
    exact h11 y (lt_of_lt_of_eq (by omega : (y 3).val < 256 * 64) (congrArg (fun n => 256 * n) trips_t2.symm))
  isplitl [H12]; · iexists _; iexact H12
  isplitl [H13]; · iexists _; iexact H13
  isplitl [H14]; · iexists _; iexact H14
  iexists _; iexact H15

end Cert.Kernel.Body

end
-- ==== Proof.Bits.Launch.lean ====
/- The pipeline's proof data and the run of the whole program. -/
module

public import proofs.«01_k».proof.Proof.Bits.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow
public import proofs.«01_k».proof.Proof.Bits.Run
public import Idealize.ShloMosaic.PureOps.BitExact

@[expose] public section

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the frame kit's. -/
local notation "𝕄" => MT nD τ sig Unit (Elt F) ℕ (UR sig nD τ) ℕ

open Idealize.ShloMosaic.Pipeline (Dat Cfg Window BodyObligation cellOf ΦA)

variable (m : (ℓ : Loc nD τ sig) → Buf (Elt F) ℓ) (ρ : Dev nD → PrngReg)

/-- The two result blocks of point `t`. -/
def oAt (c : Dev nD) (t : Fin cfg0.N) : FVec F S1x16384x128 .bf16 := oBlock (grid0.coords t) (iblk m c 0 t) (iblk m c 1 t) (iblk m c 2 t) (iblk m c 3 t) (iblk m c 4 t) (iblk m c 5 t) (iblk m c 6 t) (iblk m c 7 t)
def lseAt (c : Dev nD) (t : Fin cfg0.N) : FVec F S1x1x1x16384 .f32 := lseBlock (grid0.coords t) (iblk m c 0 t) (iblk m c 1 t) (iblk m c 2 t) (iblk m c 3 t) (iblk m c 4 t) (iblk m c 5 t) (iblk m c 6 t)

/-- The arrays as the region finds them; after the body each input's buffer at its block and the results' at theirs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oAt m c t
    | ⟨9, _⟩ => lseAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = oAt m c t := by dsimp only [dats]
theorem after0_9 (c : Dev nD) (t : Fin cfg0.N) : (dats m 0 c).after 9 t = lseAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- A whole buffer at some contents, as a view of itself. -/
theorem whole_eq (c : Dev nD) (b : Ref sig .tc) : (iprop(∃ f, (Memref.whole b).view.loc (c : Thread nD τ) ↦[(Memref.whole b).view.set]{fullShare} f) : sProp 𝕄)
    = iprop(∃ f : Buf (Elt F) ((c : Thread nD τ).loc b), ((c : Thread nD τ).loc b) ↦{fullShare} f) := by
  rw [show (Memref.whole b).view.set = Finset.univ from View.set_whole b]

/-- The kernel's scratch buffers, each whole at some contents, and the generator register. -/
theorem rest_eq (c : Dev nD) : (Pipeline.ΦA (U := UR sig nD τ) (Val := Elt F) spec0 c : sProp 𝕄)
    = iprop(((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f)) ∗ ∃ r, prngReg c r) := by
  unfold Pipeline.ΦA
  rw [scopedRest0_eq, whole_eq, whole_eq, whole_eq, whole_eq]

/-- Every first tile that the kernel reads is nonnegative. -/
def StartsFit : Prop := ∀ (c : Dev nD) (t : Fin cfg0.N) (k : ℕ), k < 64 → (0 : ℤ) ≤ (startOf (F := F) (grid0.coords t) (iblk m c 0 t) k).toInt

set_option maxHeartbeats 2000000 in
/-- The body at a point, from the inputs' blocks to the results'. -/
theorem body_obligation (hst : StartsFit m) (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9]
  rw [rest_eq]
  iintro ⟨⟨⟨S0, S1, S2, S3⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (hst c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  isplitl [S1]; · iexact S1
  isplitl [S2]; · iexact S2
  isplitl [S3]; · iexact S3
  iintro ⟨H0, H1, H2, H3, H4, H5, H6, H7, H8, H9, S0, S1, S2, S3⟩
  isplitl [S0 S1 S2 S3 Hρ]
  · isplitr [Hρ]
    · isplitl [S0]; · iexact S0
      isplitl [S1]; · iexact S1
      isplitl [S2]; · iexact S2
      iexact S3
    iexact Hρ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- `θ_run_frame`'s implicit arguments are found by unifying its conclusion with this one, which takes unfolding plain
-- definitions in a metavariable's type
set_option backward.isDefEq.respectTransparency.types false in
/-- From any memory with zero counters whose first tiles are nonnegative: every weakly fair execution terminates, and
    every final state has every array at what the proof data says and every semaphore counter at zero. -/
theorem run_main (hst : StartsFit m) : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m hst c).loose) (hshare := fun c => (dats m 0 c).share_full fun _ => rfl)
    (howed := fun _ _ => rfl) (V := V m) (hmain := hmain m 𝒱₀) (hA := fun _ _ => rfl) (hΦ := fun _ _ => rfl)

end Cert.Kernel.Body

end
-- ==== Proof.Bits.Starts.lean ====
/- Where the kernel's first tiles come from: the table that it reads is the last argument in row-major order, so a
   nonnegative argument makes every first tile nonnegative. -/
module

public import proofs.«01_k».proof.Proof.Bits.Launch
public import Idealize.ShloMosaic.Lib.StableHlo.RunRead

@[expose] public section

noncomputable section

open Idealize.ShloMosaic Idealize.ShloMosaic.TcCoe Idealize.ShloMosaic.ValueIdx Idealize.SL.Sem

namespace Cert.Kernel.Body

open Cert.Kernel Cert.Kernel.Gen

variable {F : FTy → Type} [FloatOps F]
variable (m : (ℓ : Loc nD τ sig) → Buf (Elt F) ℓ)

/-- The table of first tiles is the last argument, reshaped to a line. -/
theorem V_main_v15 (c : Dev nD) : V m c main_v15 = shapeCast S4096 (m ((c : Thread nD τ).loc main_arg7)) shapeCasts_S2x32x64_S4096 := by
  after_reads_simp
  rfl

/-- A nonnegative last argument makes every first tile that the kernel reads nonnegative. -/
theorem startsFit (h : ∀ (c : Dev nD) (x : S2x32x64.Idx), (0 : ℤ) ≤ (m ((c : Thread nD τ).loc main_arg7) x : BitVec 32).toInt) : StartsFit m := by
  intro c t k hk
  unfold startOf iblk
  rw [show V m c (Pipeline.arrRef spec0 0) = V m c main_v15 from rfl, V_main_v15]
  exact h c _

end Cert.Kernel.Body

end
-- ==== Proof.Ideal.Fns.lean ====
/- The pure functions of the attention kernel's body: what each of its loops computes, tile by tile, over the contents
   of the blocks that it reads. Nothing here is about execution: `Run.lean` proves that the body computes these. -/
module

public import proofs.«01_k».proof.Proof.Gen.KernelIdeal.Skeleton
public import Idealize.ShloMosaic.Lib.ValueIdxCore

@[expose] public section

noncomputable section

namespace Cert.KernelIdeal.Body

open Idealize.ShloMosaic Idealize.ShloMosaic.ValueIdx Idealize.SL.Sem
open Cert.KernelIdeal.Gen

variable {F : FTy → Type} [FloatOps F] [Named F]

/-- Rows `256 j … 256 j + 255` of a block of rows (`q`, `k`). -/
def rowsAt {e : EltTy} (x : Vec F S1x1x16384x128 e) (j : ℕ) : Vec F S1x1x256x128 e := fun y =>
  x (ix4 (y 0) (y 1) ⟨(256 * j + (y 2).val) % 16384, Nat.mod_lt _ (by norm_num)⟩ (y 3))

/-- Columns `256 j … 256 j + 255` of the transposed values. -/
def colsAt {e : EltTy} (x : Vec F S1x1x128x16384 e) (j : ℕ) : Vec F S1x1x128x256 e := fun y =>
  x (ix4 (y 0) (y 1) (y 2) ⟨(256 * j + (y 3).val) % 16384, Nat.mod_lt _ (by norm_num)⟩)

/-- Lanes `256 j … 256 j + 255` of the row of cumulative gates. -/
def lanesAt {e : EltTy} (x : Vec F S1x1x1x16384 e) (j : ℕ) : Vec F S1x1x1x256 e := fun y =>
  x (ix4 (y 0) (y 1) (y 2) ⟨(256 * j + (y 3).val) % 16384, Nat.mod_lt _ (by norm_num)⟩)

/-- Lanes `128 j … 128 j + 127` of the row of cumulative gates. -/
def lanes128At {e : EltTy} (x : Vec F S1x1x1x16384 e) (j : ℕ) : Vec F S1x1x1x128 e := fun y =>
  x (ix4 (y 0) (y 1) (y 2) ⟨(128 * j + (y 3).val) % 16384, Nat.mod_lt _ (by norm_num)⟩)

/-- Rows `256 j … 256 j + 255` of the key biases. -/
def biasAt {e : EltTy} (x : Vec F S16384x128 e) (j : ℕ) : Vec F S256x128 e := fun y =>
  x (ix2 ⟨(256 * j + (y 0).val) % 16384, Nat.mod_lt _ (by norm_num)⟩ (y 1))

/-- The key biases that the first loop leaves: row `r` holds the gate of key `r`, in every lane. -/
def bias (x8 : Vec F S1x1x1x16384 .f32) : Vec F S16384x128 .f32 := fun y =>
  k0_pay2 (lanes128At x8 ((y 0).val / 128)) (ix2 ⟨(y 0).val % 128, Nat.mod_lt _ (by norm_num)⟩ (y 1))

theorem trips_t2 : k0_t2_loop.trips = 64 := by decide +kernel

/-- The tiles left of the diagonal, after `n` of them from tile `s` on: the sum of the weights (in eight parts) and
    the weighted sum of the values. -/
def off (a : F .f32) (q : Vec F S1x1x256x128 .fp8e4m3) (b : Elt F .f32) (x6 : Vec F S1x1x16384x128 .fp8e4m3)
    (x7 : Vec F S1x1x128x16384 .fp8e4m3) (cb : Vec F S16384x128 .f32) (s : ℕ) : ℕ → Vec F S8x256 .f32 × Vec F S128x256 .f32
  | 0 => (k0_pay29, k0_pay28)
  | n + 1 => (k0_pay31 a q b (rowsAt x6 (s + n)) (biasAt cb (s + n)) (off a q b x6 x7 cb s n).1,
      k0_pay32 a q b (rowsAt x6 (s + n)) (biasAt cb (s + n)) (off a q b x6 x7 cb s n).2 (colsAt x7 (s + n)))

/-- The row and column numbers of a tile of scores. -/
def keyIota : IVec S256x256 32 := iota .tc S256x256 32 [0] iota_S256x256_d0_w32
def qryIota : IVec S256x256 32 := iota .tc S256x256 32 [1] iota_S256x256_d1_w32

/-- The word of query tile `k`'s first row. -/
def tileWord (k : Fin k0_t2_loop.trips) : BitVec 32 := Scalar.muli (Scf.iv 0#32 1#32 k) 256#32

/-- One step of the running-maximum loop: the maxima, the sums (in eight parts), the weighted values. -/
def onStep (a : F .f32) (k : Fin k0_t2_loop.trips) (q : FVec F S256x128 .fp8e4m3) (ci : FVec F S1x256 .f32)
    (n : Fin (k0_t5_loop k).trips) (xk : Vec F S1x1x256x128 .fp8e4m3) (xc : Vec F S256x128 .f32) (xv : Vec F S1x1x128x256 .fp8e4m3)
    (p : Vec F S1x256 .f32 × Vec F S8x256 .f32 × Vec F S128x256 .f32) : Vec F S1x256 .f32 × Vec F S8x256 .f32 × Vec F S128x256 .f32 :=
  (k0_pay9 a keyIota qryIota k (tileWord k) q ci 0#32 1#32 n xk xc p.1,
    k0_pay20 (k0_pay10 a keyIota qryIota k (tileWord k) q ci 0#32 1#32 n xk xc p.1 p.1 p.2.1),
    k0_pay21 (k0_pay7 a keyIota qryIota k (tileWord k) q ci 0#32 1#32 n xk xc p.1 p.1)
      (k0_pay8 a keyIota qryIota k (tileWord k) q ci 0#32 1#32 n xk xc p.1) p.2.2 xv)

/-- The running-maximum loop's state after `n` tiles. -/
def on (a : F .f32) (k : Fin k0_t2_loop.trips) (q : FVec F S256x128 .fp8e4m3) (ci : FVec F S1x256 .f32)
    (x6 : Vec F S1x1x16384x128 .fp8e4m3) (x7 : Vec F S1x1x128x16384 .fp8e4m3) (cb : Vec F S16384x128 .f32) :
    ℕ → Vec F S1x256 .f32 × Vec F S8x256 .f32 × Vec F S128x256 .f32
  | 0 => (k0_pay19, k0_pay18, k0_pay17)
  | n + 1 => if h : n < (k0_t5_loop k).trips then
      onStep a k q ci ⟨n, h⟩ (rowsAt x6 n) (biasAt cb n) (colsAt x7 n) (on a k q ci x6 x7 cb n)
    else on a k q ci x6 x7 cb n

section tile

variable (a : F .f32) (b : Elt F .f32) (s : BitVec 32) (x5 x6 : Vec F S1x1x16384x128 .fp8e4m3)
  (x7 : Vec F S1x1x128x16384 .fp8e4m3) (x8 : Vec F S1x1x1x16384 .f32) (x9 : Vec F S1x1x1x128 .f32) (k : Fin k0_t2_loop.trips)

/-- The off-diagonal sums of query tile `k`. -/
def offAll : Vec F S8x256 .f32 × Vec F S128x256 .f32 :=
  off a (rowsAt x5 k) b x6 x7 (bias x8) s.toNat (k0_t3_loop k s).trips

/-- The sum of the diagonal tile's weights, of the off-diagonal tiles', of both; the weighted values; part of the test
    of the sums. -/
def ldOf : FVec F S1x256 .f32 := k0_pay37 a keyIota qryIota (k0_pay26 (rowsAt x5 k)) (k0_pay27 (lanesAt x8 k)) (rowsAt x6 k) (biasAt (bias x8) k)
def loOf : FVec F S1x256 .f32 := k0_pay38 (offAll a b s x5 x6 x7 x8 k).1
def lOf : FVec F S1x256 .f32 := k0_pay40 a keyIota qryIota (k0_pay26 (rowsAt x5 k)) (k0_pay27 (lanesAt x8 k)) b (rowsAt x6 k) (biasAt (bias x8) k) (offAll a b s x5 x6 x7 x8 k).1
def oOf : FVec F S128x256 .f32 := k0_pay41 a keyIota qryIota (k0_pay26 (rowsAt x5 k)) (k0_pay27 (lanesAt x8 k)) b (rowsAt x6 k) (biasAt (bias x8) k) (colsAt x7 k) (offAll a b s x5 x6 x7 x8 k).2
def okOf : IVec S1x256 1 := k0_pay42 a keyIota qryIota (k0_pay26 (rowsAt x5 k)) (k0_pay27 (lanesAt x8 k)) (rowsAt x6 k) (biasAt (bias x8) k)

/-- The word that says that some row's sums failed the test. -/
def badWord : BitVec 1 := Scalar.cmpi .ne (Scalar.extui (Scalar.cmpf .ogt (k0_pay43 (ldOf a x5 x6 x8 k) (loOf a b s x5 x6 x7 x8 k) (okOf a x5 x6 x8 k) (Scalar.ofBits .f32 0x71800000#32 : F .f32))
  (Scalar.ofBits .f32 0x00000000#32 : F .f32)) : BitVec 32) 0#32

/-- The running-maximum loop's final state of query tile `k`. -/
def onAll : Vec F S1x256 .f32 × Vec F S8x256 .f32 × Vec F S128x256 .f32 :=
  on a k (k0_pay26 (rowsAt x5 k)) (k0_pay27 (lanesAt x8 k)) x6 x7 (bias x8) (k0_t5_loop k).trips

/-- Query tile `k` of the two results. -/
def oTile : FVec F S1x256x128 .bf16 :=
  if badWord a b s x5 x6 x7 x8 k = 1#1 then k0_pay3 (k0_pay25 (onAll a x5 x6 x7 x8 k).2.2 (onAll a x5 x6 x7 x8 k).2.1) x9
  else k0_pay44 (lOf a b s x5 x6 x7 x8 k) (oOf a b s x5 x6 x7 x8 k) x9
def lseTile : FVec F S1x1x1x256 .f32 :=
  if badWord a b s x5 x6 x7 x8 k = 1#1 then k0_pay4 (k0_pay24 (onAll a x5 x6 x7 x8 k).2.1) (onAll a x5 x6 x7 x8 k).1
  else k0_pay45 (lOf a b s x5 x6 x7 x8 k)

end tile

section point

variable (i : grid0.Coords) (x2 : Vec F S4096 .i32) (x3 : Vec F S64 .f32) (x4 : Vec F S4096 .f32) (x5 x6 : Vec F S1x1x16384x128 .fp8e4m3)
  (x7 : Vec F S1x1x128x16384 .fp8e4m3) (x8 : Vec F S1x1x1x16384 .f32) (x9 : Vec F S1x1x1x128 .f32)

/-- The scale of grid point `i`; the first tile and the base of its query tile `k`. -/
def scaleOf : F .f32 := k0_pay1 (x3 (ix1 ⟨(32 * (i 0).val + (i 1).val) % 64, Nat.mod_lt _ (by norm_num)⟩))
def startOf (k : ℕ) : BitVec 32 := x2 (ix1 ⟨(2048 * (i 0).val + 64 * (i 1).val + k) % 4096, Nat.mod_lt _ (by norm_num)⟩)
def baseOf (k : ℕ) : F .f32 := x4 (ix1 ⟨(2048 * (i 0).val + 64 * (i 1).val + k) % 4096, Nat.mod_lt _ (by norm_num)⟩)

/-- The two result blocks of grid point `i`. -/
def oBlock : FVec F S1x16384x128 .bf16 := fun y =>
  oTile (scaleOf i x3) (baseOf i x4 ((y 1).val / 256)) (startOf i x2 ((y 1).val / 256)) x5 x6 x7 x8 x9
    ⟨(y 1).val / 256, by rw [trips_t2]; have : (y 1).val < 16384 := (y 1).isLt; omega⟩
    (ix3 (y 0) ⟨(y 1).val % 256, Nat.mod_lt _ (by norm_num)⟩ (y 2))
def lseBlock : FVec F S1x1x1x16384 .f32 := fun y =>
  lseTile (scaleOf i x3) (baseOf i x4 ((y 3).val / 256)) (startOf i x2 ((y 3).val / 256)) x5 x6 x7 x8
    ⟨(y 3).val / 256, by rw [trips_t2]; have : (y 3).val < 16384 := (y 3).isLt; omega⟩
    (ix4 (y 0) (y 1) (y 2) ⟨(y 3).val % 256, Nat.mod_lt _ (by norm_num)⟩)

end point

end Cert.KernelIdeal.Body

end
-- ==== Proof.Ideal.Trips.lean ====
/- What the word that names a query tile's first key tile decides: the number of trips of the loop over the tiles left
   of the diagonal, the tile that each trip reads, and the condition that the body assumes of the word. -/
module

public import proofs.«01_k».proof.Proof.Ideal.Fns
public import Idealize.ShloMosaic.Lib.Affine

@[expose] public section

namespace Cert.KernelIdeal.Body

open Idealize.ShloMosaic Idealize.SL.Sem
open Cert.KernelIdeal.Gen

/-- A query tile's number is below 64. -/
theorem tile_lt (k : Fin k0_t2_loop.trips) : k.val < 64 := lt_of_lt_of_eq k.isLt trips_t2

/-- The query tile's number as a word. -/
theorem tile_isInt (k : Fin k0_t2_loop.trips) : Affine.IsInt (Scf.iv 0#32 1#32 k) (k.val : Int) :=
  Affine.iv (Affine.ofNat (e := 0) 0 (by omega)) (Affine.ofNat (e := 1) 1 (by omega)) k.val (by have := tile_lt k; omega)

section word

variable (k : Fin k0_t2_loop.trips) (s : BitVec 32) (hs : 0 ≤ s.toInt)

include hs

/-- A nonnegative word reads the same signed and unsigned. -/
theorem word_isInt : Affine.IsInt s (s.toNat : Int) := by
  have h := Affine.word s
  exact Affine.relit h (Affine.toNat_of h hs).symm

theorem word_lt : (s.toNat : Int) < 2 ^ 31 := by
  have h := Affine.toNat_of (Affine.word s) hs
  have := (Affine.word_range s).2
  omega

/-- The loop's upper bound is the query tile. -/
theorem ub_isInt : Affine.IsInt (k0_t3_loop k s).ub (k.val : Int) := by
  have hk := tile_lt k
  have hw := word_lt s hs
  have h1 : Affine.IsInt 1#32 (1) := Affine.ofNat _ (by omega)
  have h35 : Affine.IsInt _ ((k.val : Int) - s.toNat) := Affine.subi (tile_isInt k) (word_isInt s hs) (by omega)
  have h37 : Affine.IsInt _ ((k.val : Int) - s.toNat) := Affine.divsi_one h35 h1 (by omega)
  have h38 : Affine.IsInt _ ((k.val : Int) - s.toNat) := Affine.muli h37 h1 (by omega)
  exact Affine.addi (word_isInt s hs) h38 (by omega)

/-- The loop over the tiles left of the diagonal runs over the tiles `s … k - 1`. -/
theorem trips_t3 : (k0_t3_loop k s).trips = k.val - s.toNat := by
  have h1 : Affine.IsInt 1#32 (1) := Affine.ofNat _ (by omega)
  have hk := tile_lt k
  have hw := word_lt s hs
  rcases Nat.lt_or_ge k.val s.toNat with h | h
  · have : (k0_t3_loop k s).trips ≤ 0 := Affine.trips_le (word_isInt s hs) (ub_isInt k s hs) h1 0 ⟨by omega, by rw [Int.ediv_one]; omega⟩
    omega
  · exact Affine.trips_eq (word_isInt s hs) (ub_isInt k s hs) h1 _ ⟨by omega, by rw [Int.ediv_one]; omega⟩

theorem ok_t3 : (k0_t3_loop k s).OK := by
  have hk := tile_lt k
  have hw := word_lt s hs
  exact Affine.ok (word_isInt s hs) (ub_isInt k s hs) (Affine.ofNat (e := 1) 1 (by omega)) ⟨by omega, by rw [Int.ediv_one]; omega⟩

/-- Its trip `n` is at tile `s + n`, before the query tile. -/
theorem tile_t3 (n : Fin (k0_t3_loop k s).trips) : s.toNat + n.val < k.val := by
  have := lt_of_lt_of_eq n.isLt (trips_t3 k s hs); omega

theorem iv_t3 (n : Fin (k0_t3_loop k s).trips) : Affine.IsInt (Scalar.muli (Scf.iv s 1#32 n) 256#32) (256 * ((s.toNat + n.val : ℕ) : Int)) := by
  have hk := tile_lt k
  have hn := tile_t3 k s hs n
  exact Affine.muli (Affine.iv (e := ((s.toNat + n.val : ℕ) : Int)) (word_isInt s hs) (Affine.ofNat (e := 1) 1 (by omega)) n.val (by push_cast; omega))
    (Affine.ofNat (e := 256) 256 (by omega)) (by omega)

theorem off7_eq (n : Fin (k0_t3_loop k s).trips) : k0_off7 k s n = ![0, 0, 256 * (s.toNat + n.val), 0] :=
  Affine.vec_cons (Affine.ofNat 0 (by omega) : Affine.IsInt 0#32 0) (by omega) <| Affine.vec_cons (Affine.ofNat 0 (by omega) : Affine.IsInt 0#32 0) (by omega) <|
    Affine.vec_cons (Affine.indexCast (iv_t3 k s hs n)) (by push_cast; omega) rfl
theorem off8_eq (n : Fin (k0_t3_loop k s).trips) : k0_off8 k s n = ![256 * (s.toNat + n.val), 0] :=
  Affine.vec_cons (Affine.indexCast (iv_t3 k s hs n)) (by push_cast; omega) rfl
theorem off9_eq (n : Fin (k0_t3_loop k s).trips) : k0_off9 k s n = ![0, 0, 0, 256 * (s.toNat + n.val)] :=
  Affine.vec_cons (Affine.ofNat 0 (by omega) : Affine.IsInt 0#32 0) (by omega) <| Affine.vec_cons (Affine.ofNat 0 (by omega) : Affine.IsInt 0#32 0) (by omega) <|
    Affine.vec_cons (Affine.ofNat 0 (by omega) : Affine.IsInt 0#32 0) (by omega) <| Affine.vec_cons (Affine.indexCast (iv_t3 k s hs n)) (by push_cast; omega) rfl

/-- The remainder loop after it has no trips. -/
theorem trips_t4 : (k0_t4_loop k s).trips = 0 := by
  have h1 : Affine.IsInt 1#32 (1) := Affine.ofNat _ (by omega)
  have hk := tile_lt k
  have hw := word_lt s hs
  have h35 : Affine.IsInt _ ((k.val : Int) - s.toNat) := Affine.subi (tile_isInt k) (word_isInt s hs) (by omega)
  have hub : Affine.IsInt (k0_t4_loop k s).ub (k.val : Int) := Affine.addi (word_isInt s hs) h35 (by omega)
  have : (k0_t4_loop k s).trips ≤ 0 := Affine.trips_le (ub_isInt k s hs) hub h1 0 ⟨by omega, by rw [Int.ediv_one]; omega⟩
  omega

theorem ok_t4 : (k0_t4_loop k s).OK := by
  have h1 : Affine.IsInt 1#32 (1) := Affine.ofNat _ (by omega)
  have hk := tile_lt k
  have hw := word_lt s hs
  have h35 : Affine.IsInt _ ((k.val : Int) - s.toNat) := Affine.subi (tile_isInt k) (word_isInt s hs) (by omega)
  have hub : Affine.IsInt (k0_t4_loop k s).ub (k.val : Int) := Affine.addi (word_isInt s hs) h35 (by omega)
  exact Affine.ok (ub_isInt k s hs) hub h1 ⟨by omega, by rw [Int.ediv_one]; omega⟩

theorem no_t4 (n : Fin (k0_t4_loop k s).trips) : False := by
  have := lt_of_lt_of_eq n.isLt (trips_t4 k s hs); omega

/-- What the body assumes of the word holds of every nonnegative one. -/
theorem chk1 : k0_chk1 k s := by
  have hk := tile_lt k
  refine ⟨ok_t3 k s hs, fun n => ?_, fun n => ?_, fun n => ?_, fun n => ?_, ok_t4 k s hs,
    fun n => (no_t4 k s hs n).elim, fun n => (no_t4 k s hs n).elim, fun n => (no_t4 k s hs n).elim, fun n => (no_t4 k s hs n).elim⟩
  · exact Affine.dvd_of (iv_t3 k s hs n) 256 ⟨⟨_, rfl⟩, by positivity⟩
  all_goals have hn := tile_t3 k s hs n
  · rw [off7_eq k s hs n]; intro a; fin_cases a <;> simp [S1x1x256x128, S1x1x16384x128] <;> omega
  · rw [off8_eq k s hs n]; intro a; fin_cases a <;> simp [S256x128, S16384x128] <;> omega
  · rw [off9_eq k s hs n]; intro a; fin_cases a <;> simp [S1x1x128x256, S1x1x128x16384] <;> omega

end word

/-- The running-maximum loop of query tile `k` runs over the tiles `0 … k`. -/
theorem trips_t5 : ∀ k : Fin k0_t2_loop.trips, (k0_t5_loop k).trips = k.val + 1 := by decide +kernel

/-- The remainder loop after it has no trips. -/
theorem no_t6 (k : Fin k0_t2_loop.trips) (n : Fin (k0_t6_loop k).trips) : False :=
  absurd n.isLt (Nat.not_lt.2 (Nat.le_trans (k0_t6_abs k).2.1 (Nat.zero_le _)))

end Cert.KernelIdeal.Body

end
-- ==== Proof.Ideal.LoopOff.lean ====
/- The loop over the key tiles left of the diagonal. -/
module

public import proofs.«01_k».proof.Proof.Ideal.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow

@[expose] public section

set_option maxRecDepth 8192

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra: the frame kit's. -/
local notation "𝕄" => MT nD τ sig Unit (Elt F) ℕ (UR sig nD τ) ℕ

/-- The tiles that a trip's loads read. -/
theorem ld_rows {e : EltTy} (x : Vec F S1x1x16384x128 e) (j : ℕ) (hj : j < 64) {off : Fin 4 → ℕ}
    (inb : ∀ a, off a + S1x1x256x128.size a ≤ S1x1x16384x128.size a) (ho : off = ![0, 0, 256 * j, 0]) :
    View.ld (Val := Elt F) x (Rect.unit (s := S1x1x16384x128) off S1x1x256x128.size inb) = rowsAt x j := by
  subst ho
  funext y
  have h : (y 2).val < 256 := (y 2).isLt
  refine View.ld_unit_apply_of x _ _ inb y _ fun a => ?_
  fin_cases a
  · show (y 0).val = 0 + (y 0).val; omega
  · show (y 1).val = 0 + (y 1).val; omega
  · show (256 * j + (y 2).val) % 16384 = 256 * j + (y 2).val; omega
  · show (y 3).val = 0 + (y 3).val; omega

theorem ld_cols {e : EltTy} (x : Vec F S1x1x128x16384 e) (j : ℕ) (hj : j < 64) {off : Fin 4 → ℕ}
    (inb : ∀ a, off a + S1x1x128x256.size a ≤ S1x1x128x16384.size a) (ho : off = ![0, 0, 0, 256 * j]) :
    View.ld (Val := Elt F) x (Rect.unit (s := S1x1x128x16384) off S1x1x128x256.size inb) = colsAt x j := by
  subst ho
  funext y
  have h : (y 3).val < 256 := (y 3).isLt
  refine View.ld_unit_apply_of x _ _ inb y _ fun a => ?_
  fin_cases a
  · show (y 0).val = 0 + (y 0).val; omega
  · show (y 1).val = 0 + (y 1).val; omega
  · show (y 2).val = 0 + (y 2).val; omega
  · show (256 * j + (y 3).val) % 16384 = 256 * j + (y 3).val; omega

theorem ld_lanes {e : EltTy} (x : Vec F S1x1x1x16384 e) (j : ℕ) (hj : j < 64) {off : Fin 4 → ℕ}
    (inb : ∀ a, off a + S1x1x1x256.size a ≤ S1x1x1x16384.size a) (ho : off = ![0, 0, 0, 256 * j]) :
    View.ld (Val := Elt F) x (Rect.unit (s := S1x1x1x16384) off S1x1x1x256.size inb) = lanesAt x j := by
  subst ho
  funext y
  have h : (y 3).val < 256 := (y 3).isLt
  refine View.ld_unit_apply_of x _ _ inb y _ fun a => ?_
  fin_cases a
  · show (y 0).val = 0 + (y 0).val; omega
  · show (y 1).val = 0 + (y 1).val; omega
  · show (y 2).val = 0 + (y 2).val; omega
  · show (256 * j + (y 3).val) % 16384 = 256 * j + (y 3).val; omega

theorem ld_bias {e : EltTy} (x : Vec F S16384x128 e) (j : ℕ) (hj : j < 64) {off : Fin 2 → ℕ}
    (inb : ∀ a, off a + S256x128.size a ≤ S16384x128.size a) (ho : off = ![256 * j, 0]) :
    View.ld (Val := Elt F) x (Rect.unit (s := S16384x128) off S256x128.size inb) = biasAt x j := by
  subst ho
  funext y
  have h : (y 0).val < 256 := (y 0).isLt
  refine View.ld_unit_apply_of x _ _ inb y _ fun a => ?_
  fin_cases a
  · show (256 * j + (y 0).val) % 16384 = 256 * j + (y 0).val; omega
  · show (y 1).val = 0 + (y 1).val; omega

/-- A load of a whole buffer reads its contents. -/
theorem ld_full {e : EltTy} {S : Shape} (x : S.Idx → Elt F e) {off : Fin S.rank → ℕ} (inb : ∀ a, off a + S.size a ≤ S.size a) :
    View.ld (Val := Elt F) x (Rect.unit (s := S) off S.size inb) = x := by
  funext y
  refine View.ld_unit_apply_of x _ _ inb y _ fun a => ?_
  have := inb a; show (y a).val = off a + (y a).val; omega

variable (𝒱 : Variants) (c : Dev nD) (bd : Option 𝒱.V) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

set_option maxHeartbeats 1000000 in
/-- One trip of the loop over the tiles left of the diagonal. -/
theorem trip_t3 (E : Set ℕ) (v1 : BitVec 32) (a : F .f32) (k : Fin k0_t2_loop.trips) (q : Vec F S1x1x256x128 .fp8e4m3) (b : Elt F .f32)
    (s : Elt F .i32) (hs : (0 : ℤ) ≤ BitVec.toInt s) (hw : k0_chk1 k s) (X6 : BufTy.Contents (Elt F) arg6.view.ty) (X7 : BufTy.Contents (Elt F) arg7.view.ty) (X12 : BufTy.Contents (Elt F) arg12.view.ty) (f13 : BufTy.Contents (Elt F) arg13.view.ty) (f14 : BufTy.Contents (Elt F) arg14.view.ty)
    (n : Fin (k0_t3_loop k s).trips) (acc : BitVec 32)
    (h14 : (arg14.view.read (Elt F) f14) = (off a q b (arg6.view.read (Elt F) X6) (arg7.view.read (Elt F) X7) (arg12.view.read (Elt F) X12) (BitVec.toNat s) n.val).1)
    (h13 : (arg13.view.read (Elt F) f13) = (off a q b (arg6.view.read (Elt F) X6) (arg7.view.read (Elt F) X7) (arg12.view.read (Elt F) X12) (BitVec.toNat s) n.val).2) :
    (iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v1 a 0#32 1#32 k q b s hw n acc)
          fun _ => iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ ∃ f g, (arg13.view.loc (c : Thread nD τ) ↦[arg13.view.set]{fullShare} f) ∗ (arg14.view.loc (c : Thread nD τ) ↦[arg14.view.set]{fullShare} g) ∗
            ⌜(arg14.view.read (Elt F) g) = (off a q b (arg6.view.read (Elt F) X6) (arg7.view.read (Elt F) X7) (arg12.view.read (Elt F) X12) (BitVec.toNat s) (n.val + 1)).1
              ∧ (arg13.view.read (Elt F) f) = (off a q b (arg6.view.read (Elt F) X6) (arg7.view.read (Elt F) X7) (arg12.view.read (Elt F) X12) (BitVec.toNat s) (n.val + 1)).2⌝) := by
  have hk := tile_lt k
  have hn := tile_t3 k s hs n
  have o7 : ClosedOff (k0_off7 k s n) := ⟨_, off7_eq k s hs n⟩
  have o8 : ClosedOff (k0_off8 k s n) := ⟨_, off8_eq k s hs n⟩
  have o9 : ClosedOff (k0_off9 k s n) := ⟨_, off9_eq k s hs n⟩
  have e6 := ld_rows (arg6.view.read (Elt F) X6) (BitVec.toNat s + n.val) (by omega) (k0_off7_inb k s hw n) (off7_eq k s hs n)
  have e12 := ld_bias (arg12.view.read (Elt F) X12) (BitVec.toNat s + n.val) (by omega) (k0_off8_inb k s hw n) (off8_eq k s hs n)
  have e7 := ld_cols (arg7.view.read (Elt F) X7) (BitVec.toNat s + n.val) (by omega) (k0_off9_inb k s hw n) (off9_eq k s hs n)
  unfold k0_t3_body
  iintro ⟨H6, H7, H12, H13, H14⟩
  sl_exec
  sl_step
  isplitl [H6]; · iexact H6
  isplitl [H7]; · iexact H7
  isplitl [H12]; · iexact H12
  iexists _, _; isplitl [H13]; · iexact H13
  isplitl [H14]; · iexact H14
  ipureintro
  refine ⟨?_, ?_⟩
  · rw [off, View.read_writes_full, View.readAt_eq_ld, ld_full, h14]
  · rw [off, View.read_writes_full, View.readAt_eq_ld, ld_full, h13]

end Cert.KernelIdeal.Body

end
-- ==== Proof.Ideal.LoopOn.lean ====
/- The loop over all key tiles up to the diagonal, with the running maximum. -/
module

public import proofs.«01_k».proof.Proof.Ideal.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow
public import proofs.«01_k».proof.Proof.Ideal.LoopOff

@[expose] public section

set_option maxRecDepth 8192

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra: the frame kit's. -/
local notation "𝕄" => MT nD τ sig Unit (Elt F) ℕ (UR sig nD τ) ℕ

variable (𝒱 : Variants) (c : Dev nD) (bd : Option 𝒱.V) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

set_option maxHeartbeats 1000000 in
/-- One trip of the running-maximum loop. -/
theorem trip_t5 (E : Set ℕ) (a : F .f32) (k : Fin k0_t2_loop.trips) (arg16 : BitVec 32) (q : FVec F S256x128 .fp8e4m3) (ci : FVec F S1x256 .f32)
    (X6 : BufTy.Contents (Elt F) arg6.view.ty) (X7 : BufTy.Contents (Elt F) arg7.view.ty) (X12 : BufTy.Contents (Elt F) arg12.view.ty) (f13 : BufTy.Contents (Elt F) arg13.view.ty) (f14 : BufTy.Contents (Elt F) arg14.view.ty) (f15 : BufTy.Contents (Elt F) arg15.view.ty)
    (n : Fin (k0_t5_loop k).trips) (acc : BitVec 32)
    (h15 : (arg15.view.read (Elt F) f15) = (on a k q ci (arg6.view.read (Elt F) X6) (arg7.view.read (Elt F) X7) (arg12.view.read (Elt F) X12) n.val).1)
    (h14 : (arg14.view.read (Elt F) f14) = (on a k q ci (arg6.view.read (Elt F) X6) (arg7.view.read (Elt F) X7) (arg12.view.read (Elt F) X12) n.val).2.1)
    (h13 : (arg13.view.read (Elt F) f13) = (on a k q ci (arg6.view.read (Elt F) X6) (arg7.view.read (Elt F) X7) (arg12.view.read (Elt F) X12) n.val).2.2) :
    (iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 a keyIota qryIota k arg16 (tileWord k) q ci n acc)
          fun _ => iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ ∃ f g h, (arg13.view.loc (c : Thread nD τ) ↦[arg13.view.set]{fullShare} f) ∗ (arg14.view.loc (c : Thread nD τ) ↦[arg14.view.set]{fullShare} g) ∗ (arg15.view.loc (c : Thread nD τ) ↦[arg15.view.set]{fullShare} h) ∗
            ⌜(arg15.view.read (Elt F) h) = (on a k q ci (arg6.view.read (Elt F) X6) (arg7.view.read (Elt F) X7) (arg12.view.read (Elt F) X12) (n.val + 1)).1
              ∧ (arg14.view.read (Elt F) g) = (on a k q ci (arg6.view.read (Elt F) X6) (arg7.view.read (Elt F) X7) (arg12.view.read (Elt F) X12) (n.val + 1)).2.1
              ∧ (arg13.view.read (Elt F) f) = (on a k q ci (arg6.view.read (Elt F) X6) (arg7.view.read (Elt F) X7) (arg12.view.read (Elt F) X12) (n.val + 1)).2.2⌝) := by
  have hk := tile_lt k
  have hn : n.val < 64 := by have := lt_of_lt_of_eq n.isLt (trips_t5 k); omega
  have e6 := ld_rows (arg6.view.read (Elt F) X6) n.val hn (k0_off18_inb k n) (k0_off18_eq k n)
  have e12 := ld_bias (arg12.view.read (Elt F) X12) n.val hn (k0_off19_inb k n) (k0_off19_eq k n)
  have e7 := ld_cols (arg7.view.read (Elt F) X7) n.val hn (k0_off20_inb k n) (k0_off20_eq k n)
  have es : (on a k q ci (arg6.view.read (Elt F) X6) (arg7.view.read (Elt F) X7) (arg12.view.read (Elt F) X12) (n.val + 1)) = onStep a k q ci n (rowsAt (arg6.view.read (Elt F) X6) n.val) (biasAt (arg12.view.read (Elt F) X12) n.val) (colsAt (arg7.view.read (Elt F) X7) n.val) (on a k q ci (arg6.view.read (Elt F) X6) (arg7.view.read (Elt F) X7) (arg12.view.read (Elt F) X12) n.val) := by
    rw [on]; exact dif_pos n.isLt
  have r13 : View.readAt (Elt F) arg13.view (Rect.unit (s := S128x256) ![0, 0] S128x256.size inb_S128x256_S128x256_0_0).toLoadRect f13 = _ :=
    (ld_full (arg13.view.read (Elt F) f13) inb_S128x256_S128x256_0_0).trans h13
  have r14 : View.readAt (Elt F) arg14.view (Rect.unit (s := S8x256) ![0, 0] S8x256.size inb_S8x256_S8x256_0_0).toLoadRect f14 = _ :=
    (ld_full (arg14.view.read (Elt F) f14) inb_S8x256_S8x256_0_0).trans h14
  have r15 : View.readAt (Elt F) arg15.view (Rect.unit (s := S1x256) ![0, 0] S1x256.size inb_S1x256_S1x256_0_0).toLoadRect f15 = _ :=
    (ld_full (arg15.view.read (Elt F) f15) inb_S1x256_S1x256_0_0).trans h15
  rw [es]
  unfold k0_t5_body
  simp only [k0_part1_eq_skeleton]
  unfold k0_part1_skel
  iintro ⟨H6, H7, H12, H13, H14, H15⟩
  sl_exec
  sl_step
  isplitl [H6]; · iexact H6
  isplitl [H7]; · iexact H7
  isplitl [H12]; · iexact H12
  iexists _, _, _; isplitl [H13]; · iexact H13
  isplitl [H14]; · iexact H14
  isplitl [H15]; · iexact H15
  ipureintro
  refine ⟨?_, ?_, ?_⟩
  all_goals exact (View.read_writes_full _ _ _ _ _).trans rfl

end Cert.KernelIdeal.Body

end
-- ==== Proof.Ideal.Tile.lean ====
/- One trip of the loop over the query tiles. -/
module

public import proofs.«01_k».proof.Proof.Ideal.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow
public import proofs.«01_k».proof.Proof.Ideal.LoopOn

@[expose] public section

set_option maxRecDepth 8192

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra: the frame kit's. -/
local notation "𝕄" => MT nD τ sig Unit (Elt F) ℕ (UR sig nD τ) ℕ

/-- A load of one word of a table. -/
theorem ld_word {e : EltTy} (x : Vec F S4096 e) (n : ℕ) (hn : n < 4096) {off : Fin 1 → ℕ}
    (inb : ∀ a, off a + S1.size a ≤ S4096.size a) (ho : off = ![n]) (y : S1.Idx) :
    View.ld (Val := Elt F) x (Rect.unit (s := S4096) off S1.size inb) y = x (ix1 ⟨n % 4096, Nat.mod_lt _ (by norm_num)⟩) := by
  subst ho
  have h : (y 0).val < 1 := (y 0).isLt
  refine View.ld_unit_apply_of x _ _ inb y _ fun a => ?_
  fin_cases a
  show n % 4096 = n + (y 0).val; omega

/-- Storing query tile `k` of the first result over a buffer that holds the tiles before it. -/
theorem o_step (v : View sig .tc .vmem S1x16384x128 .bf16) (f : v.ty.Contents (Elt F)) (Z : FVec F S1x16384x128 .bf16)
    (k : ℕ) (hk : k < 64) {off : Fin 3 → ℕ} (inb : ∀ a, off a + S1x256x128.size a ≤ S1x16384x128.size a) (ho : off = ![0, 256 * k, 0])
    (w : FVec F S1x256x128 .bf16)
    (hZ : ∀ y : S1x16384x128.Idx, (y 1).val / 256 = k → Z y = w (ix3 (y 0) ⟨(y 1).val % 256, Nat.mod_lt _ (by norm_num)⟩ (y 2)))
    (L : List (View.Piece (Elt F) S1x16384x128 .bf16))
    (hf : ∀ y : S1x16384x128.Idx, (y 1).val < 256 * k → v.read (Elt F) (v.writes (Elt F) f L) y = Z y) :
    ∀ y : S1x16384x128.Idx, (y 1).val < 256 * (k + 1) →
      v.read (Elt F) (v.writes (Elt F) f (⟨Rect.unit (s := S1x16384x128) off S1x256x128.size inb, w⟩ :: L)) y = Z y := by
  intro y hy
  by_cases h : (y 1).val < 256 * k
  · rw [View.read_writes_cons_unit_of_not_mem v f inb w L y ho (1 : Fin 3) (.inl h)]
    exact hf y h
  · have hd : (y 1).val / 256 = k := by omega
    have hx0 : (y 1).val % 256 < 256 := Nat.mod_lt _ (by norm_num)
    rw [View.read_writes_cons_unit_of_mem v f inb w L y (ix3 (n0 := 1) (n1 := 256) (n2 := 128) (y 0) ⟨(y 1).val % 256, hx0⟩ (y 2)) ho
      (by
        intro a; fin_cases a
        · show (y 0).val = 0 + (y 0).val; omega
        · show (y 1).val = 256 * k + (y 1).val % 256; omega
        · show (y 2).val = 0 + (y 2).val; omega)]
    exact (hZ y hd).symm

/-- Such a store leaves the tiles before it as they were. -/
theorem o_keep (v : View sig .tc .vmem S1x16384x128 .bf16) (f : v.ty.Contents (Elt F)) (Z : FVec F S1x16384x128 .bf16)
    (k : ℕ) {off : Fin 3 → ℕ} (inb : ∀ a, off a + S1x256x128.size a ≤ S1x16384x128.size a) (ho : off = ![0, 256 * k, 0])
    (w : FVec F S1x256x128 .bf16)
    (hf : ∀ y : S1x16384x128.Idx, (y 1).val < 256 * k → v.read (Elt F) f y = Z y) :
    ∀ y : S1x16384x128.Idx, (y 1).val < 256 * k →
      v.read (Elt F) (v.writes (Elt F) f [⟨Rect.unit (s := S1x16384x128) off S1x256x128.size inb, w⟩]) y = Z y := by
  intro y hy
  rw [View.read_writes_cons_unit_of_not_mem v f inb w [] y ho (1 : Fin 3) (.inl hy)]
  exact hf y hy

/-- The same of the second result. -/
theorem lse_step (v : View sig .tc .vmem S1x1x1x16384 .f32) (f : v.ty.Contents (Elt F)) (Z : FVec F S1x1x1x16384 .f32)
    (k : ℕ) (hk : k < 64) {off : Fin 4 → ℕ} (inb : ∀ a, off a + S1x1x1x256.size a ≤ S1x1x1x16384.size a) (ho : off = ![0, 0, 0, 256 * k])
    (w : FVec F S1x1x1x256 .f32)
    (hZ : ∀ y : S1x1x1x16384.Idx, (y 3).val / 256 = k → Z y = w (ix4 (y 0) (y 1) (y 2) ⟨(y 3).val % 256, Nat.mod_lt _ (by norm_num)⟩))
    (L : List (View.Piece (Elt F) S1x1x1x16384 .f32))
    (hf : ∀ y : S1x1x1x16384.Idx, (y 3).val < 256 * k → v.read (Elt F) (v.writes (Elt F) f L) y = Z y) :
    ∀ y : S1x1x1x16384.Idx, (y 3).val < 256 * (k + 1) →
      v.read (Elt F) (v.writes (Elt F) f (⟨Rect.unit (s := S1x1x1x16384) off S1x1x1x256.size inb, w⟩ :: L)) y = Z y := by
  intro y hy
  by_cases h : (y 3).val < 256 * k
  · rw [View.read_writes_cons_unit_of_not_mem v f inb w L y ho (3 : Fin 4) (.inl h)]
    exact hf y h
  · have hd : (y 3).val / 256 = k := by omega
    have hx0 : (y 3).val % 256 < 256 := Nat.mod_lt _ (by norm_num)
    rw [View.read_writes_cons_unit_of_mem v f inb w L y (ix4 (n0 := 1) (n1 := 1) (n2 := 1) (n3 := 256) (y 0) (y 1) (y 2) ⟨(y 3).val % 256, hx0⟩) ho
      (by
        intro a; fin_cases a
        · show (y 0).val = 0 + (y 0).val; omega
        · show (y 1).val = 0 + (y 1).val; omega
        · show (y 2).val = 0 + (y 2).val; omega
        · show (y 3).val = 256 * k + (y 3).val % 256; omega)]
    exact (hZ y hd).symm

/-- Such a store leaves the tiles before it as they were. -/
theorem lse_keep (v : View sig .tc .vmem S1x1x1x16384 .f32) (f : v.ty.Contents (Elt F)) (Z : FVec F S1x1x1x16384 .f32)
    (k : ℕ) {off : Fin 4 → ℕ} (inb : ∀ a, off a + S1x1x1x256.size a ≤ S1x1x1x16384.size a) (ho : off = ![0, 0, 0, 256 * k])
    (w : FVec F S1x1x1x256 .f32)
    (hf : ∀ y : S1x1x1x16384.Idx, (y 3).val < 256 * k → v.read (Elt F) f y = Z y) :
    ∀ y : S1x1x1x16384.Idx, (y 3).val < 256 * k →
      v.read (Elt F) (v.writes (Elt F) f [⟨Rect.unit (s := S1x1x1x16384) off S1x1x1x256.size inb, w⟩]) y = Z y := by
  intro y hy
  rw [View.read_writes_cons_unit_of_not_mem v f inb w [] y ho (3 : Fin 4) (.inl hy)]
  exact hf y hy

/-- What the loop over the tiles left of the diagonal keeps: the sums of the tiles so far. -/
def offInv (c : Dev nD) (arg6 : Memref sig .tc .vmem S1x1x16384x128 .fp8e4m3)  (arg7 : Memref sig .tc .vmem S1x1x128x16384 .fp8e4m3)  (arg12 : Memref sig .tc .vmem S16384x128 .f32)  (arg13 : Memref sig .tc .vmem S128x256 .f32)  (arg14 : Memref sig .tc .vmem S8x256 .f32) (a : F .f32) (q : Vec F S1x1x256x128 .fp8e4m3) (b : Elt F .f32) (s : BitVec 32)
    (X6 : BufTy.Contents (Elt F) arg6.view.ty) (X7 : BufTy.Contents (Elt F) arg7.view.ty) (X12 : BufTy.Contents (Elt F) arg12.view.ty) (n : ℕ) (_ : BitVec 32) : sProp 𝕄 :=
  iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ ∃ f g, (arg13.view.loc (c : Thread nD τ) ↦[arg13.view.set]{fullShare} f) ∗ (arg14.view.loc (c : Thread nD τ) ↦[arg14.view.set]{fullShare} g) ∗
    ⌜(arg14.view.read (Elt F) g) = (off a q b (arg6.view.read (Elt F) X6) (arg7.view.read (Elt F) X7) (arg12.view.read (Elt F) X12) s.toNat n).1
      ∧ (arg13.view.read (Elt F) f) = (off a q b (arg6.view.read (Elt F) X6) (arg7.view.read (Elt F) X7) (arg12.view.read (Elt F) X12) s.toNat n).2⌝)

/-- What the running-maximum loop keeps: its state so far. -/
def onInv (c : Dev nD) (arg6 : Memref sig .tc .vmem S1x1x16384x128 .fp8e4m3)  (arg7 : Memref sig .tc .vmem S1x1x128x16384 .fp8e4m3)  (arg12 : Memref sig .tc .vmem S16384x128 .f32)  (arg13 : Memref sig .tc .vmem S128x256 .f32)  (arg14 : Memref sig .tc .vmem S8x256 .f32)  (arg15 : Memref sig .tc .vmem S1x256 .f32) (a : F .f32) (k : Fin k0_t2_loop.trips) (q : FVec F S256x128 .fp8e4m3) (ci : FVec F S1x256 .f32)
    (X6 : BufTy.Contents (Elt F) arg6.view.ty) (X7 : BufTy.Contents (Elt F) arg7.view.ty) (X12 : BufTy.Contents (Elt F) arg12.view.ty) (n : ℕ) (_ : BitVec 32) : sProp 𝕄 :=
  iprop((arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ ∃ f g h, (arg13.view.loc (c : Thread nD τ) ↦[arg13.view.set]{fullShare} f) ∗ (arg14.view.loc (c : Thread nD τ) ↦[arg14.view.set]{fullShare} g) ∗ (arg15.view.loc (c : Thread nD τ) ↦[arg15.view.set]{fullShare} h) ∗
    ⌜(arg15.view.read (Elt F) h) = (on a k q ci (arg6.view.read (Elt F) X6) (arg7.view.read (Elt F) X7) (arg12.view.read (Elt F) X12) n).1
      ∧ (arg14.view.read (Elt F) g) = (on a k q ci (arg6.view.read (Elt F) X6) (arg7.view.read (Elt F) X7) (arg12.view.read (Elt F) X12) n).2.1
      ∧ (arg13.view.read (Elt F) f) = (on a k q ci (arg6.view.read (Elt F) X6) (arg7.view.read (Elt F) X7) (arg12.view.read (Elt F) X12) n).2.2⌝)

/-- The remainder loop after the running-maximum loop has no trips. -/
theorem trips_t6 (k : Fin k0_t2_loop.trips) : (k0_t6_loop k).trips = 0 :=
  Nat.le_zero.1 (k0_t6_abs k).2.1

variable (𝒱 : Variants) (c : Dev nD) (bd : Option 𝒱.V) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

set_option maxHeartbeats 400000 in
/-- One trip of the loop over the query tiles. -/
theorem trip_t2 (E : Set ℕ) (v3 : Elt F .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X12 : BufTy.Contents (Elt F) arg12.view.ty)
    (ha : k0_pay1 v3 = scaleOf i (arg3.view.read (Elt F) X3)) (h12 : (arg12.view.read (Elt F) X12) = bias (arg8.view.read (Elt F) X8))
    (k : Fin k0_t2_loop.trips) (hs : (0 : ℤ) ≤ (startOf i (arg2.view.read (Elt F) X2) k.val).toInt)
    (f10 : BufTy.Contents (Elt F) arg10.view.ty) (f11 : BufTy.Contents (Elt F) arg11.view.ty) (f13 : BufTy.Contents (Elt F) arg13.view.ty) (f14 : BufTy.Contents (Elt F) arg14.view.ty) (f15 : BufTy.Contents (Elt F) arg15.view.ty)
    (h10 : ∀ y : S1x16384x128.Idx, (y 1).val < 256 * k.val → (arg10.view.read (Elt F) f10) y = oBlock i (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) y)
    (h11 : ∀ y : S1x1x1x16384.Idx, (y 3).val < 256 * k.val → (arg11.view.read (Elt F) f11) y = lseBlock i (arg2.view.read (Elt F) X2) (arg3.view.read (Elt F) X3) (arg4.view.read (Elt F) X4) (arg5.view.read (Elt F) X5) (arg6.view.read (Elt F) X6) (arg7.view.read (Elt F) X7) (arg8.view.read (Elt F) X8) y) :
    (iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 (Scalar.addi (Scalar.muli (BitVec.ofNat 32 (i 0).val) 32#32) (BitVec.ofNat 32 (i 1).val)) v3 keyIota qryIota k ⟨⟩)
          fun _ => iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (∃ f, (arg10.view.loc (c : Thread nD τ) ↦[arg10.view.set]{fullShare} f) ∗ ⌜∀ y : S1x16384x128.Idx, (y 1).val < 256 * (k.val + 1) → (arg10.view.read (Elt F) f) y = oBlock i (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) y⌝)
            ∗ (∃ f, (arg11.view.loc (c : Thread nD τ) ↦[arg11.view.set]{fullShare} f) ∗ ⌜∀ y : S1x1x1x16384.Idx, (y 3).val < 256 * (k.val + 1) → (arg11.view.read (Elt F) f) y = lseBlock i (arg2.view.read (Elt F) X2) (arg3.view.read (Elt F) X3) (arg4.view.read (Elt F) X4) (arg5.view.read (Elt F) X5) (arg6.view.read (Elt F) X6) (arg7.view.read (Elt F) X7) (arg8.view.read (Elt F) X8) y⌝)
            ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) := by
  have hk := tile_lt k
  have hi0 : (i 0).val < 2 := (i 0).isLt
  have hi1 : (i 1).val < 32 := (i 1).isLt
  have hki : 2048 * (i 0).val + 64 * (i 1).val + k.val < 4096 := by omega
  have e5 := ld_rows (arg5.view.read (Elt F) X5) k.val hk (k0_off4_inb k) (k0_off4_eq k)
  have e8 := ld_lanes (arg8.view.read (Elt F) X8) k.val hk (k0_off5_inb k) (k0_off5_eq k)
  have e6 := ld_rows (arg6.view.read (Elt F) X6) k.val hk (k0_off13_inb k) (k0_off13_eq k)
  have e12 := (ld_bias (arg12.view.read (Elt F) X12) k.val hk (k0_off14_inb k) (k0_off14_eq k)).trans (congrArg (fun z => biasAt z k.val) h12)
  have e7 := ld_cols (arg7.view.read (Elt F) X7) k.val hk (k0_off15_inb k) (k0_off15_eq k)
  have e9 := ld_full (arg9.view.read (Elt F) X9) inb_S1x1x1x128_S1x1x1x128_0_0_0_0
  unfold k0_t2_body
  simp only [k0_part4_eq_skeleton]
  unfold k0_part4_skel
  iintro ⟨H2, H4, H5, H6, H7, H8, H9, H12, H10, H11, H13, H14, H15⟩
  have w2 := ld_word (arg2.view.read (Elt F) X2) _ hki (k0_off6_inb i k) (k0_off6_eq i k) (Shape.Idx.first (numel1_S1.symm ▸ Nat.one_pos))
  have w4 := ld_word (arg4.view.read (Elt F) X4) _ hki (k0_off6_inb i k) (k0_off6_eq i k) (Shape.Idx.first (numel1_S1.symm ▸ Nat.one_pos))
  have hchk := chk1 k _ hs
  sl_exec
  have hr : trip_t2.sl.r_1 i arg2 X2 k = startOf i (arg2.view.read (Elt F) X2) k.val := w2
  have hr' : trip_t2.sl.r i arg4 X4 k = baseOf i (arg4.view.read (Elt F) X4) k.val := w4
  rw [hr, hr']
  sl_exec
  simp only [bind_assoc]
  sl_for (offInv c arg6 arg7 arg12 arg13 arg14 (k0_pay1 v3) (rowsAt (arg5.view.read (Elt F) X5) k.val) (baseOf i (arg4.view.read (Elt F) X4) k.val) (startOf i (arg2.view.read (Elt F) X2) k.val) X6 X7 X12) $$ [H6 H7 H12 H13 H14]
  case region =>
    intro n acc
    unfold offInv
    iintro ⟨H6, H7, H12, %f, %g, H13, H14, %h⟩
    iapply (trip_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 E _ (k0_pay1 v3) k _ _ _ hs hchk X6 X7 X12 f g n acc h.1 h.2) $$ [H6 H7 H12 H13 H14]
    isplitl [H6]; · iexact H6
    isplitl [H7]; · iexact H7
    isplitl [H12]; · iexact H12
    isplitl [H13]; · iexact H13
    iexact H14
  · unfold offInv
    isplitl [H6]; · iexact H6
    isplitl [H7]; · iexact H7
    isplitl [H12]; · iexact H12
    iexists _, _; isplitl [H13]; · iexact H13
    isplitl [H14]; · iexact H14
    ipureintro
    exact ⟨View.read_writes_full _ _ _ _ _, View.read_writes_full _ _ _ _ _⟩
  iintro %acc HI
  unfold offInv
  icases HI with ⟨H6, H7, H12, %f13', %f14', H13, H14, %hoff⟩
  sl_exec
  sl_for0 (trips_t4 k _ hs)
  have r13 : View.readAt (Elt F) arg13.view (Rect.unit (s := S128x256) ![0, 0] S128x256.size inb_S128x256_S128x256_0_0).toLoadRect f13' = (offAll (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k).2 :=
    (ld_full (arg13.view.read (Elt F) f13') inb_S128x256_S128x256_0_0).trans (hoff.2.trans (by unfold offAll; rw [h12]))
  have r14 : View.readAt (Elt F) arg14.view (Rect.unit (s := S8x256) ![0, 0] S8x256.size inb_S8x256_S8x256_0_0).toLoadRect f14' = (offAll (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k).1 :=
    (ld_full (arg14.view.read (Elt F) f14') inb_S8x256_S8x256_0_0).trans (hoff.1.trans (by unfold offAll; rw [h12]))
  sl_exec
  simp only [k0_part3_eq_skeleton]
  unfold k0_part3_skel
  have hr4 : trip_t2.sl.r_4 i arg2 arg4 arg5 arg6 arg7 arg8 v3 X2 X4 X5 X6 X7 X8 k = lOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k := by
    unfold trip_t2.sl.r_4 lOf
    rfl
  have hr5 : trip_t2.sl.r_5 i arg2 arg4 arg5 arg6 arg7 arg8 v3 X2 X4 X5 X6 X7 X8 k = oOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k := by
    unfold trip_t2.sl.r_5 oOf
    rfl
  have h124 : trip_t2.sl.v124 i arg2 arg4 arg5 arg6 arg7 arg8 v3 X2 X4 X5 X6 X7 X8 k = Scalar.cmpf .ogt (k0_pay43 (ldOf (k0_pay1 v3) (arg5.view.read (Elt F) X5) (arg6.view.read (Elt F) X6) (arg8.view.read (Elt F) X8) k) (loOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k) (okOf (k0_pay1 v3) (arg5.view.read (Elt F) X5) (arg6.view.read (Elt F) X6) (arg8.view.read (Elt F) X8) k) (Scalar.ofBits .f32 0x71800000#32 : F .f32)) (Scalar.ofBits .f32 0x00000000#32 : F .f32) := by
    rfl
  have hc : Scalar.cmpi CmpIPredicate.ne (Scalar.extui (trip_t2.sl.v124 i arg2 arg4 arg5 arg6 arg7 arg8 v3 X2 X4 X5 X6 X7 X8 k)) 0#32
      = badWord (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k := congrArg (fun z => Scalar.cmpi CmpIPredicate.ne (Scalar.extui z) 0#32) h124
  have hZ10 : ∀ y : S1x16384x128.Idx, (y 1).val / 256 = k.val → oBlock i (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) y = oTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) (arg9.view.read (Elt F) X9) k (ix3 (y 0) ⟨(y 1).val % 256, Nat.mod_lt _ (by norm_num)⟩ (y 2)) := by
    intro y hy; rw [ha]; unfold oBlock; simp only [hy]
  have hZ11 : ∀ y : S1x1x1x16384.Idx, (y 3).val / 256 = k.val → lseBlock i (arg2.view.read (Elt F) X2) (arg3.view.read (Elt F) X3) (arg4.view.read (Elt F) X4) (arg5.view.read (Elt F) X5) (arg6.view.read (Elt F) X6) (arg7.view.read (Elt F) X7) (arg8.view.read (Elt F) X8) y = lseTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k (ix4 (y 0) (y 1) (y 2) ⟨(y 3).val % 256, Nat.mod_lt _ (by norm_num)⟩) := by
    intro y hy; rw [ha]; unfold lseBlock; simp only [hy]
  rw [hc, hr4, hr5]
  by_cases hb : badWord (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k = 1#1
  · rw [if_pos hb]
    sl_exec
    simp only [bind_assoc]
    sl_for (onInv c arg6 arg7 arg12 arg13 arg14 arg15 (k0_pay1 v3) k (k0_pay26 (rowsAt (arg5.view.read (Elt F) X5) k.val)) (k0_pay27 (lanesAt (arg8.view.read (Elt F) X8) k.val)) X6 X7 X12) $$ [H6 H7 H12 H13 H14 H15]
    case region =>
      intro n acc
      unfold onInv
      iintro ⟨H6, H7, H12, %f, %g, %h, H13, H14, H15, %hh⟩
      iapply (trip_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 E (k0_pay1 v3) k _ (k0_pay26 (rowsAt (arg5.view.read (Elt F) X5) k.val)) (k0_pay27 (lanesAt (arg8.view.read (Elt F) X8) k.val)) X6 X7 X12 f g h n acc hh.1 hh.2.1 hh.2.2) $$ [H6 H7 H12 H13 H14 H15]
      isplitl [H6]; · iexact H6
      isplitl [H7]; · iexact H7
      isplitl [H12]; · iexact H12
      isplitl [H13]; · iexact H13
      isplitl [H14]; · iexact H14
      iexact H15
    · unfold onInv
      isplitl [H6]; · iexact H6
      isplitl [H7]; · iexact H7
      isplitl [H12]; · iexact H12
      iexists _, _, _; isplitl [H13]; · iexact H13
      isplitl [H14]; · iexact H14
      isplitl [H15]; · iexact H15
      ipureintro
      exact ⟨View.read_writes_full _ _ _ _ _, View.read_writes_full _ _ _ _ _, View.read_writes_full _ _ _ _ _⟩
    iintro %acc HI
    unfold onInv
    icases HI with ⟨H6, H7, H12, %f13'', %f14'', %f15'', H13, H14, H15, %hon⟩
    have s13 : View.readAt (Elt F) arg13.view (Rect.unit (s := S128x256) ![0, 0] S128x256.size inb_S128x256_S128x256_0_0).toLoadRect f13'' = (onAll (k0_pay1 v3) (arg5.view.read (Elt F) X5) (arg6.view.read (Elt F) X6) (arg7.view.read (Elt F) X7) (arg8.view.read (Elt F) X8) k).2.2 :=
      (ld_full (arg13.view.read (Elt F) f13'') inb_S128x256_S128x256_0_0).trans (hon.2.2.trans (by unfold onAll; rw [h12]))
    have s14 : View.readAt (Elt F) arg14.view (Rect.unit (s := S8x256) ![0, 0] S8x256.size inb_S8x256_S8x256_0_0).toLoadRect f14'' = (onAll (k0_pay1 v3) (arg5.view.read (Elt F) X5) (arg6.view.read (Elt F) X6) (arg7.view.read (Elt F) X7) (arg8.view.read (Elt F) X8) k).2.1 :=
      (ld_full (arg14.view.read (Elt F) f14'') inb_S8x256_S8x256_0_0).trans (hon.2.1.trans (by unfold onAll; rw [h12]))
    have s15 : View.readAt (Elt F) arg15.view (Rect.unit (s := S1x256) ![0, 0] S1x256.size inb_S1x256_S1x256_0_0).toLoadRect f15'' = (onAll (k0_pay1 v3) (arg5.view.read (Elt F) X5) (arg6.view.read (Elt F) X6) (arg7.view.read (Elt F) X7) (arg8.view.read (Elt F) X8) k).1 :=
      (ld_full (arg15.view.read (Elt F) f15'') inb_S1x256_S1x256_0_0).trans (hon.1.trans (by unfold onAll; rw [h12]))
    sl_exec
    sl_for0 (trips_t6 k)
    sl_exec
    sl_step
    have e10 : oTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) (arg9.view.read (Elt F) X9) k = k0_pay3 (k0_pay25 (onAll (k0_pay1 v3) (arg5.view.read (Elt F) X5) (arg6.view.read (Elt F) X6) (arg7.view.read (Elt F) X7) (arg8.view.read (Elt F) X8) k).2.2 (onAll (k0_pay1 v3) (arg5.view.read (Elt F) X5) (arg6.view.read (Elt F) X6) (arg7.view.read (Elt F) X7) (arg8.view.read (Elt F) X8) k).2.1) (arg9.view.read (Elt F) X9) := if_pos hb
    have e11 : lseTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k = k0_pay4 (k0_pay24 (onAll (k0_pay1 v3) (arg5.view.read (Elt F) X5) (arg6.view.read (Elt F) X6) (arg7.view.read (Elt F) X7) (arg8.view.read (Elt F) X8) k).2.1) (onAll (k0_pay1 v3) (arg5.view.read (Elt F) X5) (arg6.view.read (Elt F) X6) (arg7.view.read (Elt F) X7) (arg8.view.read (Elt F) X8) k).1 := if_pos hb
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H10]
    · iexists _; isplitl [H10]; · iexact H10
      ipureintro
      exact o_step _ f10 _ k.val hk _ (k0_off24_eq k) _ (fun y hy => (hZ10 y hy).trans (congrFun e10 _)) _ (o_keep _ f10 _ k.val _ (k0_off16_eq k) _ h10)
    isplitl [H11]
    · iexists _; isplitl [H11]; · iexact H11
      ipureintro
      exact lse_step _ f11 _ k.val hk _ (k0_off25_eq k) _ (fun y hy => (hZ11 y hy).trans (congrFun e11 _)) _ (lse_keep _ f11 _ k.val _ (k0_off17_eq k) _ h11)
    isplitl [H13]; · iexists _; iexact H13
    isplitl [H14]; · iexists _; iexact H14
    iexists _; iexact H15
  · rw [if_neg hb]
    sl_exec
    sl_step
    have e10 : oTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) (arg9.view.read (Elt F) X9) k = k0_pay44 (lOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k) (oOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k) (arg9.view.read (Elt F) X9) := if_neg hb
    have e11 : lseTile (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k = k0_pay45 (lOf (k0_pay1 v3) (baseOf i (arg4.view.read (Elt F) X4) k.val) (startOf i (arg2.view.read (Elt F) X2) k.val) (arg5.view.read (Elt F) X5) (arg6.view.read (Elt F) X6) (arg7.view.read (Elt F) X7) (arg8.view.read (Elt F) X8) k) := if_neg hb
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H10]
    · iexists _; isplitl [H10]; · iexact H10
      ipureintro
      exact o_step _ f10 _ k.val hk _ (k0_off16_eq k) _ (fun y hy => (hZ10 y hy).trans (congrFun e10 _)) [] h10
    isplitl [H11]
    · iexists _; isplitl [H11]; · iexact H11
      ipureintro
      exact lse_step _ f11 _ k.val hk _ (k0_off17_eq k) _ (fun y hy => (hZ11 y hy).trans (congrFun e11 _)) [] h11
    isplitl [H13]; · iexists _; iexact H13
    isplitl [H14]; · iexists _; iexact H14
    iexists _; iexact H15

end Cert.KernelIdeal.Body

end
-- ==== Proof.Ideal.LoopBias.lean ====
/- The first loop of the kernel's body: it fills the key biases, 128 rows a trip. -/
module

public import proofs.«01_k».proof.Proof.Ideal.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow

@[expose] public section

set_option maxRecDepth 8192

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra: the frame kit's. -/
local notation "𝕄" => MT nD τ sig Unit (Elt F) ℕ (UR sig nD τ) ℕ

variable (𝒱 : Variants) (c : Dev nD) (bd : Option 𝒱.V) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

/-- Storing 128 rows of key biases over biases that are there for the rows before leaves them for 128 rows more. -/
theorem bias_step (v : View sig .tc .vmem S16384x128 .f32) (f : v.ty.Contents (Elt F)) (x8 : Vec F S1x1x1x16384 .f32)
    (k : ℕ) (hk : k < 128) {off : Fin 2 → ℕ} (inb : ∀ a, off a + S128x128.size a ≤ S16384x128.size a) (ho : off = ![128 * k, 0])
    (w : Vec F S128x128 .f32) (hw : w = k0_pay2 (lanes128At x8 k))
    (hf : ∀ y : S16384x128.Idx, (y 0).val < 128 * k → v.read (Elt F) f y = bias x8 y) :
    ∀ y : S16384x128.Idx, (y 0).val < 128 * (k + 1) →
      v.read (Elt F) (v.writes (Elt F) f [⟨Rect.unit (s := S16384x128) off S128x128.size inb, w⟩]) y = bias x8 y := by
  intro y hy
  have hy1 : (y 1).val < 128 := (y 1).isLt
  by_cases h : (y 0).val < 128 * k
  · rw [View.read_writes_cons_unit_of_not_mem v f inb w [] y ho (0 : Fin 2) (.inl h)]
    exact hf y h
  · have hd : (y 0).val / 128 = k := by omega
    have hx0 : (y 0).val % 128 < 128 := Nat.mod_lt _ (by norm_num)
    rw [View.read_writes_cons_unit_of_mem v f inb w [] y (ix2 (n0 := 128) (n1 := 128) ⟨(y 0).val % 128, hx0⟩ (y 1)) ho
      (Fin.forall_fin_two.mpr ⟨by show (y 0).val = 128 * k + (y 0).val % 128; omega, by show (y 1).val = 0 + (y 1).val; omega⟩)]
    rw [hw]; unfold bias; rw [hd]

/-- The lanes that a trip reads. -/
theorem ld_lanes128 {e : EltTy} (x : Vec F S1x1x1x16384 e) (k : ℕ) (hk : k < 128) {off : Fin 4 → ℕ}
    (inb : ∀ a, off a + S1x1x1x128.size a ≤ S1x1x1x16384.size a) (ho : off = ![0, 0, 0, 128 * k]) :
    View.ld (Val := Elt F) x (Rect.unit (s := S1x1x1x16384) off S1x1x1x128.size inb) = lanes128At x k := by
  subst ho
  funext y
  have h3 : (y 3).val < 128 := (y 3).isLt
  refine View.ld_unit_apply_of x _ _ inb y _ fun a => ?_
  fin_cases a
  · show (y 0).val = 0 + (y 0).val; omega
  · show (y 1).val = 0 + (y 1).val; omega
  · show (y 2).val = 0 + (y 2).val; omega
  · show (128 * k + (y 3).val) % 16384 = 128 * k + (y 3).val; omega

set_option maxHeartbeats 1000000 in
/-- One trip of the first loop. -/
theorem trip_t1 (E : Set ℕ) (X8 : BufTy.Contents (Elt F) arg8.view.ty) (k : Fin k0_t1_loop.trips) (f12 : BufTy.Contents (Elt F) arg12.view.ty)
    (hf : ∀ y : S16384x128.Idx, (y 0).val < 128 * k.val → (arg12.view.read (Elt F) f12) y = bias (arg8.view.read (Elt F) X8) y) :
    (iprop((arg8.view.loc (c : Thread nD τ) ↦[arg8.view.set]{fullShare} X8) ∗ (arg12.view.loc (c : Thread nD τ) ↦[arg12.view.set]{fullShare} f12)) : sProp 𝕄)
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 k ⟨⟩)
          fun _ => iprop((arg8.view.loc (c : Thread nD τ) ↦[arg8.view.set]{fullShare} X8) ∗ ∃ f, (arg12.view.loc (c : Thread nD τ) ↦[arg12.view.set]{fullShare} f) ∗
            ⌜∀ y : S16384x128.Idx, (y 0).val < 128 * (k.val + 1) → (arg12.view.read (Elt F) f) y = bias (arg8.view.read (Elt F) X8) y⌝) := by
  have hk : k.val < 128 := Nat.lt_of_lt_of_le k.isLt k0_t1_abs.2.1
  unfold k0_t1_body
  iintro ⟨H8, H12⟩
  sl_exec
  sl_step
  isplitl [H8]; · iexact H8
  iexists _; isplitl [H12]; · iexact H12
  ipureintro
  exact bias_step _ f12 _ k.val hk _ (k0_off3_eq k) _ (congrArg k0_pay2 (ld_lanes128 _ k.val hk _ (k0_off2_eq k))) hf

end Cert.KernelIdeal.Body

end
-- ==== Proof.Ideal.Run.lean ====
/- The kernel's body at one grid point, the pipeline's proof data, and the run of the whole program. -/
module

public import proofs.«01_k».proof.Proof.Ideal.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow
public import proofs.«01_k».proof.Proof.Ideal.Tile
public import proofs.«01_k».proof.Proof.Ideal.LoopBias
public import proofs.«01_k».proof.Proof.Gen.KernelIdeal.Frame

@[expose] public section

set_option maxRecDepth 8192

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra: the frame kit's. -/
local notation "𝕄" => MT nD τ sig Unit (Elt F) ℕ (UR sig nD τ) ℕ

open Idealize.ShloMosaic.Pipeline (Dat Cfg Window BodyObligation cellOf ΦA)

abbrev 𝒱₀ : Variants := Variants.none

/-- What the first loop keeps: the key biases of the rows so far. -/
def biasInv (c : Dev nD) (arg8 : Memref sig .tc .vmem S1x1x1x16384 .f32) (arg12 : Memref sig .tc .vmem S16384x128 .f32) (X8 : BufTy.Contents (Elt F) arg8.view.ty) (n : ℕ) (_ : PUnit) : sProp 𝕄 :=
  iprop((arg8.view.loc (c : Thread nD τ) ↦[arg8.view.set]{fullShare} X8) ∗ ∃ f, (arg12.view.loc (c : Thread nD τ) ↦[arg12.view.set]{fullShare} f) ∗ ⌜∀ y : S16384x128.Idx, (y 0).val < 128 * n → (arg12.view.read (Elt F) f) y = bias (arg8.view.read (Elt F) X8) y⌝)

/-- What the loop over the query tiles keeps: the two results' rows so far. -/
def tileInv (c : Dev nD) (i : grid0.Coords) (arg2 : Memref sig .tc .smem S4096 .i32) (arg3 : Memref sig .tc .smem S64 .f32) (arg4 : Memref sig .tc .smem S4096 .f32) (arg5 : Memref sig .tc .vmem S1x1x16384x128 .fp8e4m3) (arg6 : Memref sig .tc .vmem S1x1x16384x128 .fp8e4m3) (arg7 : Memref sig .tc .vmem S1x1x128x16384 .fp8e4m3) (arg8 : Memref sig .tc .vmem S1x1x1x16384 .f32) (arg9 : Memref sig .tc .vmem S1x1x1x128 .f32) (arg10 : Memref sig .tc .vmem S1x16384x128 .bf16) (arg11 : Memref sig .tc .vmem S1x1x1x16384 .f32) (arg12 : Memref sig .tc .vmem S16384x128 .f32) (arg13 : Memref sig .tc .vmem S128x256 .f32) (arg14 : Memref sig .tc .vmem S8x256 .f32) (arg15 : Memref sig .tc .vmem S1x256 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X12 : BufTy.Contents (Elt F) arg12.view.ty) (n : ℕ) (_ : PUnit) : sProp 𝕄 :=
  iprop((arg2.view.loc (c : Thread nD τ) ↦[arg2.view.set]{fullShare} X2) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg12.view.loc (c : Thread nD τ) ↦[arg12.view.set]{fullShare} X12) ∗ (∃ f, (arg10.view.loc (c : Thread nD τ) ↦[arg10.view.set]{fullShare} f) ∗ ⌜∀ y : S1x16384x128.Idx, (y 1).val < 256 * n → (arg10.view.read (Elt F) f) y = oBlock i (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) y⌝)
            ∗ (∃ f, (arg11.view.loc (c : Thread nD τ) ↦[arg11.view.set]{fullShare} f) ∗ ⌜∀ y : S1x1x1x16384.Idx, (y 3).val < 256 * n → (arg11.view.read (Elt F) f) y = lseBlock i (arg2.view.read (Elt F) X2) (arg3.view.read (Elt F) X3) (arg4.view.read (Elt F) X4) (arg5.view.read (Elt F) X5) (arg6.view.read (Elt F) X6) (arg7.view.read (Elt F) X7) (arg8.view.read (Elt F) X8) y⌝)
            ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))

theorem trips_t1 : k0_t1_loop.trips = 128 := by decide

/-- A load of one word of the table of scales. -/
theorem ld_scale {e : EltTy} (x : Vec F S64 e) (n : ℕ) (hn : n < 64) {off : Fin 1 → ℕ}
    (inb : ∀ a, off a + S1.size a ≤ S64.size a) (ho : off = ![n]) (y : S1.Idx) :
    View.ld (Val := Elt F) x (Rect.unit (s := S64) off S1.size inb) y = x (ix1 ⟨n % 64, Nat.mod_lt _ (by norm_num)⟩) := by
  subst ho
  have h : (y 0).val < 1 := (y 0).isLt
  refine View.ld_unit_apply_of x _ _ inb y _ fun a => ?_
  fin_cases a
  show n % 64 = n + (y 0).val; omega

variable (c : Dev nD) (i : grid0.Coords) (arg2 : Memref sig .tc .smem S4096 .i32) (harg2 : arg2.IsWhole)  (arg3 : Memref sig .tc .smem S64 .f32) (harg3 : arg3.IsWhole)  (arg4 : Memref sig .tc .smem S4096 .f32) (harg4 : arg4.IsWhole)  (arg5 : Memref sig .tc .vmem S1x1x16384x128 .fp8e4m3) (harg5 : arg5.IsWhole)  (arg6 : Memref sig .tc .vmem S1x1x16384x128 .fp8e4m3) (harg6 : arg6.IsWhole)  (arg7 : Memref sig .tc .vmem S1x1x128x16384 .fp8e4m3) (harg7 : arg7.IsWhole)  (arg8 : Memref sig .tc .vmem S1x1x1x16384 .f32) (harg8 : arg8.IsWhole)  (arg9 : Memref sig .tc .vmem S1x1x1x128 .f32) (harg9 : arg9.IsWhole)  (arg10 : Memref sig .tc .vmem S1x16384x128 .bf16) (harg10 : arg10.IsWhole)  (arg11 : Memref sig .tc .vmem S1x1x1x16384 .f32) (harg11 : arg11.IsWhole)  (arg12 : Memref sig .tc .vmem S16384x128 .f32) (harg12 : arg12.IsWhole)  (arg13 : Memref sig .tc .vmem S128x256 .f32) (harg13 : arg13.IsWhole)  (arg14 : Memref sig .tc .vmem S8x256 .f32) (harg14 : arg14.IsWhole)  (arg15 : Memref sig .tc .vmem S1x256 .f32) (harg15 : arg15.IsWhole)

set_option maxHeartbeats 4000000 in
/-- The kernel's body on any staging buffers: it leaves the inputs as they were and the two result blocks at
    `oBlock` and `lseBlock`. -/
theorem kernelRun (x2 : Vec F S4096 .i32) (x3 : Vec F S64 .f32) (x4 : Vec F S4096 .f32) (x5 : Vec F S1x1x16384x128 .fp8e4m3) (x6 : Vec F S1x1x16384x128 .fp8e4m3) (x7 : Vec F S1x1x128x16384 .fp8e4m3) (x8 : Vec F S1x1x1x16384 .f32) (x9 : Vec F S1x1x1x128 .f32) (hs : ∀ k < 64, (0 : ℤ) ≤ (startOf i x2 k).toInt) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (∃ d, owns (c : Thread nD τ) arg10 fullShare d) ∗ (∃ d, owns (c : Thread nD τ) arg11 fullShare d)
        ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
            ∗ owns (c : Thread nD τ) arg10 fullShare (oBlock i x2 x3 x4 x5 x6 x7 x8 x9) ∗ owns (c : Thread nD τ) arg11 fullShare (lseBlock i x2 x3 x4 x5 x6 x7 x8)
            ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f))) -∗ K ⟨⟩))
      ⊢ wp frame (wpE (defs₀ (F := F)) 𝒱₀ (c : Thread nD τ) none) E (cc0_attn i arg2 harg2 arg3 harg3 arg4 harg4 arg5 harg5 arg6 harg6 arg7 harg7 arg8 harg8 arg9 harg9 arg10 harg10 arg11 harg11 arg12 harg12 arg13 harg13 arg14 harg14 arg15 harg15) K := by
  have hi0 : (i 0).val < 2 := (i 0).isLt
  have hi1 : (i 1).val < 32 := (i 1).isLt
  unfold owns
  iintro ⟨⟨%X2, %hf2, H2⟩, ⟨%X3, %hf3, H3⟩, ⟨%X4, %hf4, H4⟩, ⟨%X5, %hf5, H5⟩, ⟨%X6, %hf6, H6⟩, ⟨%X7, %hf7, H7⟩, ⟨%X8, %hf8, H8⟩, ⟨%X9, %hf9, H9⟩, ⟨%d10, %f10, -, H10⟩, ⟨%d11, %f11, -, H11⟩, ⟨%f12, H12⟩, ⟨%f13, H13⟩, ⟨%f14, H14⟩, ⟨%f15, H15⟩, Hk⟩
  subst hf2 hf3 hf4 hf5 hf6 hf7 hf8 hf9
  have w3 := ld_scale (arg3.view.read (Elt F) X3) (32 * (i 0).val + (i 1).val) (by omega) (k0_off1_inb i) (k0_off1_eq i) (Shape.Idx.first (numel1_S1.symm ▸ Nat.one_pos))
  sl_unfold [cc0_attn]
  sl_exec
  sl_for (biasInv c arg8 arg12 X8) $$ [H8 H12]
  case region =>
    intro k acc
    unfold biasInv
    iintro ⟨H8, %f, H12, %hf⟩
    iapply (trip_t1 𝒱₀ c none i arg2 harg2 arg3 harg3 arg4 harg4 arg5 harg5 arg6 harg6 arg7 harg7 arg8 harg8 arg9 harg9 arg10 harg10 arg11 harg11 arg12 harg12 arg13 harg13 arg14 harg14 arg15 harg15 E X8 k f hf) $$ [H8 H12]
    isplitl [H8]; · iexact H8
    iexact H12
  · unfold biasInv
    isplitl [H8]; · iexact H8
    iexists _; isplitl [H12]; · iexact H12
    ipureintro
    intro y hy; omega
  iintro %acc HI
  unfold biasInv
  icases HI with ⟨H8, %X12, H12, %h12⟩
  have h12' : arg12.view.read (Elt F) X12 = bias (arg8.view.read (Elt F) X8) := by
    funext y; have hy : (y 0).val < 16384 := (y 0).isLt
    exact h12 y (lt_of_lt_of_eq (by omega : (y 0).val < 128 * 128) (congrArg (fun n => 128 * n) trips_t1.symm))
  sl_exec
  have ha : k0_pay1 (kernelRun.sl.r c i arg3 X3) = scaleOf i (arg3.view.read (Elt F) X3) := congrArg k0_pay1 w3
  sl_for (tileInv c i arg2 arg3 arg4 arg5 arg6 arg7 arg8 arg9 arg10 arg11 arg12 arg13 arg14 arg15 X2 X3 X4 X5 X6 X7 X8 X9 X12) $$ [H2 H4 H5 H6 H7 H8 H9 H12 H10 H11 H13 H14 H15]
  case region =>
    intro k acc
    unfold tileInv
    iintro ⟨H2, H4, H5, H6, H7, H8, H9, H12, ⟨%g10, H10, %h10⟩, ⟨%g11, H11, %h11⟩, ⟨%g13, H13⟩, ⟨%g14, H14⟩, ⟨%g15, H15⟩⟩
    iapply (trip_t2 𝒱₀ c none i arg2 harg2 arg3 harg3 arg4 harg4 arg5 harg5 arg6 harg6 arg7 harg7 arg8 harg8 arg9 harg9 arg10 harg10 arg11 harg11 arg12 harg12 arg13 harg13 arg14 harg14 arg15 harg15 E _ X2 X3 X4 X5 X6 X7 X8 X9 X12 ha h12' k (hs k.val (tile_lt k)) g10 g11 g13 g14 g15 h10 h11) $$ [H2 H4 H5 H6 H7 H8 H9 H12 H10 H11 H13 H14 H15]
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H10]; · iexact H10
    isplitl [H11]; · iexact H11
    isplitl [H13]; · iexact H13
    isplitl [H14]; · iexact H14
    iexact H15
  · unfold tileInv
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H10]
    · iexists _; isplitl [H10]; · iexact H10
      ipureintro; intro y hy; omega
    isplitl [H11]
    · iexists _; isplitl [H11]; · iexact H11
      ipureintro; intro y hy; omega
    isplitl [H13]; · iexists _; iexact H13
    isplitl [H14]; · iexists _; iexact H14
    iexists _; iexact H15
  iintro %acc' HI
  unfold tileInv
  icases HI with ⟨H2, H4, H5, H6, H7, H8, H9, H12, ⟨%g10, H10, %h10⟩, ⟨%g11, H11, %h11⟩, ⟨%g13, H13⟩, ⟨%g14, H14⟩, ⟨%g15, H15⟩⟩
  sl_exec
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; swap; · iexact H10
    ipureintro
    funext y
    have hy : (y 1).val < 16384 := (y 1).isLt
    exact h10 y (lt_of_lt_of_eq (by omega : (y 1).val < 256 * 64) (congrArg (fun n => 256 * n) trips_t2.symm))
  isplitl [H11]
  · iexists _; isplitr; swap; · iexact H11
    ipureintro
    funext y
    have hy : (y 3).val < 16384 := (y 3).isLt
    exact h11 y (lt_of_lt_of_eq (by omega : (y 3).val < 256 * 64) (congrArg (fun n => 256 * n) trips_t2.symm))
  isplitl [H12]; · iexists _; iexact H12
  isplitl [H13]; · iexists _; iexact H13
  isplitl [H14]; · iexists _; iexact H14
  iexists _; iexact H15

end Cert.KernelIdeal.Body

end
-- ==== Proof.Ideal.Launch.lean ====
/- The pipeline's proof data and the run of the whole program. -/
module

public import proofs.«01_k».proof.Proof.Ideal.Trips
public import Idealize.ShloMosaic.Lib.Exec
public import Idealize.ShloMosaic.Lib.Tactic
public import Idealize.ShloMosaic.Lib.Pipeline.Kit
public import Idealize.ShloMosaic.Lib.Pipeline.ValueKit.Tiles
public import Idealize.ShloMosaic.Lib.LoopEntry
public import Idealize.ShloMosaic.Lib.WritesUnit
public import Idealize.ShloMosaic.Lib.VecWindow
public import proofs.«01_k».proof.Proof.Ideal.Run
public import Idealize.ShloMosaic.PureOps.BitExact

@[expose] public section

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra: the frame kit's. -/
local notation "𝕄" => MT nD τ sig Unit (Elt F) ℕ (UR sig nD τ) ℕ

open Idealize.ShloMosaic.Pipeline (Dat Cfg Window BodyObligation cellOf ΦA)

variable (m : (ℓ : Loc nD τ sig) → Buf (Elt F) ℓ) (ρ : Dev nD → PrngReg)

/-- The two result blocks of point `t`. -/
def oAt (c : Dev nD) (t : Fin cfg0.N) : FVec F S1x16384x128 .bf16 := oBlock (grid0.coords t) (iblk m c 0 t) (iblk m c 1 t) (iblk m c 2 t) (iblk m c 3 t) (iblk m c 4 t) (iblk m c 5 t) (iblk m c 6 t) (iblk m c 7 t)
def lseAt (c : Dev nD) (t : Fin cfg0.N) : FVec F S1x1x1x16384 .f32 := lseBlock (grid0.coords t) (iblk m c 0 t) (iblk m c 1 t) (iblk m c 2 t) (iblk m c 3 t) (iblk m c 4 t) (iblk m c 5 t) (iblk m c 6 t)

/-- The arrays as the region finds them; after the body each input's buffer at its block and the results' at theirs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oAt m c t
    | ⟨9, _⟩ => lseAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = oAt m c t := by dsimp only [dats]
theorem after0_9 (c : Dev nD) (t : Fin cfg0.N) : (dats m 0 c).after 9 t = lseAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- A whole buffer at some contents, as a view of itself. -/
theorem whole_eq (c : Dev nD) (b : Ref sig .tc) : (iprop(∃ f, (Memref.whole b).view.loc (c : Thread nD τ) ↦[(Memref.whole b).view.set]{fullShare} f) : sProp 𝕄)
    = iprop(∃ f : Buf (Elt F) ((c : Thread nD τ).loc b), ((c : Thread nD τ).loc b) ↦{fullShare} f) := by
  rw [show (Memref.whole b).view.set = Finset.univ from View.set_whole b]

/-- The kernel's scratch buffers, each whole at some contents, and the generator register. -/
theorem rest_eq (c : Dev nD) : (Pipeline.ΦA (U := UR sig nD τ) (Val := Elt F) spec0 c : sProp 𝕄)
    = iprop(((∃ f, (Memref.whole cc0_scratch0).view.loc (c : Thread nD τ) ↦[(Memref.whole cc0_scratch0).view.set]{fullShare} f) ∗ (∃ f, (Memref.whole cc0_scratch1).view.loc (c : Thread nD τ) ↦[(Memref.whole cc0_scratch1).view.set]{fullShare} f) ∗ (∃ f, (Memref.whole cc0_scratch2).view.loc (c : Thread nD τ) ↦[(Memref.whole cc0_scratch2).view.set]{fullShare} f) ∗ (∃ f, (Memref.whole cc0_scratch3).view.loc (c : Thread nD τ) ↦[(Memref.whole cc0_scratch3).view.set]{fullShare} f)) ∗ ∃ r, prngReg c r) := by
  unfold Pipeline.ΦA
  rw [scopedRest0_eq, whole_eq, whole_eq, whole_eq, whole_eq]

/-- Every first tile that the kernel reads is nonnegative. -/
def StartsFit : Prop := ∀ (c : Dev nD) (t : Fin cfg0.N) (k : ℕ), k < 64 → (0 : ℤ) ≤ (startOf (F := F) (grid0.coords t) (iblk m c 0 t) k).toInt

set_option maxHeartbeats 2000000 in
/-- The body at a point, from the inputs' blocks to the results'. -/
theorem body_obligation (hst : StartsFit m) (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9]
  rw [rest_eq]
  iintro ⟨⟨⟨S0, S1, S2, S3⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (hst c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  isplitl [S1]; · iexact S1
  isplitl [S2]; · iexact S2
  isplitl [S3]; · iexact S3
  iintro ⟨H0, H1, H2, H3, H4, H5, H6, H7, H8, H9, S0, S1, S2, S3⟩
  isplitl [S0 S1 S2 S3 Hρ]
  · isplitr [Hρ]
    · isplitl [S0]; · iexact S0
      isplitl [S1]; · iexact S1
      isplitl [S2]; · iexact S2
      iexact S3
    iexact Hρ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

-- `θ_run_frame`'s implicit arguments are found by unifying its conclusion with this one, which takes unfolding plain
-- definitions in a metavariable's type
set_option backward.isDefEq.respectTransparency.types false in
/-- From any memory with zero counters whose first tiles are nonnegative: every weakly fair execution terminates, and
    every final state has every array at what the proof data says and every semaphore counter at zero. -/
theorem run_main (hst : StartsFit m) : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m hst c).loose) (hshare := fun c => (dats m 0 c).share_full fun _ => rfl)
    (howed := fun _ _ => rfl) (V := V m) (hmain := hmain m 𝒱₀) (hA := fun _ _ => rfl) (hΦ := fun _ _ => rfl)

end Cert.KernelIdeal.Body

end
-- ==== Proof.Ideal.Starts.lean ====
/- Where the kernel's first tiles come from: the table that it reads is the last argument in row-major order, so a
   nonnegative argument makes every first tile nonnegative. -/
module

public import proofs.«01_k».proof.Proof.Ideal.Launch
public import Idealize.ShloMosaic.Lib.StableHlo.RunRead

@[expose] public section

noncomputable section

open Idealize.ShloMosaic Idealize.ShloMosaic.TcCoe Idealize.ShloMosaic.ValueIdx Idealize.SL.Sem

namespace Cert.KernelIdeal.Body

open Cert.KernelIdeal Cert.KernelIdeal.Gen

variable {F : FTy → Type} [FloatOps F] [Named F]
variable (m : (ℓ : Loc nD τ sig) → Buf (Elt F) ℓ)

/-- The table of first tiles is the last argument, reshaped to a line. -/
theorem V_main_v15 (c : Dev nD) : V m c main_v15 = shapeCast S4096 (m ((c : Thread nD τ).loc main_arg7)) shapeCasts_S2x32x64_S4096 := by
  after_reads_simp
  rfl

/-- A nonnegative last argument makes every first tile that the kernel reads nonnegative. -/
theorem startsFit (h : ∀ (c : Dev nD) (x : S2x32x64.Idx), (0 : ℤ) ≤ (m ((c : Thread nD τ).loc main_arg7) x : BitVec 32).toInt) : StartsFit m := by
  intro c t k hk
  unfold startOf iblk
  rw [show V m c (Pipeline.arrRef spec0 0) = V m c main_v15 from rfl, V_main_v15]
  exact h c _

end Cert.KernelIdeal.Body

end
-- ==== Proof.Frames.lean ====
/- The claims other than the value claim: the two programs' frames from their runs, the reference's frame, and the ledger
   of the kernel's named constants. -/
module

public import proofs.«01_k».proof.Defs
public import proofs.«01_k».proof.Proof.Bits.Starts
public import proofs.«01_k».proof.Proof.Ideal.Starts
public import proofs.«01_k».proof.Proof.Gen.ReferenceIdeal.Frame
public import Idealize.ShloMosaic.Lib.StableHlo.Predicate

@[expose] public section

noncomputable section

open Idealize.ShloMosaic Idealize.ShloMosaic.TcCoe Idealize.SL.Sem

/-- The precondition `start_fits`: its one broadcast is in shape. -/
theorem Cert.Pre_start_fits.facts : Cert.Pre_start_fits.Facts where
  bcast_S_S2x32x64 := by decide

namespace Cert.Proof

attribute [local instance] Cert.Pre_start_fits.facts

/-- A word that compares at least zero, signed, is nonnegative. -/
theorem nonneg_of_sge {w : BitVec 32} (h : IntOp.cmpi .sge w 0#32 = 1#1) : (0 : ℤ) ≤ w.toInt := by
  have h' : (0#32).sle w = true := (StableHlo.Predicate.ofBool_eq_one_iff _).mp h
  simpa [BitVec.sle] using h'

/-- Under `start_fits` the bit program's first tiles are nonnegative. -/
theorem starts_bits (m : (ℓ : Loc Cert.Kernel.nD Cert.Kernel.τ Cert.Kernel.sig) → Buf (Elt Bits) ℓ) (h : Cert.Pre_Kernel m) :
    Cert.Kernel.Body.StartsFit m := Cert.Kernel.Body.startsFit m fun c x => nonneg_of_sge (congrFun (h c) x)

/-- Under `start_fits` the idealized program's first tiles are nonnegative. -/
theorem starts_ideal (m : (ℓ : Loc Cert.KernelIdeal.nD Cert.KernelIdeal.τ Cert.KernelIdeal.sig) → Buf (Elt Ideal) ℓ)
    (h : Cert.Pre_KernelIdeal m) : Cert.KernelIdeal.Body.StartsFit m :=
  Cert.KernelIdeal.Body.startsFit m fun c x => nonneg_of_sge (congrFun (h c) x)

/-- The bit program runs, leaves its arguments alone and ends with every semaphore counter at zero. -/
theorem frame_kernel : Cert.quiescent_Kernel := fun m ρ h =>
  θ_run_and (Cert.Kernel.Gen.frame_of m ρ (Cert.Kernel.Body.dats m) (fun _ _ => rfl)
      ((θ_run _ _ _).mono (fun _ h => h.1) (Cert.Kernel.Body.run_main m ρ (starts_bits m h))))
    ((θ_run _ _ _).mono (fun _ h => h.2) (Cert.Kernel.Body.run_main m ρ (starts_bits m h)))

/-- The idealized program runs, leaves its arguments alone and ends with every semaphore counter at zero. -/
theorem frame_ideal : Cert.quiescent_KernelIdeal := fun m ρ h =>
  θ_run_and (Cert.KernelIdeal.Gen.frame_of m ρ (Cert.KernelIdeal.Body.dats m) (fun _ _ => rfl)
      ((θ_run _ _ _).mono (fun _ h => h.1) (Cert.KernelIdeal.Body.run_main m ρ (starts_ideal m h))))
    ((θ_run _ _ _).mono (fun _ h => h.2) (Cert.KernelIdeal.Body.run_main m ρ (starts_ideal m h)))

/-- The reference's frame. -/
theorem frame_reference : Cert.quiescent_ReferenceIdeal := fun m ρ _ => Cert.ReferenceIdeal.Gen.frame m ρ

/-- The four named constants are what the table says they are. -/
theorem preserves : Cert.preserves_Kernel_KernelIdeal := by
  unfold Cert.preserves_Kernel_KernelIdeal
  refine ⟨?_, ?_, ?_, ?_⟩ <;> exact IdealRules.named_const.statement _ _ _ _ _ rfl

end Cert.Proof

end
-- ==== Proof.Value.Arith.lean ====
/- Softmax over the extended reals, by itself: a sum of exponentials that is rescaled whenever its maximum grows, and a
   sum of exponentials without any maximum, both give the softmax that the reference writes down. No program here. -/
module

public import Idealize.ShloMosaic.Lib.Pointwise

@[expose] public section

noncomputable section

namespace Cert.Softmax

open Idealize.ShloMosaic

/-- `log 2` and its inverse. -/
def ln2 : EReal := ((Real.log 2 : ℝ) : EReal)
def log2e : EReal := (((Real.log 2)⁻¹ : ℝ) : EReal)

theorem log2_pos : 0 < Real.log 2 := Real.log_pos (by norm_num)

theorem log2e_mul_ln2 : log2e * ln2 = 1 := by
  unfold log2e ln2
  rw [← EReal.coe_mul, inv_mul_cancel₀ log2_pos.ne', EReal.coe_one]

theorem ln2_nonneg : 0 ≤ ln2 := EReal.coe_nonneg.2 log2_pos.le
theorem ln2_ne_top : ln2 ≠ ⊤ := EReal.coe_ne_top _
theorem bot_mul_ln2 : (⊥ : EReal) * ln2 = ⊥ := EReal.bot_mul_coe_of_pos log2_pos

/-- The words that the two programs spell. -/
theorem ofBits_neg_inf : Ideal.ofBits .f32 0xFF800000#32 = (⊥ : EReal) := by simp [Ideal.ofBits, Ideal.ieee]
theorem ofBits_inf : Ideal.ofBits .f32 0x7F800000#32 = (⊤ : EReal) := by simp [Ideal.ofBits, Ideal.ieee]
theorem ofBits_128 : Ideal.ofBits .f32 0x43000000#32 = ((128 : ℝ) : EReal) := by
  simp [Ideal.ofBits, Ideal.ieee, -EReal.coe_mul]; norm_num
theorem ofBits_two_pow_100 : Ideal.ofBits .f32 0x71800000#32 = ((1267650600228229401496703205376 : ℝ) : EReal) := by
  simp [Ideal.ofBits, Ideal.ieee, -EReal.coe_mul]; norm_num
theorem ofBits_two_pow_neg_20 : Ideal.ofBits .f32 0x35800000#32 = ((2 ^ (-20 : ℤ) : ℝ) : EReal) := by
  simp [Ideal.ofBits, Ideal.ieee, -EReal.coe_mul]; norm_num

theorem exp_coe (r : ℝ) : Ideal.exp (r : EReal) = ((Real.exp r : ℝ) : EReal) := rfl
theorem exp_bot : Ideal.exp ⊥ = 0 := rfl
theorem exp_top : Ideal.exp ⊤ = ⊤ := rfl

/-- An exponential is nonnegative. -/
theorem exp_nonneg (x : EReal) : 0 ≤ Ideal.exp x := by
  induction x using EReal.rec with
  | bot => exact le_rfl
  | top => exact le_top
  | coe r => exact EReal.coe_nonneg.2 (Real.exp_pos r).le

/-- A power of two is an exponential. -/
theorem exp2_eq (x : EReal) : Ideal.exp2 x = Ideal.exp (x * ln2) := by
  induction x using EReal.rec with
  | bot => rw [bot_mul_ln2]; rfl
  | top => rw [show (⊤ : EReal) * ln2 = ⊤ from EReal.top_mul_coe_of_pos log2_pos]; rfl
  | coe r =>
    unfold ln2
    rw [← EReal.coe_mul, exp_coe]
    show ((Real.rpow 2 r : ℝ) : EReal) = _
    rw [show Real.rpow 2 r = (2 : ℝ) ^ r from rfl, Real.rpow_def_of_pos (by norm_num), mul_comm]

/-- A nonnegative real distributes over a sum. -/
theorem add_mul_ln {c : EReal} (h : 0 ≤ c) (h' : c ≠ ⊤) (x y : EReal) : (x + y) * c = x * c + y * c := by
  rw [mul_comm, EReal.left_distrib_of_nonneg_of_ne_top h h', mul_comm c, mul_comm c]

theorem sub_mul_ln2 (x y : EReal) : (x - y) * ln2 = x * ln2 - y * ln2 := by
  rw [sub_eq_add_neg, add_mul_ln ln2_nonneg ln2_ne_top, EReal.neg_mul, ← sub_eq_add_neg]

theorem exp2_sub (x y : EReal) : Ideal.exp2 (x - y) = Ideal.exp (x * ln2 - y * ln2) := by
  rw [exp2_eq, sub_mul_ln2]

/-- A nonnegative real distributes over a finite sum. -/
theorem sum_mul_of_nonneg {ι : Type*} (S : Finset ι) (f : ι → EReal) {c : EReal} (h : 0 ≤ c) (h' : c ≠ ⊤) :
    (∑ j ∈ S, f j) * c = ∑ j ∈ S, f j * c := by
  classical
  induction S using Finset.induction_on with
  | empty => simp
  | insert a S ha ih => rw [Finset.sum_insert ha, Finset.sum_insert ha, add_mul_ln h h', ih]

/-- Rescaling from one maximum to a larger one. -/
theorem rescale {s m m' : EReal} (h : s ≤ m) (h' : m ≤ m') : Ideal.exp (s - m) * Ideal.exp (m - m') = Ideal.exp (s - m') := by
  induction s using EReal.rec with
  | bot => simp only [EReal.bot_sub, exp_bot, zero_mul]
  | top =>
    obtain rfl : m = ⊤ := top_le_iff.1 h
    obtain rfl : m' = ⊤ := top_le_iff.1 h'
    simp only [EReal.sub_top, exp_bot, zero_mul]
  | coe s =>
    induction m using EReal.rec with
    | bot => exact absurd h (not_le.2 (EReal.bot_lt_coe s))
    | top =>
      obtain rfl : m' = ⊤ := top_le_iff.1 h'
      simp only [EReal.sub_top, exp_bot, zero_mul]
    | coe m =>
      induction m' using EReal.rec with
      | bot => exact absurd h' (not_le.2 (EReal.bot_lt_coe m))
      | top => simp only [EReal.sub_top, exp_bot, mul_zero]
      | coe m' =>
        simp only [← EReal.coe_sub, exp_coe, ← EReal.coe_mul]
        rw [← Real.exp_add]
        congr 2
        ring

/-- An exponential of a difference below its maximum is at most one. -/
theorem exp_sub_le_one {s m : EReal} (h : s ≤ m) : Ideal.exp (s - m) ≤ 1 := by
  induction s using EReal.rec with
  | bot => simp only [EReal.bot_sub, exp_bot]; exact zero_le_one
  | top =>
    obtain rfl : m = ⊤ := top_le_iff.1 h
    simp only [EReal.sub_top, exp_bot]; exact zero_le_one
  | coe s =>
    induction m using EReal.rec with
    | bot => exact absurd h (not_le.2 (EReal.bot_lt_coe s))
    | top => simp only [EReal.sub_top, exp_bot]; exact zero_le_one
    | coe m =>
      simp only [← EReal.coe_sub, exp_coe]
      rw [← EReal.coe_one]
      exact EReal.coe_le_coe_iff.2 (Real.exp_le_one_iff.2 (sub_nonpos.2 (EReal.coe_le_coe_iff.1 h)))

theorem exp_sub_ne_top {s m : EReal} (h : s ≤ m) : Ideal.exp (s - m) ≠ ⊤ :=
  ne_top_of_le_ne_top (by exact EReal.coe_ne_top 1) (exp_sub_le_one h)

/-- Rescaling in powers of two. -/
theorem rescale2 {s m m' : EReal} (h : s ≤ m) (h' : m ≤ m') : Ideal.exp2 (s - m) * Ideal.exp2 (m - m') = Ideal.exp2 (s - m') := by
  simp only [exp2_sub]
  exact rescale (mul_le_mul_of_nonneg_right h ln2_nonneg) (mul_le_mul_of_nonneg_right h' ln2_nonneg)

theorem exp2_nonneg (x : EReal) : 0 ≤ Ideal.exp2 x := by rw [exp2_eq]; exact exp_nonneg _

theorem exp2_sub_ne_top {s m : EReal} (h : s ≤ m) : Ideal.exp2 (s - m) ≠ ⊤ := by
  rw [exp2_sub]
  exact exp_sub_ne_top (mul_le_mul_of_nonneg_right h ln2_nonneg)

/-- The largest of the first `N` scores. -/
def top (s : ℕ → EReal) (N : ℕ) : EReal := (Finset.range N).sup s

theorem le_top' (s : ℕ → EReal) {N j : ℕ} (h : j < N) : s j ≤ top s N := Finset.le_sup (f := s) (Finset.mem_range.2 h)

theorem top_mono (s : ℕ → EReal) {N N' : ℕ} (h : N ≤ N') : top s N ≤ top s N' := Finset.sup_mono (Finset.range_mono h)

/-- Scaling every score by `log 2` scales the largest. -/
theorem top_mul_ln2 (t : ℕ → EReal) (N : ℕ) : top t N * ln2 = top (fun j => t j * ln2) N := by
  unfold top
  induction N with
  | zero => simp only [Finset.range_zero, Finset.sup_empty]; exact bot_mul_ln2
  | succ N ih =>
    have hm : Monotone fun x : EReal => x * ln2 := fun x y h => mul_le_mul_of_nonneg_right h ln2_nonneg
    rw [Finset.range_add_one, Finset.sup_insert, Finset.sup_insert, ← ih]
    exact hm.map_sup _ _

/-- A weighted sum of powers of two below one maximum, brought to a larger maximum. -/
theorem sum_rescale (t v : ℕ → EReal) {N : ℕ} {m m' : EReal} (h : ∀ j < N, t j ≤ m) (h' : m ≤ m') :
    (∑ j ∈ Finset.range N, v j * Ideal.exp2 (t j - m)) * Ideal.exp2 (m - m') = ∑ j ∈ Finset.range N, v j * Ideal.exp2 (t j - m') := by
  rw [sum_mul_of_nonneg _ _ (exp2_nonneg _) (exp2_sub_ne_top h')]
  refine Finset.sum_congr rfl fun j hj => ?_
  rw [mul_assoc, rescale2 (h j (Finset.mem_range.1 hj)) h']

/-- The weights' sum, the weighted values and the logarithm of the softmax over the first `N` scores. -/
def den (s : ℕ → EReal) (N : ℕ) : EReal := ∑ j ∈ Finset.range N, Ideal.exp (s j - top s N)
def outp (s v : ℕ → EReal) (N : ℕ) : EReal := ∑ j ∈ Finset.range N, v j * (Ideal.exp (s j - top s N) * Ideal.div 1 (den s N))
def lse (s : ℕ → EReal) (N : ℕ) : EReal := top s N + Ideal.log (den s N)

/-- A maximum over more scores, the further ones masked. -/
theorem top_ext (s : ℕ → EReal) {N N' : ℕ} (h : N ≤ N') (hs : ∀ j, N ≤ j → s j = ⊥) : top s N' = top s N := by
  refine le_antisymm (Finset.sup_le fun j _ => ?_) (top_mono s h)
  by_cases hj : j < N
  · exact le_top' s hj
  · rw [hs j (not_lt.1 hj)]; exact bot_le

theorem sum_ext {f : ℕ → EReal} {N N' : ℕ} (h : N ≤ N') (hf : ∀ j, N ≤ j → f j = 0) : ∑ j ∈ Finset.range N', f j = ∑ j ∈ Finset.range N, f j :=
  (Finset.sum_subset (Finset.range_mono h) fun j _ hj => hf j (not_lt.1 fun hlt => hj (Finset.mem_range.2 hlt))).symm

theorem den_ext (s : ℕ → EReal) {N N' : ℕ} (h : N ≤ N') (hs : ∀ j, N ≤ j → s j = ⊥) : den s N' = den s N := by
  unfold den
  rw [top_ext s h hs]
  exact sum_ext h fun j hj => by rw [hs j hj, EReal.bot_sub, exp_bot]

/-- Masked scores do not count. -/
theorem outp_ext (s v : ℕ → EReal) {N N' : ℕ} (h : N ≤ N') (hs : ∀ j, N ≤ j → s j = ⊥) : outp s v N' = outp s v N := by
  unfold outp
  rw [top_ext s h hs, den_ext s h hs]
  exact sum_ext h fun j hj => by rw [hs j hj, EReal.bot_sub, exp_bot, zero_mul, mul_zero]

theorem lse_ext (s : ℕ → EReal) {N N' : ℕ} (h : N ≤ N') (hs : ∀ j, N ≤ j → s j = ⊥) : lse s N' = lse s N := by
  unfold lse
  rw [top_ext s h hs, den_ext s h hs]

theorem div_one_nonneg {l : EReal} (h : 0 ≤ l) : 0 ≤ Ideal.div 1 l := by
  unfold Ideal.div
  split
  · rw [if_pos zero_lt_one]; exact le_top
  · rw [one_mul]; exact EReal.inv_nonneg_of_nonneg h

theorem div_one_ne_top {l : EReal} (h : 0 ≤ l) (h0 : l ≠ 0) : Ideal.div 1 l ≠ ⊤ := by
  unfold Ideal.div
  rw [if_neg h0, one_mul]
  induction l using EReal.rec with
  | bot => simp
  | top => simp
  | coe r => rw [← EReal.coe_inv]; exact EReal.coe_ne_top _

/-- Dividing the weighted sum, or every weight: the same, also where the weights' sum is zero. -/
theorem sum_mul_inv (N : ℕ) (e v : ℕ → EReal) (he : ∀ j, 0 ≤ e j) :
    (∑ j ∈ Finset.range N, v j * e j) * Ideal.div 1 (∑ j ∈ Finset.range N, e j)
      = ∑ j ∈ Finset.range N, v j * (e j * Ideal.div 1 (∑ j ∈ Finset.range N, e j)) := by
  have hl : 0 ≤ ∑ j ∈ Finset.range N, e j := Finset.sum_nonneg fun j _ => he j
  by_cases h0 : ∑ j ∈ Finset.range N, e j = 0
  · have hz : ∀ j ∈ Finset.range N, e j = 0 := (Finset.sum_eq_zero_iff_of_nonneg fun j _ => he j).1 h0
    rw [Finset.sum_congr rfl fun j hj => by rw [hz j hj, mul_zero], Finset.sum_const_zero, zero_mul]
    exact (Finset.sum_eq_zero fun j hj => by rw [hz j hj, zero_mul, mul_zero]).symm
  · rw [sum_mul_of_nonneg _ _ (div_one_nonneg hl) (div_one_ne_top hl h0)]
    exact Finset.sum_congr rfl fun j _ => mul_assoc _ _ _

/-- The running-maximum form, in powers of two, is the softmax: the values. -/
theorem online_outp (t v : ℕ → EReal) (N : ℕ) :
    (∑ j ∈ Finset.range N, v j * Ideal.exp2 (t j - top t N)) * Ideal.div 1 (∑ j ∈ Finset.range N, Ideal.exp2 (t j - top t N))
      = outp (fun j => t j * ln2) v N := by
  rw [sum_mul_inv N _ v fun j => exp2_nonneg _]
  unfold outp den
  simp only [exp2_sub, top_mul_ln2]

/-- The running-maximum form, in powers of two, is the softmax: the logarithm. -/
theorem online_lse (t : ℕ → EReal) (N : ℕ) :
    (top t N + Ideal.log (∑ j ∈ Finset.range N, Ideal.exp2 (t j - top t N)) * log2e) * ln2 = lse (fun j => t j * ln2) N := by
  rw [add_mul_ln ln2_nonneg ln2_ne_top, mul_assoc, log2e_mul_ln2, mul_one]
  unfold lse den
  simp only [exp2_sub, top_mul_ln2]

end Cert.Softmax

end
-- ==== Proof.Value.Direct.lean ====
/- A sum of exponentials without a maximum, where it is positive and finite, gives the softmax too. No program here. -/
module

public import proofs.«01_k».proof.Proof.Value.Arith

@[expose] public section

noncomputable section

namespace Cert.Softmax

open Idealize.ShloMosaic

theorem exp_eq_zero {x : EReal} (h : Ideal.exp x = 0) : x = ⊥ := by
  induction x using EReal.rec with
  | bot => rfl
  | top => exact absurd h (by simp [exp_top])
  | coe r => rw [exp_coe] at h; exact absurd (EReal.coe_eq_zero.1 h) (Real.exp_pos r).ne'

/-- A power of two with a real summand in the exponent is a product. -/
theorem exp2_add_coe (x : EReal) (r : ℝ) : Ideal.exp2 (x + (r : EReal)) = Ideal.exp2 (r : EReal) * Ideal.exp2 x := by
  have hr : Ideal.exp2 (r : EReal) = ((Real.exp (r * Real.log 2) : ℝ) : EReal) := by
    rw [exp2_eq]; unfold ln2; rw [← EReal.coe_mul, exp_coe]
  induction x using EReal.rec with
  | bot => rw [EReal.bot_add]; show (0 : EReal) = _ * 0; rw [mul_zero]
  | top =>
    rw [EReal.top_add_coe, hr]
    show (⊤ : EReal) = _ * ⊤
    rw [EReal.coe_mul_top_of_pos (Real.exp_pos _)]
  | coe x =>
    rw [hr, ← EReal.coe_add, exp2_eq, exp2_eq]
    unfold ln2
    rw [← EReal.coe_mul, ← EReal.coe_mul, exp_coe, exp_coe, ← EReal.coe_mul, ← Real.exp_add]
    congr 2
    ring

/-- A power of two of a real number is a nonnegative real. -/
theorem exp2_coe_ne_top (r : ℝ) : Ideal.exp2 (r : EReal) ≠ ⊤ := EReal.coe_ne_top _

section direct

variable (s v : ℕ → EReal) (N : ℕ)

/-- The plain sum of exponentials. -/
def plain : EReal := ∑ j ∈ Finset.range N, Ideal.exp (s j)

variable {s N}

/-- Where the plain sum is positive and finite, the largest score is a real number. -/
theorem top_real (h0 : 0 < plain s N) (h1 : plain s N ≠ ⊤) : ∃ r : ℝ, top s N = (r : EReal) := by
  have hne : ∀ j < N, s j ≠ ⊤ := fun j hj e => by
    refine h1 (top_le_iff.1 ?_)
    have := Finset.single_le_sum (f := fun j => Ideal.exp (s j)) (fun i _ => exp_nonneg (s i)) (Finset.mem_range.2 hj)
    simp only [e, exp_top] at this
    exact this
  have htop : top s N ≠ ⊤ := by
    refine ne_of_lt ((Finset.sup_lt_iff (by exact bot_lt_top)).2 fun j hj => ?_)
    exact lt_top_iff_ne_top.2 (hne j (Finset.mem_range.1 hj))
  have hbot : top s N ≠ ⊥ := fun e => by
    refine h0.ne' (Finset.sum_eq_zero fun j hj => ?_)
    have : s j ≤ ⊥ := e ▸ le_top' s (Finset.mem_range.1 hj)
    rw [le_bot_iff.1 this, exp_bot]
  exact ⟨(top s N).toReal, (EReal.coe_toReal htop hbot).symm⟩

theorem exp_sub_coe (x : EReal) (r : ℝ) : Ideal.exp (x - (r : EReal)) = Ideal.exp x * ((Real.exp (-r) : ℝ) : EReal) := by
  induction x using EReal.rec with
  | bot => rw [EReal.bot_sub, exp_bot, zero_mul]
  | top => rw [EReal.top_sub_coe, exp_top, EReal.top_mul_coe_of_pos (Real.exp_pos _)]
  | coe x => rw [← EReal.coe_sub, exp_coe, exp_coe, ← EReal.coe_mul, ← Real.exp_add, sub_eq_add_neg]

/-- The softmax's denominator is the plain sum, scaled. -/
theorem den_eq {r : ℝ} (hr : top s N = (r : EReal)) : den s N = plain s N * ((Real.exp (-r) : ℝ) : EReal) := by
  unfold den plain
  rw [hr, sum_mul_of_nonneg _ _ (EReal.coe_nonneg.2 (Real.exp_pos _).le) (EReal.coe_ne_top _)]
  exact Finset.sum_congr rfl fun j _ => exp_sub_coe _ _

/-- Dividing the plain sum of weighted values by the plain sum is the softmax: the values. -/
theorem direct_outp (h0 : 0 < plain s N) (h1 : plain s N ≠ ⊤) :
    (∑ j ∈ Finset.range N, v j * Ideal.exp (s j)) * Ideal.div 1 (plain s N) = outp s v N := by
  obtain ⟨r, hr⟩ := top_real h0 h1
  obtain ⟨L, hL⟩ : ∃ L : ℝ, plain s N = (L : EReal) := ⟨_, (EReal.coe_toReal h1 (ne_of_gt (lt_trans EReal.bot_lt_zero h0))).symm⟩
  have hLpos : 0 < L := by rw [hL] at h0; exact EReal.coe_pos.1 h0
  rw [sum_mul_of_nonneg _ _ (div_one_nonneg h0.le) (div_one_ne_top h0.le h0.ne')]
  unfold outp
  refine Finset.sum_congr rfl fun j _ => ?_
  rw [mul_assoc, den_eq hr, hL, hr, exp_sub_coe, ← EReal.coe_mul, Ideal.div_coe hLpos.ne', Ideal.div_coe (mul_pos hLpos (Real.exp_pos _)).ne',
    one_mul, one_mul, mul_assoc, ← EReal.coe_mul]
  congr 3
  have := (Real.exp_pos (-r)).ne'
  field_simp

theorem log_coe {x : ℝ} (h : 0 < x) : Ideal.log (x : EReal) = ((Real.log x : ℝ) : EReal) := by
  show (if x ≤ 0 then (⊥ : EReal) else ((Real.log x : ℝ) : EReal)) = _
  rw [if_neg (not_le.2 h)]

/-- The logarithm of the plain sum is the softmax's logarithm. -/
theorem direct_lse (h0 : 0 < plain s N) (h1 : plain s N ≠ ⊤) : Ideal.log (plain s N) * log2e * ln2 = lse s N := by
  obtain ⟨r, hr⟩ := top_real h0 h1
  obtain ⟨L, hL⟩ : ∃ L : ℝ, plain s N = (L : EReal) := ⟨_, (EReal.coe_toReal h1 (ne_of_gt (lt_trans EReal.bot_lt_zero h0))).symm⟩
  have hLpos : 0 < L := by rw [hL] at h0; exact EReal.coe_pos.1 h0
  rw [mul_assoc, log2e_mul_ln2, mul_one]
  unfold lse
  rw [den_eq hr, hr, hL, ← EReal.coe_mul, log_coe hLpos, log_coe (mul_pos hLpos (Real.exp_pos _)), ← EReal.coe_add,
    Real.log_mul hLpos.ne' (Real.exp_pos _).ne', Real.log_exp]
  congr 1
  ring

end direct

/-- The split form: the weights of the last `n` scores of `N = M + n` plainly, those of the first `M` relative to a base,
    brought together by one real factor, are the plain sum. -/
theorem split_plain (v e x : ℕ → EReal) (M N : ℕ) (hMN : M ≤ N) (r : ℝ)
    (h : ∀ j < M, e j = Ideal.exp2 (r : EReal) * x j) (hx : ∀ j, 0 ≤ x j) :
    (∑ j ∈ Finset.Ico M N, v j * e j) + Ideal.exp2 (r : EReal) * (∑ j ∈ Finset.range M, v j * x j) = ∑ j ∈ Finset.range N, v j * e j := by
  rw [mul_comm, sum_mul_of_nonneg _ _ (exp2_nonneg _) (exp2_coe_ne_top r), add_comm, ← Finset.sum_range_add_sum_Ico _ hMN]
  congr 1
  refine Finset.sum_congr rfl fun j hj => ?_
  rw [h j (Finset.mem_range.1 hj), mul_assoc, mul_comm (x j)]

end Cert.Softmax

end
-- ==== Proof.Value.Pays.lean ====
/- What the kernel computes inside one tile, read at one element, over the extended reals. -/
module

public import proofs.«01_k».proof.Proof.Ideal.Trips
public import Idealize.ShloMosaic.Lib.WordCmp
public import proofs.«01_k».proof.Proof.Value.Direct

@[expose] public section

set_option maxRecDepth 16384 -- the pointwise reader needs it

noncomputable section

namespace Cert.KernelIdeal.Value

open Idealize.ShloMosaic Idealize.SL.Sem
open Cert.KernelIdeal.Gen Cert.Softmax

theorem lt16384 (n : ℕ) : n % 16384 < 16384 := Nat.mod_lt _ (by norm_num)

/-- The named constants. -/
theorem named_log2e : (Named.named (F := Ideal) κ "log2e" 0x3FB8AA3B#32 : Ideal .f32) = log2e :=
  IdealRules.named_const.ideal_named_scalar _ _ _ _ rfl
theorem named_ln2 : (Named.named (F := Ideal) κ "ln2" 0x3F317218#32 : Ideal .f32) = ln2 :=
  IdealRules.named_const.ideal_named_scalar _ _ _ _ rfl
theorem named_mask : (Named.named (F := Ideal) κ "mask" 0xF149F2CA#32 : Ideal .f32) = (⊥ : EReal) :=
  IdealRules.named_const.ideal_named_scalar _ _ _ _ rfl
theorem named_scale : (Named.named (F := Ideal) κ "scale_log2e" 0x3E0293EE#32 : Ideal .f32) = (((Real.sqrt 128)⁻¹ * (Real.log 2)⁻¹ : ℝ) : EReal) :=
  IdealRules.named_const.ideal_named_scalar _ _ _ _ rfl

section

variable (a b : EReal) (x5 x6 : Vec Ideal S1x1x16384x128 .fp8e4m3) (x7 : Vec Ideal S1x1x128x16384 .fp8e4m3) (x8 : Vec Ideal S1x1x1x16384 .f32)

/-- The raw score of query `I` and key `J`; the gate of row `J`; channel `d` of value `J`. -/
def raw (I J : ℕ) : EReal := ∑ d : Fin 128, x6 (ix4 0 0 ⟨J % 16384, lt16384 J⟩ d) * x5 (ix4 0 0 ⟨I % 16384, lt16384 I⟩ d)
def gate (J : ℕ) : EReal := x8 (ix4 0 0 0 ⟨J % 16384, lt16384 J⟩)
def val (d : Fin 128) (J : ℕ) : EReal := x7 (ix4 0 0 d ⟨J % 16384, lt16384 J⟩)

/-- The score in powers of two; the same with the keys after the query masked; the weight relative to the base. -/
def scr (I J : ℕ) : EReal := raw x5 x6 I J * a + (gate x8 I * log2e - gate x8 J * log2e)
def scm (I J : ℕ) : EReal := if J ≤ I then scr a x5 x6 x8 I J else ⊥
def wgt (I J : ℕ) : EReal := Ideal.exp2 (raw x5 x6 I J * a + (b - gate x8 J * log2e))

/-- The rows, columns and lanes that the loops load. -/
theorem rowsAt_at (x : Vec Ideal S1x1x16384x128 .fp8e4m3) (n : ℕ) (j : Fin 256) (d : Fin 128) :
    Body.rowsAt x n (ix4 0 0 j d) = x (ix4 0 0 ⟨(256 * n + j) % 16384, lt16384 _⟩ d) := rfl
theorem colsAt_at (x : Vec Ideal S1x1x128x16384 .fp8e4m3) (n : ℕ) (d : Fin 128) (j : Fin 256) :
    Body.colsAt x n (ix4 0 0 d j) = x (ix4 0 0 d ⟨(256 * n + j) % 16384, lt16384 _⟩) := rfl
theorem lanesAt_at (x : Vec Ideal S1x1x1x16384 .f32) (n : ℕ) (j : Fin 256) :
    Body.lanesAt x n (ix4 0 0 0 j) = x (ix4 0 0 0 ⟨(256 * n + j) % 16384, lt16384 _⟩) := rfl
theorem lanes128At_at (x : Vec Ideal S1x1x1x16384 .f32) (n : ℕ) (j : Fin 128) :
    Body.lanes128At x n (ix4 0 0 0 j) = x (ix4 0 0 0 ⟨(128 * n + j) % 16384, lt16384 _⟩) := rfl

theorem pay2_at (v : Vec Ideal S1x1x1x128 .f32) (j d : Fin 128) : k0_pay2 (F := Ideal) v (ix2 j d) = v (ix4 0 0 0 j) * log2e := by
  pointwise [k0_pay2, named_log2e]

/-- The key biases that the first loop leaves, a tile of them: the gates times `log2 e`. -/
theorem biasAt_at (n : ℕ) (j : Fin 256) (d : Fin 128) : Body.biasAt (Body.bias x8) n (ix2 j d) = gate x8 (256 * n + j) * log2e := by
  show k0_pay2 (F := Ideal) (Body.lanes128At x8 ((256 * n + j.val) % 16384 / 128)) (ix2 ⟨(256 * n + j.val) % 16384 % 128, Nat.mod_lt _ (by norm_num)⟩ d) = _
  rw [pay2_at, lanes128At_at]
  unfold gate
  have : (128 * ((256 * n + j.val) % 16384 / 128) + (256 * n + j.val) % 16384 % 128) % 16384 = (256 * n + j.val) % 16384 := by omega
  simp only [this]

variable (k : Fin k0_t2_loop.trips)

theorem pay26_at (j : Fin 256) (d : Fin 128) : k0_pay26 (F := Ideal) (Body.rowsAt x5 k) (ix2 j d) = x5 (ix4 0 0 ⟨(256 * k.val + j) % 16384, lt16384 _⟩ d) := by
  pointwise [k0_pay26]; rw [rowsAt_at]

theorem pay27_at (i : Fin 256) : k0_pay27 (F := Ideal) (Body.lanesAt x8 k) (ix2 0 i) = gate x8 (256 * k + i) * log2e := by
  pointwise [k0_pay27, named_log2e]; rw [lanesAt_at]; rfl

/-- A weight left of the diagonal. -/
theorem pay30_at (n : ℕ) (j i : Fin 256) :
    k0_pay30 (F := Ideal) a (Body.rowsAt x5 k) b (Body.rowsAt x6 n) (Body.biasAt (Body.bias x8) n) (ix2 j i) = wgt a b x5 x6 x8 (256 * k + i) (256 * n + j) := by
  pointwise [k0_pay30]
  simp only [biasAt_at, pay26_at, rowsAt_at, dite_eq_ite, ite_self]
  rfl

/-- A weight of the diagonal tile. -/
theorem pay36_at (j i : Fin 256) :
    k0_pay36 (F := Ideal) a Body.keyIota Body.qryIota (k0_pay26 (Body.rowsAt x5 k)) (k0_pay27 (Body.lanesAt x8 k)) (Body.rowsAt x6 k) (Body.biasAt (Body.bias x8) k) (ix2 j i)
      = Ideal.exp2 (scm a x5 x6 x8 (256 * k + i) (256 * k + j)) := by
  pointwise [k0_pay36, Body.keyIota, Body.qryIota, named_mask]
  simp only [biasAt_at, pay26_at, pay27_at, rowsAt_at, dite_eq_ite, ite_self]
  have hj := j.isLt
  have hi := i.isLt
  have hk : k.val < 64 := lt_of_lt_of_eq k.isLt Body.trips_t2
  rw [WordCmp.cmpi_sle_ofNat (by omega) (by omega)]
  unfold scm
  by_cases h : j.val ≤ i.val
  · rw [if_pos (by omega), decide_eq_true h]; rfl
  · rw [if_neg (by omega), decide_eq_false h]; rfl

/-- Row `j` of tile `n`, as a word. -/
theorem row_word (n j : ℕ) : IntOp.addi (BitVec.ofNat 32 j) (Scalar.muli (Scf.iv 0#32 1#32 n) 256#32) = BitVec.ofNat 32 (256 * n + j) := by
  apply BitVec.eq_of_toNat_eq
  simp only [IntOp.addi, Scalar.muli, IntOp.muli, Scf.iv, BitVec.toNat_add, BitVec.toNat_mul, BitVec.toNat_ofNat]
  omega

/-- A score of the running-maximum loop. -/
theorem pay5_at (n : Fin (k0_t5_loop k).trips) (j i : Fin 256) :
    k0_pay5 (F := Ideal) a Body.keyIota Body.qryIota k (Body.tileWord k) (k0_pay26 (Body.rowsAt x5 k)) (k0_pay27 (Body.lanesAt x8 k)) 0#32 1#32 n (Body.rowsAt x6 n) (Body.biasAt (Body.bias x8) n) (ix2 j i)
      = scm a x5 x6 x8 (256 * k + i) (256 * n + j) := by
  pointwise [k0_pay5, Body.keyIota, Body.qryIota, Body.tileWord, named_mask]
  simp only [biasAt_at, pay26_at, pay27_at, rowsAt_at, dite_eq_ite, ite_self]
  have hj := j.isLt
  have hi := i.isLt
  have hk : k.val < 64 := lt_of_lt_of_eq k.isLt Body.trips_t2
  have hn : n.val < 64 := lt_of_lt_of_le n.isLt (by rw [Body.trips_t5]; omega)
  rw [row_word, row_word, WordCmp.cmpi_sle_ofNat (by omega) (by omega)]
  unfold scm
  by_cases h : 256 * n.val + j.val ≤ 256 * k.val + i.val
  · rw [if_pos h, decide_eq_true h]; rfl
  · rw [if_neg h, decide_eq_false h]; rfl

end

end Cert.KernelIdeal.Value

end
-- ==== Proof.Value.Loops.lean ====
/- The kernel's two loops over tiles of keys, over the extended reals: what they have summed after `n` tiles. -/
module

public import proofs.«01_k».proof.Proof.Value.Pays
public import Idealize.ShloMosaic.Lib.Pipeline.ValueKit

@[expose] public section

set_option maxRecDepth 16384 -- the pointwise reader needs it

noncomputable section

namespace Cert.KernelIdeal.Value

open Idealize.ShloMosaic Idealize.SL.Sem
open Cert.KernelIdeal.Gen Cert.Softmax

/-- One more tile of a sum. -/
theorem sum_tile (f : ℕ → EReal) (n : ℕ) : ∑ J ∈ Finset.range (256 * (n + 1)), f J = ∑ J ∈ Finset.range (256 * n), f J + ∑ j : Fin 256, f (256 * n + j) := by
  rw [show 256 * (n + 1) = 256 * n + 256 by ring, Finset.sum_range_add, Finset.sum_range fun x => f (256 * n + x)]

/-- A tile summed in eight parts. -/
theorem sum_eight (f : ℕ → EReal) : ∑ r : Fin 8, ∑ x : Fin 32, f (x.val * 8 + r.val) = ∑ j : Fin 256, f j := by
  rw [Finset.sum_comm, ← Finset.sum_range fun j => f j, ← Finset.sum_range fun x => ∑ r : Fin 8, f (x * 8 + r.val)]
  rw [Finset.sum_congr rfl fun x _ => (Finset.sum_range fun r => f (x * 8 + r)).symm]
  exact (Finset.sum_range_mul_split 32 8 f).symm

/-- A maximum from the smallest number on is a supremum. -/
theorem fold_max (f : Fin 256 → EReal) : Finset.univ.fold max (Ideal.ofBits FTy.f32 4286578688#32) f = Finset.univ.sup f := by
  rw [ofBits_neg_inf]
  rfl

/-- One more tile of a maximum. -/
theorem top_tile (t : ℕ → EReal) (n : ℕ) : top t (256 * (n + 1)) = max (top t (256 * n)) (Finset.univ.sup fun j : Fin 256 => t (256 * n + j)) := by
  apply le_antisymm
  · refine Finset.sup_le fun J hJ => ?_
    have hJ := Finset.mem_range.1 hJ
    by_cases h : J < 256 * n
    · exact le_max_of_le_left (le_top' t h)
    · refine le_max_of_le_right ?_
      have := Finset.le_sup (f := fun j : Fin 256 => t (256 * n + j)) (Finset.mem_univ (⟨J - 256 * n, by omega⟩ : Fin 256))
      simpa only [show 256 * n + (J - 256 * n) = J by omega] using this
  · refine max_le (top_mono t (by omega)) (Finset.sup_le fun j _ => le_top' t ?_)
    have := j.isLt
    omega

section

variable (a b : EReal) (x5 x6 : Vec Ideal S1x1x16384x128 .fp8e4m3) (x7 : Vec Ideal S1x1x128x16384 .fp8e4m3) (x8 : Vec Ideal S1x1x1x16384 .f32)
  (k : Fin k0_t2_loop.trips)

/-- The tiles left of the diagonal: the sum of the weights. -/
theorem off_sum (n : ℕ) (i : Fin 256) : ∑ r : Fin 8, (Body.off (F := Ideal) a (Body.rowsAt x5 k) b x6 x7 (Body.bias x8) 0 n).1 (ix2 r i)
    = ∑ J ∈ Finset.range (256 * n), wgt a b x5 x6 x8 (256 * k + i) J := by
  induction n with
  | zero => exact Finset.sum_eq_zero fun r _ => by show k0_pay29 (F := Ideal) (ix2 r i) = _; pointwise [k0_pay29]
  | succ n ih =>
    have h : ∀ r : Fin 8, (Body.off (F := Ideal) a (Body.rowsAt x5 k) b x6 x7 (Body.bias x8) 0 (n + 1)).1 (ix2 r i)
        = (Body.off (F := Ideal) a (Body.rowsAt x5 k) b x6 x7 (Body.bias x8) 0 n).1 (ix2 r i)
          + ∑ x : Fin 32, wgt a b x5 x6 x8 (256 * k + i) (256 * n + (x.val * 8 + r.val)) := fun r => by
      rw [Body.off]
      simp only [Nat.zero_add]
      pointwise [k0_pay31]
      simp only [pay30_at]
    rw [Finset.sum_congr rfl fun r _ => h r, Finset.sum_add_distrib, ih, sum_tile, sum_eight fun j => wgt a b x5 x6 x8 (256 * k + i) (256 * n + j)]

/-- The tiles left of the diagonal: the weighted values. -/
theorem off_acc (n : ℕ) (d : Fin 128) (i : Fin 256) : (Body.off (F := Ideal) a (Body.rowsAt x5 k) b x6 x7 (Body.bias x8) 0 n).2 (ix2 d i)
    = ∑ J ∈ Finset.range (256 * n), val x7 d J * wgt a b x5 x6 x8 (256 * k + i) J := by
  induction n with
  | zero => show k0_pay28 (F := Ideal) (ix2 d i) = _; pointwise [k0_pay28]; simp
  | succ n ih =>
    rw [Body.off]
    simp only [Nat.zero_add]
    pointwise [k0_pay32]
    rw [ih, sum_tile]
    simp only [pay30_at, colsAt_at]
    rfl

/-- The running-maximum loop after `n` tiles: the largest score, the sum of the weights relative to it, the weighted
    values. -/
theorem on_inv (n : ℕ) (hn : n ≤ k.val + 1) (i : Fin 256) :
    let st := Body.on (F := Ideal) a k (k0_pay26 (Body.rowsAt x5 k)) (k0_pay27 (Body.lanesAt x8 k)) x6 x7 (Body.bias x8) n
    let t := scm a x5 x6 x8 (256 * k + i)
    st.1 (ix2 0 i) = top t (256 * n)
      ∧ ∑ r : Fin 8, st.2.1 (ix2 r i) = ∑ J ∈ Finset.range (256 * n), Ideal.exp2 (t J - top t (256 * n))
      ∧ ∀ d : Fin 128, st.2.2 (ix2 d i) = ∑ J ∈ Finset.range (256 * n), val x7 d J * Ideal.exp2 (t J - top t (256 * n)) := by
  intro st t
  induction n with
  | zero =>
    refine ⟨?_, ?_, fun d => ?_⟩
    · show k0_pay19 (F := Ideal) (ix2 0 i) = _; pointwise [k0_pay19, named_mask]; rfl
    · exact Finset.sum_eq_zero fun r _ => by show k0_pay18 (F := Ideal) (ix2 r i) = _; pointwise [k0_pay18]
    · show k0_pay17 (F := Ideal) (ix2 d i) = _; pointwise [k0_pay17]; simp
  | succ n ih =>
    obtain ⟨h1, h2, h3⟩ := ih (by omega)
    have hst : st = Body.onStep (F := Ideal) a k (k0_pay26 (Body.rowsAt x5 k)) (k0_pay27 (Body.lanesAt x8 k)) ⟨n, by rw [Body.trips_t5]; omega⟩
        (Body.rowsAt x6 n) (Body.biasAt (Body.bias x8) n) (Body.colsAt x7 n)
        (Body.on (F := Ideal) a k (k0_pay26 (Body.rowsAt x5 k)) (k0_pay27 (Body.lanesAt x8 k)) x6 x7 (Body.bias x8) n) := by
      show Body.on (F := Ideal) _ _ _ _ _ _ _ (n + 1) = _
      rw [Body.on, dif_pos (by rw [Body.trips_t5]; omega)]
    generalize Body.on (F := Ideal) a k (k0_pay26 (Body.rowsAt x5 k)) (k0_pay27 (Body.lanesAt x8 k)) x6 x7 (Body.bias x8) n = old at hst h1 h2 h3
    have h5 := fun j : Fin 256 => pay5_at a x5 x6 x8 k ⟨n, by rw [Body.trips_t5]; omega⟩ j i
    have h6 : k0_pay6 (F := Ideal) a Body.keyIota Body.qryIota k (Body.tileWord k) (k0_pay26 (Body.rowsAt x5 k)) (k0_pay27 (Body.lanesAt x8 k)) 0#32 1#32
        ⟨n, by rw [Body.trips_t5]; omega⟩ (Body.rowsAt x6 n) (Body.biasAt (Body.bias x8) n) old.1 (ix2 0 i) = top t (256 * (n + 1)) := by
      pointwise [k0_pay6]
      rw [fold_max, h1, top_tile]
      simp only [h5]
      rfl
    have hle : top t (256 * n) ≤ top t (256 * (n + 1)) := top_mono t (by omega)
    have h7 : k0_pay7 (F := Ideal) a Body.keyIota Body.qryIota k (Body.tileWord k) (k0_pay26 (Body.rowsAt x5 k)) (k0_pay27 (Body.lanesAt x8 k)) 0#32 1#32
        ⟨n, by rw [Body.trips_t5]; omega⟩ (Body.rowsAt x6 n) (Body.biasAt (Body.bias x8) n) old.1 old.1 (ix2 0 i) = Ideal.exp2 (top t (256 * n) - top t (256 * (n + 1))) := by
      pointwise [k0_pay7]
      rw [h6, h1]
      rfl
    have h8 : ∀ j : Fin 256, k0_pay8 (F := Ideal) a Body.keyIota Body.qryIota k (Body.tileWord k) (k0_pay26 (Body.rowsAt x5 k)) (k0_pay27 (Body.lanesAt x8 k)) 0#32 1#32
        ⟨n, by rw [Body.trips_t5]; omega⟩ (Body.rowsAt x6 n) (Body.biasAt (Body.bias x8) n) old.1 (ix2 j i) = Ideal.exp2 (t (256 * n + j) - top t (256 * (n + 1))) := fun j => by
      pointwise [k0_pay8]
      rw [h6, h5 j]
      rfl
    rw [hst]
    refine ⟨?_, ?_, fun d => ?_⟩
    · unfold Body.onStep
      pointwise [k0_pay9]
      exact h6
    · have h10 : ∀ r : Fin 8, (Body.onStep (F := Ideal) a k (k0_pay26 (Body.rowsAt x5 k)) (k0_pay27 (Body.lanesAt x8 k)) ⟨n, by rw [Body.trips_t5]; omega⟩
          (Body.rowsAt x6 n) (Body.biasAt (Body.bias x8) n) (Body.colsAt x7 n) old).2.1 (ix2 r i)
          = old.2.1 (ix2 r i) * Ideal.exp2 (top t (256 * n) - top t (256 * (n + 1)))
            + ∑ x : Fin 32, Ideal.exp2 (t (256 * n + (x.val * 8 + r.val)) - top t (256 * (n + 1))) := fun r => by
        unfold Body.onStep
        pointwise [k0_pay20, k0_pay10]
        rw [h7]
        simp only [h8]
      rw [Finset.sum_congr rfl fun r _ => h10 r, Finset.sum_add_distrib, ← sum_mul_of_nonneg _ _ (exp2_nonneg _) (exp2_sub_ne_top hle), h2,
        sum_eight fun j => Ideal.exp2 (t (256 * n + j) - top t (256 * (n + 1))), sum_tile]
      have := sum_rescale t (fun _ => 1) (N := 256 * n) (fun j hj => le_top' t hj) hle
      simp only [one_mul] at this
      rw [this]
    · unfold Body.onStep
      pointwise [k0_pay21]
      rw [h7, h3 d, sum_rescale t _ (fun j hj => le_top' t hj) hle, sum_tile]
      simp only [h8, colsAt_at]
      rfl

end

end Cert.KernelIdeal.Value

end
-- ==== Proof.Value.Tile.lean ====
/- One query tile of the kernel, over the extended reals: both of its paths give the softmax of the scores up to the
   diagonal. -/
module

public import proofs.«01_k».proof.Proof.Value.Loops

@[expose] public section

set_option maxRecDepth 16384 -- the pointwise reader needs it

noncomputable section

namespace Cert.KernelIdeal.Value

open Idealize.ShloMosaic Idealize.SL.Sem
open Cert.KernelIdeal.Gen Cert.Softmax

section

variable (a : EReal) (b : ℝ) (x5 x6 : Vec Ideal S1x1x16384x128 .fp8e4m3) (x7 : Vec Ideal S1x1x128x16384 .fp8e4m3) (x8 : Vec Ideal S1x1x1x16384 .f32)
  (x9 : Vec Ideal S1x1x1x128 .f32) (k : Fin k0_t2_loop.trips)

theorem trips_t3_zero : (k0_t3_loop k 0#32).trips = k.val := by
  rw [Body.trips_t3 k 0#32 (by decide)]
  rfl

/-- The diagonal tile's weights, summed. -/
theorem ld_at (i : Fin 256) : Body.ldOf (F := Ideal) a x5 x6 x8 k (ix2 0 i)
    = ∑ J ∈ Finset.Ico (256 * k.val) (256 * (k.val + 1)), Ideal.exp2 (scm a x5 x6 x8 (256 * k + i) J) := by
  unfold Body.ldOf
  pointwise [k0_pay37]
  simp only [pay36_at]
  rw [sum_eight fun j => Ideal.exp2 (scm a x5 x6 x8 (256 * k + i) (256 * k + j)), Finset.sum_Ico_eq_sum_range,
    show 256 * (k.val + 1) - 256 * k.val = 256 by omega, Finset.sum_range]

/-- The other tiles' weights, summed. -/
theorem lo_at (i : Fin 256) : Body.loOf (F := Ideal) a (b : EReal) 0#32 x5 x6 x7 x8 k (ix2 0 i)
    = ∑ J ∈ Finset.range (256 * k.val), wgt a b x5 x6 x8 (256 * k + i) J := by
  unfold Body.loOf Body.offAll
  pointwise [k0_pay38]
  rw [trips_t3_zero]
  exact off_sum a b x5 x6 x7 x8 k k.val i

/-- The factor that brings the base to the query's gate. -/
theorem w_at (i : Fin 256) (g : ℝ) (hg : gate x8 (256 * k + i) = (g : EReal)) :
    k0_pay39 (F := Ideal) (k0_pay27 (Body.lanesAt x8 k)) (b : EReal) (ix2 0 i) = Ideal.exp2 (((g * (Real.log 2)⁻¹ - b : ℝ)) : EReal) := by
  pointwise [k0_pay39]
  rw [pay27_at, hg]
  unfold log2e
  rw [← EReal.coe_mul, ← EReal.coe_sub]
  rfl

/-- A weight relative to the base, brought to the query's gate, is the power of two of the score. -/
theorem wgt_eq (hc : ∀ J, ∃ g : ℝ, gate x8 J = (g : EReal)) (I J : ℕ) (g : ℝ) (hg : gate x8 I = (g : EReal)) :
    Ideal.exp2 (scr a x5 x6 x8 I J) = Ideal.exp2 ((g * (Real.log 2)⁻¹ - b : ℝ) : EReal) * wgt a b x5 x6 x8 I J := by
  obtain ⟨gj, hj⟩ := hc J
  unfold wgt scr
  rw [hg, hj, ← exp2_add_coe]
  unfold log2e
  simp only [← EReal.coe_mul, ← EReal.coe_sub]
  rw [add_assoc, ← EReal.coe_add]
  congr 3
  ring

/-- The sum of all weights, the weighted values: the plain sums of powers of two. -/
theorem l_at (hc : ∀ J, ∃ g : ℝ, gate x8 J = (g : EReal)) (i : Fin 256) : Body.lOf (F := Ideal) a (b : EReal) 0#32 x5 x6 x7 x8 k (ix2 0 i)
    = ∑ J ∈ Finset.range (256 * (k.val + 1)), Ideal.exp2 (scm a x5 x6 x8 (256 * k + i) J) := by
  obtain ⟨g, hg⟩ := hc (256 * k + i)
  have h1 := ld_at a x5 x6 x8 k i
  have h2 := lo_at a b x5 x6 x7 x8 k i
  unfold Body.ldOf at h1
  unfold Body.loOf at h2
  unfold Body.lOf
  pointwise [k0_pay40]
  rw [h1, h2, w_at b x8 k i g hg]
  have := split_plain (fun _ => 1) (fun J => Ideal.exp2 (scm a x5 x6 x8 (256 * k + i) J)) (fun J => wgt a b x5 x6 x8 (256 * k + i) J) (256 * k.val) (256 * (k.val + 1))
    (by omega) (g * (Real.log 2)⁻¹ - b) (fun J hJ => by
      show Ideal.exp2 (scm _ _ _ _ _ _) = _
      unfold scm
      rw [if_pos (by omega)]
      exact wgt_eq a b x5 x6 x8 hc _ _ g hg) (fun J => exp2_nonneg _)
  simpa only [one_mul] using this

theorem o_at (hc : ∀ J, ∃ g : ℝ, gate x8 J = (g : EReal)) (d : Fin 128) (i : Fin 256) : Body.oOf (F := Ideal) a (b : EReal) 0#32 x5 x6 x7 x8 k (ix2 d i)
    = ∑ J ∈ Finset.range (256 * (k.val + 1)), val x7 d J * Ideal.exp2 (scm a x5 x6 x8 (256 * k + i) J) := by
  obtain ⟨g, hg⟩ := hc (256 * k + i)
  have h2 := off_acc a b x5 x6 x7 x8 k k.val d i
  unfold Body.oOf
  pointwise [k0_pay41]
  unfold Body.offAll
  rw [trips_t3_zero]
  rw [show (0#32).toNat = 0 from rfl, h2, w_at b x8 k i g hg]
  simp only [pay36_at, colsAt_at]
  have := split_plain (val x7 d) (fun J => Ideal.exp2 (scm a x5 x6 x8 (256 * k + i) J)) (fun J => wgt a b x5 x6 x8 (256 * k + i) J) (256 * k.val) (256 * (k.val + 1))
    (by omega) (g * (Real.log 2)⁻¹ - b) (fun J hJ => by
      show Ideal.exp2 (scm _ _ _ _ _ _) = _
      unfold scm
      rw [if_pos (by omega)]
      exact wgt_eq a b x5 x6 x8 hc _ _ g hg) (fun J => exp2_nonneg _)
  rw [← this, Finset.sum_Ico_eq_sum_range, show 256 * (k.val + 1) - 256 * k.val = 256 by omega, Finset.sum_range]
  rfl

/-- Where the test of the sums passes, each row's sums are positive and finite. -/
theorem ok_of_not_bad (h : Body.badWord (F := Ideal) a (b : EReal) 0#32 x5 x6 x7 x8 k ≠ 1#1) (i : Fin 256) :
    0 < Body.ldOf (F := Ideal) a x5 x6 x8 k (ix2 0 i) ∧ Body.ldOf (F := Ideal) a x5 x6 x8 k (ix2 0 i) ≠ ⊤
      ∧ Body.loOf (F := Ideal) a (b : EReal) 0#32 x5 x6 x7 x8 k (ix2 0 i) ≠ ⊤ := by
  by_contra hne
  apply h
  unfold Body.badWord
  have hp : (0 : EReal) < k0_pay43 (F := Ideal) (Body.ldOf a x5 x6 x8 k) (Body.loOf a (b : EReal) 0#32 x5 x6 x7 x8 k) (Body.okOf a x5 x6 x8 k) (Scalar.ofBits .f32 0x71800000#32 : Ideal .f32) := by
    have hok : Body.okOf (F := Ideal) a x5 x6 x8 k (ix2 0 i)
        = IntOp.andi (BitVec.ofBool (decide (Ideal.ofBits .f32 0x35800000#32 < Body.ldOf (F := Ideal) a x5 x6 x8 k (ix2 0 i))))
          (BitVec.ofBool (decide (Body.ldOf (F := Ideal) a x5 x6 x8 k (ix2 0 i) < Ideal.ofBits .f32 0x71800000#32))) := by
      unfold Body.okOf
      pointwise [k0_pay42]
      rfl
    pointwise [k0_pay43]
    rw [Finset.lt_fold_max]
    refine Or.inr ⟨((0 : Fin 1), i), Finset.mem_univ _, ?_⟩
    show (0 : EReal) < Scalar.select (IntOp.andi (IntOp.andi (Body.okOf (F := Ideal) a x5 x6 x8 k (ix2 0 i)) _) _) 0 1
    rw [hok]
    generalize Body.ldOf (F := Ideal) a x5 x6 x8 k (ix2 0 i) = ld at hne ⊢
    generalize Body.loOf (F := Ideal) a (b : EReal) 0#32 x5 x6 x7 x8 k (ix2 0 i) = lo at hne ⊢
    by_cases hA : Ideal.ofBits .f32 0x35800000#32 < ld
    · by_cases hB : ld < Ideal.ofBits .f32 0x71800000#32
      · by_cases hC : lo < Ideal.ofBits .f32 0x71800000#32
        · refine absurd ⟨lt_trans ?_ hA, ne_top_of_lt hB, ne_top_of_lt hC⟩ hne
          rw [ofBits_two_pow_neg_20]
          exact EReal.coe_pos.2 (by positivity)
        · rw [decide_eq_false hC]
          simp [IntOp.andi, Scalar.select]
      · rw [decide_eq_false hB]
        simp [IntOp.andi, Scalar.select]
    · rw [decide_eq_false hA]
      simp [IntOp.andi, Scalar.select]
  generalize k0_pay43 (F := Ideal) _ _ _ _ = z at hp
  show Scalar.cmpi CmpIPredicate.ne (Scalar.extui (BitVec.ofBool (decide (Ideal.ofBits .f32 0x00000000#32 < z)))) 0#32 = 1#1
  rw [Ideal.ofBits_zero_f32, decide_eq_true hp]
  rfl

/-- The masked score times `log 2`. -/
def sco (I J : ℕ) : EReal := scm a x5 x6 x8 I J * ln2

theorem plain_eq (I N : ℕ) : ∑ J ∈ Finset.range N, Ideal.exp2 (scm a x5 x6 x8 I J) = plain (sco a x5 x6 x8 I) N :=
  Finset.sum_congr rfl fun J _ => exp2_eq _

/-- Where the test passes, the sum of all weights is positive and finite. -/
theorem plain_pos (hc : ∀ J, ∃ g : ℝ, gate x8 J = (g : EReal)) (h : Body.badWord (F := Ideal) a (b : EReal) 0#32 x5 x6 x7 x8 k ≠ 1#1) (i : Fin 256) :
    0 < plain (sco a x5 x6 x8 (256 * k + i)) (256 * (k.val + 1)) ∧ plain (sco a x5 x6 x8 (256 * k + i)) (256 * (k.val + 1)) ≠ ⊤ := by
  obtain ⟨h0, h1, h2⟩ := ok_of_not_bad a b x5 x6 x7 x8 k h i
  obtain ⟨g, hg⟩ := hc (256 * k + i)
  rw [← plain_eq]
  have h3 := ld_at a x5 x6 x8 k i
  have h4 := lo_at a b x5 x6 x7 x8 k i
  have hs := split_plain (fun _ => 1) (fun J => Ideal.exp2 (scm a x5 x6 x8 (256 * k + i) J)) (fun J => wgt a b x5 x6 x8 (256 * k + i) J) (256 * k.val) (256 * (k.val + 1))
    (by omega) (g * (Real.log 2)⁻¹ - b) (fun J hJ => by
      show Ideal.exp2 (scm _ _ _ _ _ _) = _
      unfold scm
      rw [if_pos (by omega)]
      exact wgt_eq a b x5 x6 x8 hc _ _ g hg) (fun J => exp2_nonneg _)
  simp only [one_mul] at hs
  rw [← h3, ← h4] at hs
  have hlo : 0 ≤ Body.loOf (F := Ideal) a (b : EReal) 0#32 x5 x6 x7 x8 k (ix2 0 i) := by
    rw [h4]; exact Finset.sum_nonneg fun J _ => exp2_nonneg _
  generalize Body.ldOf (F := Ideal) a x5 x6 x8 k (ix2 0 i) = ld at h0 h1 hs
  generalize Body.loOf (F := Ideal) a (b : EReal) 0#32 x5 x6 x7 x8 k (ix2 0 i) = lo at h2 hs hlo
  rw [← hs]
  have hw := exp2_nonneg ((g * (Real.log 2)⁻¹ - b : ℝ) : EReal)
  refine ⟨lt_of_lt_of_le h0 (le_add_of_nonneg_right (mul_nonneg hw hlo)), ?_⟩
  have hp : Ideal.exp2 ((g * (Real.log 2)⁻¹ - b : ℝ) : EReal) * lo ≠ ⊤ := by
    obtain ⟨r, hr⟩ : ∃ r : ℝ, lo = (r : EReal) := ⟨_, (EReal.coe_toReal h2 (ne_of_gt (lt_of_lt_of_le EReal.bot_lt_zero hlo))).symm⟩
    rw [hr]
    show ((Real.rpow 2 _ : ℝ) : EReal) * _ ≠ ⊤
    rw [← EReal.coe_mul]
    exact EReal.coe_ne_top _
  exact (EReal.add_lt_top h1 hp).ne

/-- Masked scores. -/
theorem sco_masked (I J : ℕ) (h : I < J) : sco a x5 x6 x8 I J = ⊥ := by
  unfold sco scm
  rw [if_neg (by omega), bot_mul_ln2]

/-- The values that a query tile leaves: the softmax over all scores up to the query, times the values' scale. -/
theorem oTile_at (hc : ∀ J, ∃ g : ℝ, gate x8 J = (g : EReal)) (i : Fin 256) (d : Fin 128) :
    Body.oTile (F := Ideal) a (b : EReal) 0#32 x5 x6 x7 x8 x9 k (ix3 0 i d) = outp (sco a x5 x6 x8 (256 * k + i)) (val x7 d) 16384 * x9 (ix4 0 0 0 d) := by
  have hk : k.val < 64 := lt_of_lt_of_eq k.isLt Body.trips_t2
  have hi := i.isLt
  rw [outp_ext (N := 256 * (k.val + 1)) _ _ (by omega) fun J hJ => sco_masked a x5 x6 x8 _ J (by omega)]
  unfold Body.oTile
  by_cases h : Body.badWord (F := Ideal) a (b : EReal) 0#32 x5 x6 x7 x8 k = 1#1
  · rw [if_pos h]
    obtain ⟨h1, h2, h3⟩ := on_inv a x5 x6 x7 x8 k (k.val + 1) le_rfl i
    unfold Body.onAll
    rw [Body.trips_t5]
    pointwise [k0_pay3, k0_pay25, k0_pay24]
    rw [h2, h3 d, online_outp]
    rfl
  · rw [if_neg h]
    obtain ⟨h0, h1⟩ := plain_pos a b x5 x6 x7 x8 k hc h i
    have h2 := l_at a b x5 x6 x7 x8 k hc i
    have h3 := o_at a b x5 x6 x7 x8 k hc d i
    rw [plain_eq] at h2
    pointwise [k0_pay44]
    rw [h2, h3, ← direct_outp _ h0 h1]
    simp only [exp2_eq]
    rfl

/-- The logarithms that a query tile leaves. -/
theorem lseTile_at (hc : ∀ J, ∃ g : ℝ, gate x8 J = (g : EReal)) (i : Fin 256) :
    Body.lseTile (F := Ideal) a (b : EReal) 0#32 x5 x6 x7 x8 k (ix4 0 0 0 i) = lse (sco a x5 x6 x8 (256 * k + i)) 16384 := by
  have hk : k.val < 64 := lt_of_lt_of_eq k.isLt Body.trips_t2
  have hi := i.isLt
  rw [lse_ext (N := 256 * (k.val + 1)) _ (by omega) fun J hJ => sco_masked a x5 x6 x8 _ J (by omega)]
  unfold Body.lseTile
  by_cases h : Body.badWord (F := Ideal) a (b : EReal) 0#32 x5 x6 x7 x8 k = 1#1
  · rw [if_pos h]
    obtain ⟨h1, h2, h3⟩ := on_inv a x5 x6 x7 x8 k (k.val + 1) le_rfl i
    unfold Body.onAll
    rw [Body.trips_t5]
    pointwise [k0_pay4, k0_pay24, named_log2e, named_ln2]
    rw [h2, h1, online_lse]
    rfl
  · rw [if_neg h]
    obtain ⟨h0, h1⟩ := plain_pos a b x5 x6 x7 x8 k hc h i
    have h2 := l_at a b x5 x6 x7 x8 k hc i
    rw [plain_eq] at h2
    pointwise [k0_pay45, named_log2e, named_ln2]
    rw [h2, direct_lse h0 h1]

end

end Cert.KernelIdeal.Value

end
-- ==== Proof.Value.Blocks.lean ====
/- The blocks that a grid point of the kernel reads, over the extended reals: each at an index, from the arguments. -/
module

public import proofs.«01_k».proof.Proof.Ideal.Starts
public import proofs.«01_k».proof.Proof.Value.Tile
public import Idealize.ShloMosaic.Lib.StableHlo.ReadAt
public import Idealize.ShloMosaic.Lib.Pipeline.ValueKit

@[expose] public section

set_option maxRecDepth 16384 -- the pointwise reader needs it

noncomputable section

namespace Cert.KernelIdeal.Value

open Idealize.ShloMosaic Idealize.ShloMosaic.TcCoe Idealize.SL.Sem
open Cert.KernelIdeal.Gen Cert.Softmax

/-- The grid's coordinates and the windows' block indices: point `t` is batch `t / 32`, head `t % 32`. -/
theorem coord : ∀ t : Fin grid0.N, (grid0.coords t 0).val = t.val / 32 ∧ (grid0.coords t 1).val = t.val % 32 := by decide +kernel

theorem idx : ∀ t : Fin grid0.N, win0_0.index t = ![0] ∧ win0_1.index t = ![0] ∧ win0_2.index t = ![0]
    ∧ win0_3.index t = ![t.val / 32, t.val % 32, 0, 0] ∧ win0_4.index t = ![t.val / 32, t.val % 32 / 4, 0, 0] ∧ win0_5.index t = ![t.val / 32, t.val % 32 / 4, 0, 0]
    ∧ win0_6.index t = ![t.val / 32, t.val % 32, 0, 0] ∧ win0_7.index t = ![t.val / 32, t.val % 32 / 4, 0, 0]
    ∧ win0_8.index t = ![t.val / 32, 0, t.val % 32] ∧ win0_9.index t = ![t.val / 32, t.val % 32, 0, 0] := by decide +kernel

theorem lt_N (t : Fin cfg0.N) : t.val < 64 := lt_of_lt_of_eq t.isLt N_0

variable (m : (ℓ : Loc nD τ sig) → Buf (Elt Ideal) ℓ) (c : Dev nD)

/-- The arguments, as functions to the extended reals. -/
abbrev aq : S2x16384x32x128.Idx → EReal := fun i => m ((c : Thread nD τ).loc main_arg0) i
abbrev aqs : S2x32.Idx → EReal := fun i => m ((c : Thread nD τ).loc main_arg1) i
abbrev ak : S2x16384x8x128.Idx → EReal := fun i => m ((c : Thread nD τ).loc main_arg2) i
abbrev aks : S2x8.Idx → EReal := fun i => m ((c : Thread nD τ).loc main_arg3) i
abbrev av : S2x16384x8x128.Idx → EReal := fun i => m ((c : Thread nD τ).loc main_arg4) i
abbrev avs : S2x8x128.Idx → EReal := fun i => m ((c : Thread nD τ).loc main_arg5) i
abbrev act : S2x32x16384.Idx → EReal := fun i => m ((c : Thread nD τ).loc main_arg6) i

/-! ## The host operations before the call -/

theorem V_v15 (n : Fin 4096) : (V m c main_v15 : IVec S4096 32) (ix1 n)
    = (m ((c : Thread nD τ).loc main_arg7) : IVec S2x32x64 32) (ix3 ⟨n.val / 2048, by omega⟩ ⟨n.val / 64 % 32, by omega⟩ ⟨n.val % 64, by omega⟩) := by
  after_reads_at

theorem V_v14 (n : Fin 64) : (V m c main_v14 : FVec Ideal S64 .f32) (ix1 n)
    = aqs m c (ix2 ⟨n.val / 32, by omega⟩ ⟨n.val % 32, by omega⟩) * aks m c (ix2 ⟨n.val / 32, by omega⟩ ⟨n.val % 32 / 4, by omega⟩) := by
  after_reads_at

theorem V_v16 (n : Fin 4096) : (V m c main_v16 : FVec Ideal S4096 .f32) (ix1 n)
    = if h : n.val % 64 = 0 then 0 else
      act m c (ix3 ⟨n.val / 2048, by omega⟩ ⟨n.val / 64 % 32, by omega⟩ ⟨(n.val % 64 - 1) * 256 + 255, by omega⟩) * Ideal.ofBits FTy.f32 0x3FB8AA3B#32 := by
  after_reads_at
  by_cases h : n.val % 64 = 0
  · rw [dif_pos (by omega), dif_pos h]
    after_reads_at
  · rw [dif_neg (by omega), dif_neg h]
    after_reads_at

theorem V_v0 (b : Fin 2) (h : Fin 32) (j : Fin 16384) (d : Fin 128) : (V m c main_v0 : FVec Ideal S2x32x16384x128 .fp8e4m3) (ix4 b h j d) = aq m c (ix4 b j h d) := by
  after_reads_at
theorem V_v1 (b : Fin 2) (h : Fin 8) (j : Fin 16384) (d : Fin 128) : (V m c main_v1 : FVec Ideal S2x8x16384x128 .fp8e4m3) (ix4 b h j d) = ak m c (ix4 b j h d) := by
  after_reads_at
theorem V_v2 (b : Fin 2) (h : Fin 8) (d : Fin 128) (j : Fin 16384) : (V m c main_v2 : FVec Ideal S2x8x128x16384 .fp8e4m3) (ix4 b h d j) = av m c (ix4 b j h d) := by
  after_reads_at
theorem V_v17 (b : Fin 2) (h : Fin 32) (j : Fin 16384) : (V m c main_v17 : FVec Ideal S2x32x1x16384 .f32) (ix4 b h 0 j) = act m c (ix3 b h j) := by
  after_reads_at
theorem V_v18 (b : Fin 2) (h : Fin 8) (d : Fin 128) : (V m c main_v18 : FVec Ideal S2x8x1x128 .f32) (ix4 b h 0 d) = avs m c (ix3 b h d) := by
  after_reads_at

/-! ## The blocks -/

variable (t : Fin cfg0.N)

theorem blk0 (n : Fin 4096) : (iblk m c 0 t : IVec S4096 32) (ix1 n)
    = (m ((c : Thread nD τ).loc main_arg7) : IVec S2x32x64 32) (ix3 ⟨n.val / 2048, by omega⟩ ⟨n.val / 64 % 32, by omega⟩ ⟨n.val % 64, by omega⟩) := by
  refine Eq.trans ?_ (V_v15 m c n)
  obtain ⟨h0, -⟩ := idx t
  blk_ext [iblk, h0]

theorem blk1 (n : Fin 64) : (iblk m c 1 t : FVec Ideal S64 .f32) (ix1 n)
    = aqs m c (ix2 ⟨n.val / 32, by omega⟩ ⟨n.val % 32, by omega⟩) * aks m c (ix2 ⟨n.val / 32, by omega⟩ ⟨n.val % 32 / 4, by omega⟩) := by
  refine Eq.trans ?_ (V_v14 m c n)
  obtain ⟨-, h1, -⟩ := idx t
  blk_ext [iblk, h1]

theorem blk2 (n : Fin 4096) : (iblk m c 2 t : FVec Ideal S4096 .f32) (ix1 n)
    = if h : n.val % 64 = 0 then 0 else
      act m c (ix3 ⟨n.val / 2048, by omega⟩ ⟨n.val / 64 % 32, by omega⟩ ⟨(n.val % 64 - 1) * 256 + 255, by omega⟩) * Ideal.ofBits FTy.f32 0x3FB8AA3B#32 := by
  refine Eq.trans ?_ (V_v16 m c n)
  obtain ⟨-, -, h2, -⟩ := idx t
  blk_ext [iblk, h2]

theorem blk3 (j : Fin 16384) (d : Fin 128) : (iblk m c 3 t : FVec Ideal S1x1x16384x128 .fp8e4m3) (ix4 0 0 j d)
    = aq m c (ix4 ⟨t.val / 32, by have := lt_N t; omega⟩ j ⟨t.val % 32, by omega⟩ d) := by
  refine Eq.trans ?_ (V_v0 m c ⟨t.val / 32, by have := lt_N t; omega⟩ ⟨t.val % 32, by omega⟩ j d)
  obtain ⟨-, -, -, h3, -⟩ := idx t
  blk_ext [iblk, h3]

theorem blk4 (j : Fin 16384) (d : Fin 128) : (iblk m c 4 t : FVec Ideal S1x1x16384x128 .fp8e4m3) (ix4 0 0 j d)
    = ak m c (ix4 ⟨t.val / 32, by have := lt_N t; omega⟩ j ⟨t.val % 32 / 4, by omega⟩ d) := by
  refine Eq.trans ?_ (V_v1 m c ⟨t.val / 32, by have := lt_N t; omega⟩ ⟨t.val % 32 / 4, by omega⟩ j d)
  obtain ⟨-, -, -, -, h4, -⟩ := idx t
  blk_ext [iblk, h4]

theorem blk5 (d : Fin 128) (j : Fin 16384) : (iblk m c 5 t : FVec Ideal S1x1x128x16384 .fp8e4m3) (ix4 0 0 d j)
    = av m c (ix4 ⟨t.val / 32, by have := lt_N t; omega⟩ j ⟨t.val % 32 / 4, by omega⟩ d) := by
  refine Eq.trans ?_ (V_v2 m c ⟨t.val / 32, by have := lt_N t; omega⟩ ⟨t.val % 32 / 4, by omega⟩ d j)
  obtain ⟨-, -, -, -, -, h5, -⟩ := idx t
  blk_ext [iblk, h5]

theorem blk6 (j : Fin 16384) : (iblk m c 6 t : FVec Ideal S1x1x1x16384 .f32) (ix4 0 0 0 j)
    = act m c (ix3 ⟨t.val / 32, by have := lt_N t; omega⟩ ⟨t.val % 32, by omega⟩ j) := by
  refine Eq.trans ?_ (V_v17 m c ⟨t.val / 32, by have := lt_N t; omega⟩ ⟨t.val % 32, by omega⟩ j)
  obtain ⟨-, -, -, -, -, -, h6, -⟩ := idx t
  blk_ext [iblk, h6]

theorem blk7 (d : Fin 128) : (iblk m c 7 t : FVec Ideal S1x1x1x128 .f32) (ix4 0 0 0 d)
    = avs m c (ix3 ⟨t.val / 32, by have := lt_N t; omega⟩ ⟨t.val % 32 / 4, by omega⟩ d) := by
  refine Eq.trans ?_ (V_v18 m c ⟨t.val / 32, by have := lt_N t; omega⟩ ⟨t.val % 32 / 4, by omega⟩ d)
  obtain ⟨-, -, -, -, -, -, -, h7, -⟩ := idx t
  blk_ext [iblk, h7]

end Cert.KernelIdeal.Value

end
-- ==== Proof.Value.Reference.lean ====
/- The reference, over the extended reals: its two results at an index, from its arguments. -/
module

public import proofs.«01_k».proof.Proof.Gen.ReferenceIdeal.Frame
public import proofs.«01_k».proof.Proof.Value.Direct
public import Idealize.ShloMosaic.Lib.StableHlo.ReadAt
public import Idealize.ShloMosaic.Lib.Pipeline.ValueKit
public import Idealize.ShloMosaic.Lib.WordCmp

@[expose] public section

set_option maxRecDepth 16384 -- the pointwise reader needs it

noncomputable section

namespace Cert.ReferenceIdeal.Value

open Idealize.ShloMosaic Idealize.ShloMosaic.TcCoe Idealize.SL.Sem
open Cert.ReferenceIdeal.Gen Cert.Softmax

section launch

variable (m : (ℓ : Loc nD τ sig) → Buf (Elt Ideal) ℓ)

/-- Every block of the casting call is its whole array. -/
theorem idx : ∀ t : Fin grid0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0] := by decide +kernel

/-! The casting call leaves the codes' values. -/

theorem arr3 (c : Dev nD) : (dats m 0 c).arrAt 3 (cfgs 0).N = (fun i => (m ((c : Thread nD τ).loc main_arg0) i : EReal)) := by
  refine (dats m 0 c).arrAt_eq_of_covers 3 _ (by decide +kernel) fun t hf y => ?_
  blk_simp
  rw [after0_3]
  frame_out
  show iblk m c 0 t y = _
  obtain ⟨h0, h1, h2, h3, h4, h5⟩ := idx t
  blk_ext [iblk, V, V0, h0, h1, h2, h3, h4, h5]

theorem arr4 (c : Dev nD) : (dats m 0 c).arrAt 4 (cfgs 0).N = (fun i => (m ((c : Thread nD τ).loc main_arg2) i : EReal)) := by
  refine (dats m 0 c).arrAt_eq_of_covers 4 _ (by decide +kernel) fun t hf y => ?_
  blk_simp
  rw [after0_4]
  frame_out
  show iblk m c 1 t y = _
  obtain ⟨h0, h1, h2, h3, h4, h5⟩ := idx t
  blk_ext [iblk, V, V0, h0, h1, h2, h3, h4, h5]

theorem arr5 (c : Dev nD) : (dats m 0 c).arrAt 5 (cfgs 0).N = (fun i => (m ((c : Thread nD τ).loc main_arg4) i : EReal)) := by
  refine (dats m 0 c).arrAt_eq_of_covers 5 _ (by decide +kernel) fun t hf y => ?_
  blk_simp
  rw [after0_5]
  frame_out
  show iblk m c 2 t y = _
  obtain ⟨h0, h1, h2, h3, h4, h5⟩ := idx t
  blk_ext [iblk, V, V0, h0, h1, h2, h3, h4, h5]

theorem arr_inj : Function.Injective (Pipeline.arrRef spec0) := by decide

/-- The contents that the host operations after the call start from. -/
abbrev W0 (c : Dev nD) : Valuation τ sig (Elt Ideal) :=
  Pipeline.withArrays (cfgs 0).spec c (V0 m c) fun w => (dats m 0 c).arrAt w (cfgs 0).N

theorem W0_v0_0 (c : Dev nD) : W0 m c (Proc.devRef .tc main_v0_0) = (fun i => (m ((c : Thread nD τ).loc main_arg0) i : EReal)) :=
  (Pipeline.withArrays_arr spec0 arr_inj c (V0 m c) _ 3).trans (arr3 m c)
theorem W0_v0_1 (c : Dev nD) : W0 m c (Proc.devRef .tc main_v0_1) = (fun i => (m ((c : Thread nD τ).loc main_arg2) i : EReal)) :=
  (Pipeline.withArrays_arr spec0 arr_inj c (V0 m c) _ 4).trans (arr4 m c)
theorem W0_v0_2 (c : Dev nD) : W0 m c (Proc.devRef .tc main_v0_2) = (fun i => (m ((c : Thread nD τ).loc main_arg4) i : EReal)) :=
  (Pipeline.withArrays_arr spec0 arr_inj c (V0 m c) _ 5).trans (arr5 m c)
theorem W0_arg1 (c : Dev nD) : W0 m c (Proc.devRef .tc main_arg1) = m ((c : Thread nD τ).loc main_arg1) :=
  (Pipeline.withArrays_of_ne spec0 c (V0 m c) _ main_arg1 (by exact (by decide : ∀ w, Pipeline.arrRef spec0 w ≠ main_arg1))).trans (V_main_arg1 m c)
theorem W0_arg3 (c : Dev nD) : W0 m c (Proc.devRef .tc main_arg3) = m ((c : Thread nD τ).loc main_arg3) :=
  (Pipeline.withArrays_of_ne spec0 c (V0 m c) _ main_arg3 (by exact (by decide : ∀ w, Pipeline.arrRef spec0 w ≠ main_arg3))).trans (V_main_arg3 m c)
theorem W0_arg5 (c : Dev nD) : W0 m c (Proc.devRef .tc main_arg5) = m ((c : Thread nD τ).loc main_arg5) :=
  (Pipeline.withArrays_of_ne spec0 c (V0 m c) _ main_arg5 (by exact (by decide : ∀ w, Pipeline.arrRef spec0 w ≠ main_arg5))).trans (V_main_arg5 m c)
theorem W0_arg6 (c : Dev nD) : W0 m c (Proc.devRef .tc main_arg6) = m ((c : Thread nD τ).loc main_arg6) :=
  (Pipeline.withArrays_of_ne spec0 c (V0 m c) _ main_arg6 (by exact (by decide : ∀ w, Pipeline.arrRef spec0 w ≠ main_arg6))).trans (V_main_arg6 m c)

end launch

theorem lt16384 (n : ℕ) : n % 16384 < 16384 := Nat.mod_lt _ (by norm_num)

section spec

variable (q : S2x16384x32x128.Idx → EReal) (k v : S2x16384x8x128.Idx → EReal) (qs : S2x32.Idx → EReal) (ks : S2x8.Idx → EReal)
  (vs : S2x8x128.Idx → EReal) (ct : S2x32x16384.Idx → EReal)

/-- The score of query `i` and key `J` of head `h`, masked after the query. -/
def score (b : Fin 2) (h : Fin 32) (i J : ℕ) : EReal :=
  if J ≤ i then
    (∑ d : Fin 128, k (ix4 b ⟨J % 16384, lt16384 J⟩ ⟨h.val / 4, by omega⟩ d) * q (ix4 b ⟨i % 16384, lt16384 i⟩ h d))
        * (qs (ix2 b h) * ks (ix2 b ⟨h.val / 4, by omega⟩) * (((Real.sqrt 128)⁻¹ : ℝ) : EReal))
      + ct (ix3 b h ⟨i % 16384, lt16384 i⟩) - ct (ix3 b h ⟨J % 16384, lt16384 J⟩)
  else ⊥

/-- Channel `d` of value `J` of head `h`. -/
def value (b : Fin 2) (h : Fin 32) (d : Fin 128) (J : ℕ) : EReal := v (ix4 b ⟨J % 16384, lt16384 J⟩ ⟨h.val / 4, by omega⟩ d)

/-- The two results at an index: the softmax of a query's scores, against the values and its logarithm. -/
def specO (b : Fin 2) (i : Fin 16384) (h : Fin 32) (d : Fin 128) : EReal :=
  outp (score q k qs ks ct b h i) (value v b h d) 16384 * vs (ix3 b ⟨h.val / 4, by omega⟩ d)
def specLse (b : Fin 2) (h : Fin 32) (i : Fin 16384) : EReal := lse (score q k qs ks ct b h i) 16384

end spec

/-! ## The host operations, read a few at a time -/

section host

variable (W : Valuation τ sig (Elt Ideal))

theorem rsqrt_128 : Ideal.rsqrt (Ideal.ofBits FTy.f32 0x43000000#32) = (((Real.sqrt 128)⁻¹ : ℝ) : EReal) := by
  rw [ofBits_128]
  show (if (128 : ℝ) < 0 then ⊥ else if (128 : ℝ) = 0 then ⊤ else ((Real.sqrt 128)⁻¹ : ℝ) : EReal) = _
  rw [if_neg (by norm_num), if_neg (by norm_num)]

/-- The masked scores. -/
theorem read_v29 (b : Fin 2) (kv : Fin 8) (g : Fin 4) (i j : Fin 16384) :
    (StableHlo.after (List.flatten [hostOps1, hostOps1_1]) W (Proc.devRef .tc main_v29) : FVec Ideal S2x8x4x16384x16384 .f32) (ix5 b kv g i j)
      = score (W (Proc.devRef .tc main_v0_0)) (W (Proc.devRef .tc main_v0_1)) (W (Proc.devRef .tc main_arg1)) (W (Proc.devRef .tc main_arg3)) (W (Proc.devRef .tc main_arg6))
        b ⟨kv.val * 4 + g.val, by omega⟩ i j := by
  after_reads_at
  have hi := i.isLt
  have hj := j.isLt
  rw [WordCmp.cmpi_sge_ofNat (by omega) (by omega), rsqrt_128]
  unfold score
  have e1 : (⟨i.val % 16384, lt16384 i⟩ : Fin 16384) = i := Fin.ext (Nat.mod_eq_of_lt hi)
  have e2 : (⟨j.val % 16384, lt16384 j⟩ : Fin 16384) = j := Fin.ext (Nat.mod_eq_of_lt hj)
  have e3 : (⟨(kv.val * 4 + g.val) / 4, by omega⟩ : Fin 8) = kv := Fin.ext (by show (kv.val * 4 + g.val) / 4 = kv.val; omega)
  simp only [e1, e2, e3]
  by_cases h : j.val ≤ i.val
  · rw [if_pos h, decide_eq_true h]; rfl
  · rw [if_neg h, decide_eq_false h]
    exact ofBits_neg_inf

theorem read_v9 (b : Fin 2) (kv : Fin 8) (d : Fin 128) :
    (StableHlo.after (List.flatten [hostOps1, hostOps1_1]) W (Proc.devRef .tc main_v9) : FVec Ideal S2x1x8x1x128 .f32) (ix5 b 0 kv 0 d)
      = (W (Proc.devRef .tc main_arg5) : FVec Ideal S2x8x128 .f32) (ix3 b kv d) := by
  after_reads_at

theorem keep_a : StableHlo.after (List.flatten [hostOps1, hostOps1_1]) W (Proc.devRef .tc main_v0_2) = W (Proc.devRef .tc main_v0_2) := by
  after_reads_simp

/-- The largest scores and the exponentials. -/
theorem read_v31 (b : Fin 2) (kv : Fin 8) (g : Fin 4) (i : Fin 16384) :
    (StableHlo.after (hostOps1_2.take 6) W (Proc.devRef .tc main_v31) : FVec Ideal S2x8x4x16384x1 .f32) (ix5 b kv g i 0)
      = Finset.univ.fold max (Ideal.ofBits FTy.f32 0xFF800000#32) fun x => (W (Proc.devRef .tc main_v29) : FVec Ideal S2x8x4x16384x16384 .f32) (ix5 b kv g i x) := by
  after_reads_at
theorem read_v34 (b : Fin 2) (kv : Fin 8) (g : Fin 4) (i j : Fin 16384) :
    (StableHlo.after (hostOps1_2.take 6) W (Proc.devRef .tc main_v34) : FVec Ideal S2x8x4x16384x16384 .f32) (ix5 b kv g i j)
      = Ideal.exp ((show EReal from (W (Proc.devRef .tc main_v29) : FVec Ideal S2x8x4x16384x16384 .f32) (ix5 b kv g i j))
        - Finset.univ.fold max (Ideal.ofBits FTy.f32 0xFF800000#32) fun x => (W (Proc.devRef .tc main_v29) : FVec Ideal S2x8x4x16384x16384 .f32) (ix5 b kv g i x)) := by
  after_reads_at
theorem keep_b : StableHlo.after (hostOps1_2.take 6) W (Proc.devRef .tc main_v0_2) = W (Proc.devRef .tc main_v0_2)
    ∧ StableHlo.after (hostOps1_2.take 6) W (Proc.devRef .tc main_v9) = W (Proc.devRef .tc main_v9) := by
  constructor <;> after_reads_simp

/-- The sums of the exponentials. -/
theorem read_v36 (b : Fin 2) (kv : Fin 8) (g : Fin 4) (i : Fin 16384) :
    (StableHlo.after ((hostOps1_2.drop 6).take 3) W (Proc.devRef .tc main_v36) : FVec Ideal S2x8x4x16384x1 .f32) (ix5 b kv g i 0)
      = ∑ x : Fin 16384, (show EReal from (W (Proc.devRef .tc main_v34) : FVec Ideal S2x8x4x16384x16384 .f32) (ix5 b kv g i x)) := by
  after_reads_at
theorem keep_c : StableHlo.after ((hostOps1_2.drop 6).take 3) W (Proc.devRef .tc main_v0_2) = W (Proc.devRef .tc main_v0_2)
    ∧ StableHlo.after ((hostOps1_2.drop 6).take 3) W (Proc.devRef .tc main_v9) = W (Proc.devRef .tc main_v9)
    ∧ StableHlo.after ((hostOps1_2.drop 6).take 3) W (Proc.devRef .tc main_v31) = W (Proc.devRef .tc main_v31)
    ∧ StableHlo.after ((hostOps1_2.drop 6).take 3) W (Proc.devRef .tc main_v34) = W (Proc.devRef .tc main_v34) := by
  refine ⟨?_, ?_, ?_, ?_⟩ <;> after_reads_simp

/-- The results. -/
theorem read_v51 (b : Fin 2) (h : Fin 32) (i : Fin 16384) :
    (StableHlo.after ((hostOps1_2.drop 6).drop 3) W (Proc.devRef .tc main_v51) : FVec Ideal S2x32x1x16384 .f32) (ix4 b h 0 i)
      = (show EReal from (W (Proc.devRef .tc main_v31) : FVec Ideal S2x8x4x16384x1 .f32) (ix5 b ⟨h.val / 4, by omega⟩ ⟨h.val % 4, by omega⟩ i 0))
        + Ideal.log ((W (Proc.devRef .tc main_v36) : FVec Ideal S2x8x4x16384x1 .f32) (ix5 b ⟨h.val / 4, by omega⟩ ⟨h.val % 4, by omega⟩ i 0)) := by
  after_reads_at
theorem read_v50 (b : Fin 2) (i : Fin 16384) (hd : Fin 4096) :
    (StableHlo.after ((hostOps1_2.drop 6).drop 3) W (Proc.devRef .tc main_v50) : FVec Ideal S2x16384x4096 .bf16) (ix3 b i hd)
      = (∑ x : Fin 16384, (show EReal from (W (Proc.devRef .tc main_v0_2) : FVec Ideal S2x16384x8x128 .bf16) (ix4 b x ⟨hd.val / 512, by omega⟩ ⟨hd.val % 128, by omega⟩))
          * ((show EReal from (W (Proc.devRef .tc main_v34) : FVec Ideal S2x8x4x16384x16384 .f32) (ix5 b ⟨hd.val / 512, by omega⟩ ⟨hd.val / 128 % 4, by omega⟩ i x))
            * Ideal.div 1 ((W (Proc.devRef .tc main_v36) : FVec Ideal S2x8x4x16384x1 .f32) (ix5 b ⟨hd.val / 512, by omega⟩ ⟨hd.val / 128 % 4, by omega⟩ i 0))))
        * (show EReal from (W (Proc.devRef .tc main_v9) : FVec Ideal S2x1x8x1x128 .f32) (ix5 b 0 ⟨hd.val / 512, by omega⟩ 0 ⟨hd.val % 128, by omega⟩)) := by
  after_reads_at

theorem split_ops : StableHlo.after (List.flatten [hostOps1, hostOps1_1, hostOps1_2]) W
    = StableHlo.after ((hostOps1_2.drop 6).drop 3) (StableHlo.after ((hostOps1_2.drop 6).take 3) (StableHlo.after (hostOps1_2.take 6)
        (StableHlo.after (List.flatten [hostOps1, hostOps1_1]) W))) := by
  rw [← StableHlo.after_append, ← StableHlo.after_append, ← StableHlo.after_append]
  rfl

/-- A maximum over all keys is a supremum. -/
theorem fold_top (s : ℕ → EReal) (f : Fin 16384 → EReal) (hf : ∀ x, f x = s x.val) :
    Finset.univ.fold max (Ideal.ofBits FTy.f32 0xFF800000#32) f = top s 16384 := by
  rw [ofBits_neg_inf, show f = fun x => s x.val from funext hf]
  show (Finset.univ : Finset (Fin 16384)).sup (fun x => s x.val) = (Finset.range 16384).sup s
  refine le_antisymm (Finset.sup_le fun x _ => Finset.le_sup (f := s) (Finset.mem_range.2 x.isLt)) (Finset.sup_le fun J hJ => ?_)
  exact Finset.le_sup (f := fun x : Fin 16384 => s x.val) (Finset.mem_univ ⟨J, Finset.mem_range.1 hJ⟩)

end host

end Cert.ReferenceIdeal.Value

end
-- ==== Proof.Value.RefResults.lean ====
/- The reference's two results at an index, over the extended reals, put together from the reads of its operations. -/
module

public import proofs.«01_k».proof.Proof.Value.Reference

@[expose] public section

set_option maxRecDepth 16384 -- the pointwise reader needs it

noncomputable section

namespace Cert.ReferenceIdeal.Value

open Idealize.ShloMosaic Idealize.ShloMosaic.TcCoe Idealize.SL.Sem
open Cert.ReferenceIdeal.Gen Cert.Softmax

section host

variable (W : Valuation τ sig (Elt Ideal))

/-- The scores that the operations read from the buffers. -/
abbrev scoreW (b : Fin 2) (h : Fin 32) (i : ℕ) : ℕ → EReal :=
  score (W (Proc.devRef .tc main_v0_0)) (W (Proc.devRef .tc main_v0_1)) (W (Proc.devRef .tc main_arg1)) (W (Proc.devRef .tc main_arg3)) (W (Proc.devRef .tc main_arg6)) b h i

/-- The buffers after the masked scores, after the exponentials, after their sums. -/
def Wa : Valuation τ sig (Elt Ideal) := StableHlo.after (List.flatten [hostOps1, hostOps1_1]) W
def Wb : Valuation τ sig (Elt Ideal) := StableHlo.after (hostOps1_2.take 6) (Wa W)
def Wc : Valuation τ sig (Elt Ideal) := StableHlo.after ((hostOps1_2.drop 6).take 3) (Wb W)

theorem split_ops' : StableHlo.after (List.flatten [hostOps1, hostOps1_1, hostOps1_2]) W = StableHlo.after ((hostOps1_2.drop 6).drop 3) (Wc W) := split_ops W

theorem Wc_v0_2 : Wc W (Proc.devRef .tc main_v0_2) = W (Proc.devRef .tc main_v0_2) :=
  ((keep_c (Wb W)).1.trans (keep_b (Wa W)).1).trans (keep_a W)
theorem Wc_v9 : Wc W (Proc.devRef .tc main_v9) = Wa W (Proc.devRef .tc main_v9) :=
  (keep_c (Wb W)).2.1.trans (keep_b (Wa W)).2
theorem Wc_v31_eq : Wc W (Proc.devRef .tc main_v31) = Wb W (Proc.devRef .tc main_v31) := (keep_c (Wb W)).2.2.1
theorem Wc_v34_eq : Wc W (Proc.devRef .tc main_v34) = Wb W (Proc.devRef .tc main_v34) := (keep_c (Wb W)).2.2.2

variable (b : Fin 2) (kv : Fin 8) (g : Fin 4) (h : Fin 32) (hh : kv.val * 4 + g.val = h.val) (i j : Fin 16384)
include hh

theorem Wa_v29 : (Wa W (Proc.devRef .tc main_v29) : FVec Ideal S2x8x4x16384x16384 .f32) (ix5 b kv g i j) = scoreW W b h i j := by
  have e : (⟨kv.val * 4 + g.val, by omega⟩ : Fin 32) = h := Fin.ext hh
  rw [← e]
  exact read_v29 W b kv g i j

theorem Wb_v31 : (Wb W (Proc.devRef .tc main_v31) : FVec Ideal S2x8x4x16384x1 .f32) (ix5 b kv g i 0) = top (scoreW W b h i) 16384 :=
  (read_v31 (Wa W) b kv g i).trans (fold_top (scoreW W b h i) _ fun x => Wa_v29 W b kv g h hh i x)

theorem Wb_v34 : (Wb W (Proc.devRef .tc main_v34) : FVec Ideal S2x8x4x16384x16384 .f32) (ix5 b kv g i j)
    = Ideal.exp (scoreW W b h i j - top (scoreW W b h i) 16384) :=
  (read_v34 (Wa W) b kv g i j).trans (congrArg₂ (fun x y : EReal => Ideal.exp (x - y)) (Wa_v29 W b kv g h hh i j)
    (fold_top (scoreW W b h i) _ fun x => Wa_v29 W b kv g h hh i x))

theorem Wc_v36 : (Wc W (Proc.devRef .tc main_v36) : FVec Ideal S2x8x4x16384x1 .f32) (ix5 b kv g i 0) = den (scoreW W b h i) 16384 := by
  have e : den (scoreW W b h i) 16384 = ∑ x : Fin 16384, Ideal.exp (scoreW W b h i x.val - top (scoreW W b h i) 16384) := Finset.sum_range _
  refine (read_v36 (Wb W) b kv g i).trans ?_
  rw [e]
  exact congrArg (fun f : Fin 16384 → EReal => ∑ x, f x) (funext fun x => Wb_v34 W b kv g h hh i x)

end host

section host

variable (W : Valuation τ sig (Elt Ideal)) (b : Fin 2) (h : Fin 32) (i : Fin 16384)

/-- The logarithms. -/
theorem host_lse :
    (StableHlo.after (List.flatten [hostOps1, hostOps1_1, hostOps1_2]) W (Proc.devRef .tc main_v51) : FVec Ideal S2x32x1x16384 .f32) (ix4 b h 0 i)
      = lse (scoreW W b h i) 16384 := by
  have e : h.val / 4 * 4 + h.val % 4 = h.val := by omega
  rw [split_ops']
  refine (read_v51 (Wc W) b h i).trans ?_
  rw [Wc_v31_eq]
  exact congrArg₂ (fun x y : EReal => x + Ideal.log y) (Wb_v31 W b ⟨h.val / 4, by omega⟩ ⟨h.val % 4, by omega⟩ h e i)
    (Wc_v36 W b ⟨h.val / 4, by omega⟩ ⟨h.val % 4, by omega⟩ h e i)

/-- The values. -/
theorem host_o (hd : Fin 4096) :
    (StableHlo.after (List.flatten [hostOps1, hostOps1_1, hostOps1_2]) W (Proc.devRef .tc main_v50) : FVec Ideal S2x16384x4096 .bf16) (ix3 b i hd)
      = outp (scoreW W b ⟨hd.val / 128, by omega⟩ i) (value (W (Proc.devRef .tc main_v0_2)) b ⟨hd.val / 128, by omega⟩ ⟨hd.val % 128, by omega⟩) 16384
        * (W (Proc.devRef .tc main_arg5) : FVec Ideal S2x8x128 .f32) (ix3 b ⟨hd.val / 128 / 4, by omega⟩ ⟨hd.val % 128, by omega⟩) := by
  have e : hd.val / 512 * 4 + hd.val / 128 % 4 = hd.val / 128 := by omega
  have e' : (⟨hd.val / 128 / 4, by omega⟩ : Fin 8) = ⟨hd.val / 512, by omega⟩ := Fin.ext (by show hd.val / 128 / 4 = hd.val / 512; omega)
  rw [split_ops']
  refine (read_v50 (Wc W) b i hd).trans ?_
  rw [Wc_v0_2, Wc_v34_eq, Wc_v9]
  unfold outp
  rw [Finset.sum_range]
  refine congrArg₂ (fun x y : EReal => x * y) (Finset.sum_congr rfl fun x _ => congrArg₂ (fun x y : EReal => x * y) ?_
    (congrArg₂ (fun x y : EReal => x * Ideal.div 1 y) (Wb_v34 W b ⟨hd.val / 512, by omega⟩ ⟨hd.val / 128 % 4, by omega⟩ ⟨hd.val / 128, by omega⟩ e i x)
      (Wc_v36 W b ⟨hd.val / 512, by omega⟩ ⟨hd.val / 128 % 4, by omega⟩ ⟨hd.val / 128, by omega⟩ e i))) ?_
  · have ex : (⟨x.val % 16384, lt16384 x⟩ : Fin 16384) = x := Fin.ext (Nat.mod_eq_of_lt x.isLt)
    unfold value
    simp only [ex, e']
  · rw [e']
    exact read_v9 W b ⟨hd.val / 512, by omega⟩ ⟨hd.val % 128, by omega⟩

end host

section launch

variable (m : (ℓ : Loc nD τ sig) → Buf (Elt Ideal) ℓ) (c : Dev nD)

/-- The arguments, as functions to the extended reals. -/
abbrev aq : S2x16384x32x128.Idx → EReal := fun i => m ((c : Thread nD τ).loc main_arg0) i
abbrev aqs : S2x32.Idx → EReal := fun i => m ((c : Thread nD τ).loc main_arg1) i
abbrev ak : S2x16384x8x128.Idx → EReal := fun i => m ((c : Thread nD τ).loc main_arg2) i
abbrev aks : S2x8.Idx → EReal := fun i => m ((c : Thread nD τ).loc main_arg3) i
abbrev av : S2x16384x8x128.Idx → EReal := fun i => m ((c : Thread nD τ).loc main_arg4) i
abbrev avs : S2x8x128.Idx → EReal := fun i => m ((c : Thread nD τ).loc main_arg5) i
abbrev act : S2x32x16384.Idx → EReal := fun i => m ((c : Thread nD τ).loc main_arg6) i

theorem result_lse (b : Fin 2) (h : Fin 32) (i : Fin 16384) :
    (Pipeline.afterTail₀ cfgs (dats m) 0 (V0 m) [hostOps1, hostOps1_1, hostOps1_2] c main_v51 : FVec Ideal S2x32x1x16384 .f32) (ix4 b h 0 i)
      = specLse (aq m c) (ak m c) (aqs m c) (aks m c) (act m c) b h i := by
  refine (host_lse (W0 m c) b h i).trans ?_
  unfold specLse scoreW
  rw [W0_v0_0, W0_v0_1, W0_arg1, W0_arg3, W0_arg6]
  rfl

theorem result_o (b : Fin 2) (i : Fin 16384) (hd : Fin 4096) :
    (Pipeline.afterTail₀ cfgs (dats m) 0 (V0 m) [hostOps1, hostOps1_1, hostOps1_2] c main_v50 : FVec Ideal S2x16384x4096 .bf16) (ix3 b i hd)
      = specO (aq m c) (ak m c) (av m c) (aqs m c) (aks m c) (avs m c) (act m c) b i ⟨hd.val / 128, by omega⟩ ⟨hd.val % 128, by omega⟩ := by
  refine (host_o (W0 m c) b i hd).trans ?_
  unfold specO scoreW
  rw [W0_v0_0, W0_v0_1, W0_v0_2, W0_arg1, W0_arg3, W0_arg5, W0_arg6]
  rfl

end launch

end Cert.ReferenceIdeal.Value

end
-- ==== Proof.Value.Kernel.lean ====
/- The kernel's two results at an index, over the extended reals: what the reference's are, where every query tile starts
   at the first key and the gates are finite. -/
module

public import proofs.«01_k».proof.Proof.Value.Blocks
public import proofs.«01_k».proof.Proof.Value.RefResults

@[expose] public section

set_option maxRecDepth 16384 -- the pointwise reader needs it

noncomputable section

namespace Cert.KernelIdeal.Value

open Idealize.ShloMosaic Idealize.ShloMosaic.TcCoe Idealize.SL.Sem
open Cert.KernelIdeal.Gen Cert.Softmax
open Cert.ReferenceIdeal.Value (score value specO specLse)

/-- The kernel's scale, in powers of two, brought back. -/
theorem scale_ln2 (x : EReal) : k0_pay1 (F := Ideal) x * ln2 = x * (((Real.sqrt 128)⁻¹ : ℝ) : EReal) := by
  unfold k0_pay1
  show x * (Named.named (F := Ideal) κ "scale_log2e" 0x3E0293EE#32 : EReal) * ln2 = _
  rw [named_scale, mul_assoc]
  unfold ln2
  rw [← EReal.coe_mul, mul_assoc, inv_mul_cancel₀ log2_pos.ne', mul_one]

/-- A product of real numbers is one. -/
theorem real_mul {x y : EReal} : (∃ g : ℝ, x = (g : EReal)) → (∃ r : ℝ, y = (r : EReal)) → ∃ b : ℝ, x * y = (b : EReal) := by
  rintro ⟨g, rfl⟩ ⟨r, rfl⟩
  exact ⟨g * r, (EReal.coe_mul g r).symm⟩

/-- A word for `log2 e` is a real number. -/
theorem word_log2e : ∃ r : ℝ, Ideal.ofBits FTy.f32 0x3FB8AA3B#32 = (r : EReal) := by
  simp only [Ideal.ofBits, Ideal.ieee]
  exact ⟨_, rfl⟩

section

variable (p : grid0.Coords) (x2 : Vec Ideal S4096 .i32) (x3 : Vec Ideal S64 .f32) (x4 : Vec Ideal S4096 .f32) (x5 x6 : Vec Ideal S1x1x16384x128 .fp8e4m3)
  (x7 : Vec Ideal S1x1x128x16384 .fp8e4m3) (x8 : Vec Ideal S1x1x1x16384 .f32) (x9 : Vec Ideal S1x1x1x128 .f32)

/-- A result block at an index is the query tile's at the row within the tile. -/
theorem oBlock_at (i : Fin 16384) (d : Fin 128) : Body.oBlock (F := Ideal) p x2 x3 x4 x5 x6 x7 x8 x9 (ix3 0 i d)
    = Body.oTile (F := Ideal) (Body.scaleOf p x3) (Body.baseOf p x4 (i.val / 256)) (Body.startOf p x2 (i.val / 256)) x5 x6 x7 x8 x9
        ⟨i.val / 256, by rw [Body.trips_t2]; omega⟩ (ix3 0 ⟨i.val % 256, Nat.mod_lt _ (by norm_num)⟩ d) := rfl
theorem lseBlock_at (i : Fin 16384) : Body.lseBlock (F := Ideal) p x2 x3 x4 x5 x6 x7 x8 (ix4 0 0 0 i)
    = Body.lseTile (F := Ideal) (Body.scaleOf p x3) (Body.baseOf p x4 (i.val / 256)) (Body.startOf p x2 (i.val / 256)) x5 x6 x7 x8
        ⟨i.val / 256, by rw [Body.trips_t2]; omega⟩ (ix4 0 0 0 ⟨i.val % 256, Nat.mod_lt _ (by norm_num)⟩) := rfl

/-- A query tile at row `i` of the sequence, its reads named. -/
theorem tile_o (a : EReal) (b : ℝ) {B : EReal} {w : BitVec 32} (hb : B = (b : EReal)) (hw : w = 0#32) (k : Fin k0_t2_loop.trips) (i : Fin 16384) (hk : k.val = i.val / 256)
    (d : Fin 128) (S V : ℕ → EReal) (v : EReal) (hS : sco a x5 x6 x8 i.val = S) (hV : val x7 d = V) (hv : x9 (ix4 0 0 0 d) = v)
    (hc : ∀ J, ∃ g : ℝ, gate x8 J = (g : EReal)) :
    Body.oTile (F := Ideal) a B w x5 x6 x7 x8 x9 k (ix3 0 ⟨i.val % 256, Nat.mod_lt _ (by norm_num)⟩ d) = outp S V 16384 * v := by
  rw [hb, hw, oTile_at a b x5 x6 x7 x8 x9 k hc, ← hS, ← hV, ← hv, hk]
  show outp (sco a x5 x6 x8 (256 * (i.val / 256) + i.val % 256)) _ _ * _ = _
  rw [Nat.div_add_mod]
theorem tile_lse (a : EReal) (b : ℝ) {B : EReal} {w : BitVec 32} (hb : B = (b : EReal)) (hw : w = 0#32) (k : Fin k0_t2_loop.trips) (i : Fin 16384) (hk : k.val = i.val / 256)
    (S : ℕ → EReal) (hS : sco a x5 x6 x8 i.val = S) (hc : ∀ J, ∃ g : ℝ, gate x8 J = (g : EReal)) :
    Body.lseTile (F := Ideal) a B w x5 x6 x7 x8 k (ix4 0 0 0 ⟨i.val % 256, Nat.mod_lt _ (by norm_num)⟩) = lse S 16384 := by
  rw [hb, hw, lseTile_at a b x5 x6 x7 x8 k hc, ← hS, hk]
  show lse (sco a x5 x6 x8 (256 * (i.val / 256) + i.val % 256)) _ = _
  rw [Nat.div_add_mod]

end

section

variable (m : (ℓ : Loc nD τ sig) → Buf (Elt Ideal) ℓ) (c : Dev nD) (t : Fin cfg0.N)

/-- Every tile starts at key zero; the gates are finite. -/
def Zero : Prop := ∀ x : S2x32x64.Idx, (m ((c : Thread nD τ).loc main_arg7) : IVec S2x32x64 32) x = 0#32
def Finite : Prop := ∀ x : S2x32x16384.Idx, ∃ g : ℝ, act m c x = (g : EReal)

/-- Point `t`'s batch and head. -/
abbrev bat : Fin 2 := ⟨t.val / 32, by have := lt_N t; omega⟩
abbrev head : Fin 32 := ⟨t.val % 32, by omega⟩

theorem start_at (hz : Zero m c) (k : ℕ) : Body.startOf (grid0.coords t) (iblk m c 0 t) k = 0#32 := (blk0 m c t _).trans (hz _)

theorem base_at (hf : Finite m c) (k : ℕ) : ∃ b : ℝ, Body.baseOf (F := Ideal) (grid0.coords t) (iblk m c 2 t) k = (b : EReal) := by
  have h2 := blk2 m c t ⟨(2048 * (grid0.coords t 0).val + 64 * (grid0.coords t 1).val + k) % 4096, Nat.mod_lt _ (by norm_num)⟩
  rw [show Body.baseOf (F := Ideal) (grid0.coords t) (iblk m c 2 t) k = _ from h2]
  split
  · exact ⟨0, EReal.coe_zero.symm⟩
  · exact real_mul (hf _) word_log2e

theorem gate_at (J : ℕ) : gate (iblk m c 6 t) J = act m c (ix3 (bat t) (head t) ⟨J % 16384, lt16384 J⟩) := blk6 m c t _

theorem scale_at : Body.scaleOf (F := Ideal) (grid0.coords t) (iblk m c 1 t)
    = k0_pay1 (F := Ideal) (aqs m c (ix2 (bat t) (head t)) * aks m c (ix2 (bat t) ⟨t.val % 32 / 4, by omega⟩)) := by
  obtain ⟨h0, h1⟩ := coord t
  have ht := lt_N t
  have e : (⟨(32 * (grid0.coords t 0).val + (grid0.coords t 1).val) % 64, Nat.mod_lt _ (by norm_num)⟩ : Fin 64) = ⟨t.val, ht⟩ := Fin.ext (by
    show (32 * (grid0.coords t 0).val + (grid0.coords t 1).val) % 64 = t.val
    rw [h0, h1]
    omega)
  unfold Body.scaleOf
  rw [e]
  exact congrArg (k0_pay1 (F := Ideal)) (blk1 m c t ⟨t.val, ht⟩)

/-- The kernel's scores are the reference's. -/
theorem sco_score (hf : Finite m c) (I : ℕ) :
    sco (Body.scaleOf (F := Ideal) (grid0.coords t) (iblk m c 1 t)) (iblk m c 3 t) (iblk m c 4 t) (iblk m c 6 t) I
      = score (aq m c) (ak m c) (aqs m c) (aks m c) (act m c) (bat t) (head t) I := by
  funext J
  unfold sco scm scr score
  by_cases h : J ≤ I
  · rw [if_pos h, if_pos h, gate_at, gate_at, scale_at]
    obtain ⟨gi, hi⟩ := hf (ix3 (bat t) (head t) ⟨I % 16384, lt16384 I⟩)
    obtain ⟨gj, hj⟩ := hf (ix3 (bat t) (head t) ⟨J % 16384, lt16384 J⟩)
    rw [hi, hj, add_mul_ln ln2_nonneg ln2_ne_top, sub_mul_ln2, mul_assoc (gi : EReal), mul_assoc (gj : EReal), log2e_mul_ln2, mul_one, mul_one,
      mul_assoc (raw _ _ _ _), scale_ln2, ← add_sub_assoc]
    have hr : raw (iblk m c 3 t) (iblk m c 4 t) I J = ∑ d : Fin 128, ak m c (ix4 (bat t) ⟨J % 16384, lt16384 J⟩ ⟨t.val % 32 / 4, by omega⟩ d)
        * aq m c (ix4 (bat t) ⟨I % 16384, lt16384 I⟩ (head t) d) := by
      unfold raw
      exact Finset.sum_congr rfl fun d _ => congrArg₂ (fun x y : EReal => x * y) (blk4 m c t _ d) (blk3 m c t _ d)
    rw [hr]
  · rw [if_neg h, if_neg h, bot_mul_ln2]

theorem val_value (d : Fin 128) : val (iblk m c 5 t) d = value (av m c) (bat t) (head t) d := funext fun J => blk5 m c t d _

/-- The block of values that point `t` leaves. -/
theorem oAt_at (hz : Zero m c) (hf : Finite m c) (i : Fin 16384) (d : Fin 128) : Body.oAt (F := Ideal) m c t (ix3 0 i d)
    = specO (aq m c) (ak m c) (av m c) (aqs m c) (aks m c) (avs m c) (act m c) (bat t) i (head t) d := by
  obtain ⟨b, hb⟩ := base_at m c t hf (i.val / 256)
  exact (oBlock_at _ _ _ _ _ _ _ _ _ i d).trans (tile_o _ _ _ _ _ _ b hb (start_at m c t hz _) _ i rfl d _ _ _ (sco_score m c t hf i) (val_value m c t d) (blk7 m c t d)
    fun J => by rw [gate_at]; exact hf _)

theorem lseAt_at (hz : Zero m c) (hf : Finite m c) (i : Fin 16384) : Body.lseAt (F := Ideal) m c t (ix4 0 0 0 i)
    = specLse (aq m c) (ak m c) (aqs m c) (aks m c) (act m c) (bat t) (head t) i := by
  obtain ⟨b, hb⟩ := base_at m c t hf (i.val / 256)
  exact (lseBlock_at _ _ _ _ _ _ _ _ i).trans (tile_lse _ _ _ _ _ b hb (start_at m c t hz _) _ i rfl _ (sco_score m c t hf i)
    fun J => by rw [gate_at]; exact hf _)

end

section

variable (m : (ℓ : Loc nD τ sig) → Buf (Elt Ideal) ℓ) (c : Dev nD)

/-- The two results. -/
def resO : FVec Ideal S2x16384x4096 .bf16 := fun y =>
  specO (aq m c) (ak m c) (av m c) (aqs m c) (aks m c) (avs m c) (act m c) (y 0) (y 1)
    ⟨(y 2).val / 128, by have : (y 2).val < 4096 := (y 2).isLt; omega⟩ ⟨(y 2).val % 128, Nat.mod_lt _ (by norm_num)⟩
def resLse : FVec Ideal S2x32x1x16384 .f32 := fun y => specLse (aq m c) (ak m c) (aqs m c) (aks m c) (act m c) (y 0) (y 1) (y 3)

theorem specO_congr {b b' : Fin 2} {i i' : Fin 16384} {h h' : Fin 32} {d d' : Fin 128} (hb : b.val = b'.val) (hi : i.val = i'.val) (hh : h.val = h'.val) (hd : d.val = d'.val) :
    specO (aq m c) (ak m c) (av m c) (aqs m c) (aks m c) (avs m c) (act m c) b i h d = specO (aq m c) (ak m c) (av m c) (aqs m c) (aks m c) (avs m c) (act m c) b' i' h' d' := by
  rw [Fin.ext hb, Fin.ext hi, Fin.ext hh, Fin.ext hd]
theorem specLse_congr {b b' : Fin 2} {i i' : Fin 16384} {h h' : Fin 32} (hb : b.val = b'.val) (hi : i.val = i'.val) (hh : h.val = h'.val) :
    specLse (aq m c) (ak m c) (aqs m c) (aks m c) (act m c) b h i = specLse (aq m c) (ak m c) (aqs m c) (aks m c) (act m c) b' h' i' := by
  rw [Fin.ext hb, Fin.ext hi, Fin.ext hh]

theorem arr_o (hz : Zero m c) (hf : Finite m c) : (Body.dats m 0 c).arrAt 8 (cfgs 0).N = resO m c := by
  refine (Body.dats m 0 c).arrAt_eq_of_covers 8 _ (by decide +kernel) fun t ht y => ?_
  have hN := lt_N t
  obtain ⟨-, -, -, -, -, -, -, -, h8, -⟩ := idx t
  have hy0 : (y 0).val < 1 := (y 0).isLt
  have hy1 : (y 1).val < 16384 := (y 1).isLt
  have hy2 : (y 2).val < 128 := (y 2).isLt
  have e : y = (ix3 0 (y 1) (y 2) : S1x16384x128.Idx) := by
    funext a
    fin_cases a
    · exact Fin.ext (by show (y 0).val = 0; omega)
    · rfl
    · rfl
  blk_simp
  rw [Body.after0_8]
  show Body.oAt (F := Ideal) m c t y = _
  conv_lhs => rw [e]
  refine (oAt_at m c t hz hf (y 1) (y 2)).trans ?_
  unfold resO
  apply specO_congr
  all_goals blk_simp [h8]
  all_goals (try simp only [bat, head]); omega

theorem arr_lse (hz : Zero m c) (hf : Finite m c) : (Body.dats m 0 c).arrAt 9 (cfgs 0).N = resLse m c := by
  refine (Body.dats m 0 c).arrAt_eq_of_covers 9 _ (by decide +kernel) fun t ht y => ?_
  have hN := lt_N t
  obtain ⟨-, -, -, -, -, -, -, -, -, h9⟩ := idx t
  have hy0 : (y 0).val < 1 := (y 0).isLt
  have hy1 : (y 1).val < 1 := (y 1).isLt
  have hy2 : (y 2).val < 1 := (y 2).isLt
  have hy3 : (y 3).val < 16384 := (y 3).isLt
  have e : y = (ix4 0 0 0 (y 3) : S1x1x1x16384.Idx) := by
    funext a
    fin_cases a
    · exact Fin.ext (by show (y 0).val = 0; omega)
    · exact Fin.ext (by show (y 1).val = 0; omega)
    · exact Fin.ext (by show (y 2).val = 0; omega)
    · rfl
  blk_simp
  rw [Body.after0_9]
  show Body.lseAt (F := Ideal) m c t y = _
  conv_lhs => rw [e]
  refine (lseAt_at m c t hz hf (y 3)).trans ?_
  unfold resLse
  apply specLse_congr
  all_goals blk_simp [h9]
  all_goals (try simp only [bat, head]); omega

end

end Cert.KernelIdeal.Value

end
-- ==== Proof.Algebraic.lean ====
/- The value claim: where every query tile starts at the first key and the gates are finite, the idealized kernel and the
   reference end with the same two results. -/
module

public import proofs.«01_k».proof.Proof.Frames
public import proofs.«01_k».proof.Proof.Value.Kernel

@[expose] public section

noncomputable section

open Idealize.ShloMosaic Idealize.ShloMosaic.TcCoe Idealize.SL.Sem

/-- The precondition `from_zero_and_finite`: its broadcasts are in shape. -/
theorem Cert.Pre_from_zero_and_finite.facts : Cert.Pre_from_zero_and_finite.Facts where
  bcast_S_S2x32x64 := by decide
  bcast_S_S2x32x16384 := by decide

namespace Cert.Proof

attribute [local instance] Cert.Pre_from_zero_and_finite.facts

/-- A number whose absolute value compares less than infinity is real. -/
theorem real_of_abs_lt {x : EReal} (h : max x (-x) < Ideal.ofBits FTy.f32 0x7F800000#32) : ∃ g : ℝ, x = (g : EReal) := by
  rw [Cert.Softmax.ofBits_inf] at h
  induction x using EReal.rec with
  | bot => exact absurd h (lt_irrefl _)
  | top => exact absurd h (lt_irrefl _)
  | coe r => exact ⟨r, rfl⟩

section

variable (m : (ℓ : Loc Cert.KernelIdeal.nD Cert.KernelIdeal.τ Cert.KernelIdeal.sig) → Buf (Elt Ideal) ℓ)

/-- What the precondition says. -/
theorem zero_of (h : Cert.Pre_KernelIdeal_from_zero_and_finite m) (c : Dev Cert.KernelIdeal.nD) : Cert.KernelIdeal.Value.Zero m c := fun x => by
  have h1 := congrFun (h c).1 x
  have h2 : (m ((c : Thread Cert.KernelIdeal.nD Cert.KernelIdeal.τ).loc Cert.KernelIdeal.main_arg7) x == 0#32) = true :=
    (StableHlo.Predicate.ofBool_eq_one_iff _).mp h1
  exact eq_of_beq h2

theorem finite_of (h : Cert.Pre_KernelIdeal_from_zero_and_finite m) (c : Dev Cert.KernelIdeal.nD) : Cert.KernelIdeal.Value.Finite m c := fun x => by
  have h1 := congrFun (h c).2 x
  exact real_of_abs_lt (of_decide_eq_true ((StableHlo.Predicate.ofBool_eq_one_iff _).mp h1))

/-- So the first tiles are nonnegative. -/
theorem starts_zero (h : Cert.Pre_KernelIdeal_from_zero_and_finite m) : Cert.KernelIdeal.Body.StartsFit m :=
  Cert.KernelIdeal.Body.startsFit m fun c x => by
    have e : m ((c : Thread Cert.KernelIdeal.nD Cert.KernelIdeal.τ).loc Cert.KernelIdeal.main_arg7) x = 0#32 := zero_of m h c x
    rw [e]
    decide

end

/-- The idealized program's frame under this precondition. -/
theorem frame_ideal_zero : Cert.quiescent_KernelIdeal_pre_from_zero_and_finite := fun m ρ h =>
  θ_run_and (Cert.KernelIdeal.Gen.frame_of m ρ (Cert.KernelIdeal.Body.dats m) (fun _ _ => rfl)
      ((θ_run _ _ _).mono (fun _ h => h.1) (Cert.KernelIdeal.Body.run_main m ρ (starts_zero m h))))
    ((θ_run _ _ _).mono (fun _ h => h.2) (Cert.KernelIdeal.Body.run_main m ρ (starts_zero m h)))

/-- The reference's. -/
theorem frame_reference_zero : Cert.quiescent_ReferenceIdeal_pre_from_zero_and_finite := fun m ρ _ => Cert.ReferenceIdeal.Gen.frame m ρ

open Cert.KernelIdeal.Value (resO resLse) in
/-- The two programs end with the same results. -/
theorem algebraic : Cert.algebraic_KernelIdeal_ReferenceIdeal_pre_from_zero_and_finite := fun m ρ m' ρ' h hargs => by
  refine ⟨fun c => resO m c, fun c => resLse m c, ?_, ?_⟩
  · have hrun := (θ_run _ _ _).mono (fun _ h => h.1) (Cert.KernelIdeal.Body.run_main m ρ (starts_zero m h))
    refine (θ_run _ _ _).mono (fun r hr c => ?_) (θ_run_and (Cert.KernelIdeal.Gen.frame_of m ρ (Cert.KernelIdeal.Body.dats m) (fun _ _ => rfl) hrun) hrun)
    exact ⟨((hr.2 c).1 8).trans (Cert.KernelIdeal.Value.arr_o m c (zero_of m h c) (finite_of m h c)),
      ((hr.2 c).1 9).trans (Cert.KernelIdeal.Value.arr_lse m c (zero_of m h c) (finite_of m h c)), hr.1 c⟩
  · refine (θ_run _ _ _).mono (fun r hr c => ?_) (θ_run_and (Cert.ReferenceIdeal.Gen.unchanged m' ρ') (Cert.ReferenceIdeal.Gen.run_main m' ρ'))
    obtain ⟨a0, a1, a2, a3, a4, a5, a6, -⟩ := hargs c
    refine ⟨((hr.2 c).2 Cert.ReferenceIdeal.main_v50 (Pipeline.mem_restRefs_of _ (by decide) (by decide))).trans ?_,
      ((hr.2 c).2 Cert.ReferenceIdeal.main_v51 (Pipeline.mem_restRefs_of _ (by decide) (by decide))).trans ?_, hr.1 c⟩
    · funext y
      have e : y = (ix3 (y 0) (y 1) (y 2) : Cert.ReferenceIdeal.S2x16384x4096.Idx) := by
        funext a; fin_cases a <;> rfl
      conv_lhs => rw [e]
      refine (Cert.ReferenceIdeal.Value.result_o m' c (y 0) (y 1) (y 2)).trans ?_
      unfold Cert.ReferenceIdeal.Value.aq Cert.ReferenceIdeal.Value.ak Cert.ReferenceIdeal.Value.av Cert.ReferenceIdeal.Value.aqs
        Cert.ReferenceIdeal.Value.aks Cert.ReferenceIdeal.Value.avs Cert.ReferenceIdeal.Value.act
      rw [a0, a1, a2, a3, a4, a5, a6]
      rfl
    · funext y
      have e : y = (ix4 (y 0) (y 1) 0 (y 3) : Cert.ReferenceIdeal.S2x32x1x16384.Idx) := by
        have hy2 : (y 2).val < 1 := (y 2).isLt
        funext a
        fin_cases a
        · rfl
        · rfl
        · exact Fin.ext (by show (y 2).val = 0; omega)
        · rfl
      conv_lhs => rw [e]
      refine (Cert.ReferenceIdeal.Value.result_lse m' c (y 0) (y 1) (y 3)).trans ?_
      unfold Cert.ReferenceIdeal.Value.aq Cert.ReferenceIdeal.Value.ak Cert.ReferenceIdeal.Value.aqs
        Cert.ReferenceIdeal.Value.aks Cert.ReferenceIdeal.Value.act
      rw [a0, a1, a2, a3, a6]
      rfl

end Cert.Proof

end
-- ==== Proof.GateValue.Cumsum.lean ====
/- A window sum that covers everything up to the position itself is the cumulative sum. No program here. -/
module

public import Idealize.ShloMosaic.Lib.Pointwise
public import proofs.«01_k».proof.Proof.Value.Arith

@[expose] public section

noncomputable section

namespace Cert.Gate

open Idealize.ShloMosaic

/-- A left fold that adds is a sum. -/
theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The window's positions are the places along the middle axis. -/
def winEquiv (N : ℕ) : Fin N ≃ (⟨3, ![1, N, 1]⟩ : Shape).Idx where
  toFun n := ix3 0 n 0
  invFun y := y 1
  left_inv _ := rfl
  right_inv y := by
    have h0 : (y 0).val < 1 := (y 0).isLt
    have h2 : (y 2).val < 1 := (y 2).isLt
    funext a
    fin_cases a
    · exact Fin.ext (by show 0 = (y 0).val; omega)
    · rfl
    · exact Fin.ext (by show 0 = (y 2).val; omega)

/-- A masked sum is the sum up to the mask. -/
theorem masked (g : ℕ → EReal) {N r : ℕ} (h : r < N) :
    (∑ s : Fin N, if s.val ≤ r then g s.val else 0) = ∑ s ∈ Finset.range (r + 1), g s := by
  rw [Fin.sum_univ_eq_sum_range (fun s => if s ≤ r then g s else 0), ← Finset.sum_filter]
  congr 1
  ext s
  simp only [Finset.mem_filter, Finset.mem_range]
  omega

/-- A window of `N` places that ends at the position itself, the places before the first one counting zero: the sum of
    everything up to the position. -/
theorem cumsum_at (B N H : ℕ) (h : (⟨3, ![B, N, H]⟩ : Shape).ReduceWindows ![1, N, 1] ![1, 1, 1] ![0, N - 1, 0] ![0, 0, 0] ⟨3, ![B, N, H]⟩)
    (x : (⟨3, ![B, N, H]⟩ : Shape).Idx → EReal) (b : Fin B) (i : Fin N) (k : Fin H) :
    Ideal.hostReduceWindowAdd (s := ⟨3, ![B, N, H]⟩) ![1, N, 1] ![1, 1, 1] ![0, N - 1, 0] ![0, 0, 0] h x 0 (ix3 b i k)
      = ∑ j : Fin N, if j.val ≤ i.val then x (ix3 b j k) else 0 := by
  unfold Ideal.hostReduceWindowAdd Host.reduceWindow
  dsimp only
  rw [foldl_add, zero_add, ← List.ofFn_eq_map, List.sum_ofFn]
  rw [← Equiv.sum_comp ((winEquiv N).trans (Shape.rowMajor _))]
  have hi := i.isLt
  refine (Finset.sum_congr rfl fun n _ => ?_ : _ = ∑ n : Fin N, if hn : N - 1 ≤ i.val + n.val then x (ix3 b ⟨i.val + n.val - (N - 1), by omega⟩ k) else 0).trans ?_
  · have hn := n.isLt
    simp only [Equiv.trans_apply, Equiv.symm_apply_apply]
    by_cases hc : N - 1 ≤ i.val + n.val
    · rw [dif_pos hc, dif_pos]
      · congr 1
        funext a
        fin_cases a
        · exact Fin.ext (by show b.val * 1 + 0 - 0 = b.val; omega)
        · exact Fin.ext (by show i.val * 1 + n.val - (N - 1) = i.val + n.val - (N - 1); omega)
        · exact Fin.ext (by show k.val * 1 + 0 - 0 = k.val; omega)
      · intro a
        fin_cases a
        · exact ⟨Nat.zero_le _, by show b.val * 1 + 0 - 0 < B; have := b.isLt; omega⟩
        · exact ⟨by show N - 1 ≤ i.val * 1 + n.val; omega, by show i.val * 1 + n.val - (N - 1) < N; omega⟩
        · exact ⟨Nat.zero_le _, by show k.val * 1 + 0 - 0 < H; have := k.isLt; omega⟩
    · rw [dif_neg hc, dif_neg]
      intro hin
      have h1 : N - 1 ≤ i.val * 1 + n.val := (hin 1).1
      omega
  · rw [← Finset.sum_filter]
    rw [← Finset.sum_filter_add_sum_filter_not Finset.univ (fun n : Fin N => N - 1 ≤ i.val + n.val)]
    rw [Finset.sum_eq_zero (s := Finset.univ.filter fun n : Fin N => ¬ N - 1 ≤ i.val + n.val) fun n hn => dif_neg (Finset.mem_filter.1 hn).2, add_zero]
    refine Finset.sum_bij' (fun n hn => ⟨i.val + n.val - (N - 1), by have := n.isLt; omega⟩) (fun j hj => ⟨j.val + (N - 1) - i.val, by
      have h1 : j.val ≤ i.val := (Finset.mem_filter.1 hj).2
      omega⟩) ?_ ?_ ?_ ?_ ?_
    · intro n hn
      have := n.isLt
      exact Finset.mem_filter.2 ⟨Finset.mem_univ _, by show i.val + n.val - (N - 1) ≤ i.val; omega⟩
    · intro j hj
      have h1 : j.val ≤ i.val := (Finset.mem_filter.1 hj).2
      exact Finset.mem_filter.2 ⟨Finset.mem_univ _, by show N - 1 ≤ i.val + (j.val + (N - 1) - i.val); omega⟩
    · intro n hn
      have h1 : N - 1 ≤ i.val + n.val := (Finset.mem_filter.1 hn).2
      exact Fin.ext (by show i.val + n.val - (N - 1) + (N - 1) - i.val = n.val; omega)
    · intro j hj
      have h1 : j.val ≤ i.val := (Finset.mem_filter.1 hj).2
      exact Fin.ext (by show i.val + (j.val + (N - 1) - i.val) - (N - 1) = j.val; omega)
    · intro n hn
      rw [dif_pos (Finset.mem_filter.1 hn).2]

/-! ## The log-sigmoid -/

/-- The logarithm of the sigmoid of `f`: minus the soft maximum of `-f` and zero. -/
def logSigmoid (f : EReal) : EReal := -(max (-f) 0 + Ideal.log1p (Ideal.exp (-(max (-f) (-(-f))))))

theorem log1p_nonneg {x : EReal} (h : 0 ≤ x) : 0 ≤ Ideal.log1p x := by
  unfold Ideal.log1p
  induction x using EReal.rec with
  | bot => exact absurd h (by decide)
  | top => rw [show (1 : EReal) + ⊤ = ⊤ from rfl]; exact le_top
  | coe r =>
    have hr : 0 ≤ r := EReal.coe_nonneg.1 h
    rw [show (1 : EReal) + (r : EReal) = ((1 + r : ℝ) : EReal) from by rw [EReal.coe_add]; rfl]
    show 0 ≤ if 1 + r ≤ 0 then (⊥ : EReal) else ((Real.log (1 + r) : ℝ) : EReal)
    rw [if_neg (by linarith)]
    exact EReal.coe_nonneg.2 (Real.log_nonneg (by linarith))

/-- It is never positive infinity. -/
theorem logSigmoid_ne_top (f : EReal) : logSigmoid f ≠ ⊤ := by
  unfold logSigmoid
  intro e
  have h : (0 : EReal) ≤ max (-f) 0 + Ideal.log1p (Ideal.exp (-(max (-f) (-(-f))))) :=
    add_nonneg (le_max_right _ _) (log1p_nonneg (Cert.Softmax.exp_nonneg _))
  rw [EReal.neg_eq_top_iff] at e
  rw [e] at h
  exact absurd h (by decide)

/-- Splitting a number that is not positive infinity into three parts and adding them up gives it back. -/
theorem split3 {x : EReal} (h : x ≠ ⊤) : x - x - (x - x) + (x - x) + x = x := by
  induction x using EReal.rec with
  | bot => exact EReal.add_bot _
  | top => exact absurd rfl h
  | coe r => norm_cast; simp

/-- A sum that has no term at negative infinity is not there either. -/
theorem sum_ne_bot {ι : Type} (s : Finset ι) (f : ι → EReal) (h : ∀ i ∈ s, f i ≠ ⊥) : (∑ i ∈ s, f i) ≠ ⊥ :=
  Finset.sum_induction f (· ≠ ⊥) (fun _ _ ha hb e => (EReal.add_eq_bot_iff.mp e).elim ha hb) (by simp) h

/-- A product with weights, none of them positive infinity, is the sum of the products with their three parts. -/
theorem dot_split {n : ℕ} (x w : Fin n → EReal) (hw : ∀ k, w k ≠ ⊤) :
    (∑ k, x k * (w k - w k - (w k - w k))) + (∑ k, x k * (w k - w k)) + (∑ k, x k * w k) = ∑ k, x k * w k := by
  have hd : ∀ k, w k - w k = 0 ∨ (w k - w k = ⊥ ∧ w k = ⊥) := fun k => by
    have h := hw k
    generalize w k = v at h ⊢
    induction v using EReal.rec with
    | bot => exact Or.inr ⟨rfl, rfl⟩
    | top => exact absurd rfl h
    | coe r => left; rw [← EReal.coe_sub, sub_self, EReal.coe_zero]
  have hdd : ∀ k, w k - w k - (w k - w k) = w k - w k := fun k => by
    rcases hd k with e | ⟨e, -⟩ <;> rw [e]
    · exact sub_zero _
    · rfl
  simp only [hdd]
  by_cases hb : ∃ k, x k * w k = ⊥
  · obtain ⟨k, hk⟩ := hb
    have e : (∑ k, x k * w k) = ⊥ := by rw [← Finset.add_sum_erase _ _ (Finset.mem_univ k), hk, EReal.bot_add]
    rw [e, EReal.add_bot]
  have hb' : ∀ k, x k * w k ≠ ⊥ := fun k e => hb ⟨k, e⟩
  have hs : (∑ k, x k * (w k - w k)) ≠ ⊥ := sum_ne_bot _ _ fun k _ => by
    rcases hd k with e | ⟨e, e'⟩ <;> rw [e]
    · rw [mul_zero]; exact EReal.zero_ne_bot
    · have h1 := hb' k
      rw [e'] at h1
      exact h1
  by_cases ht : ∃ k, x k * w k = ⊤
  · obtain ⟨k, hk⟩ := ht
    have e : (∑ k, x k * w k) = ⊤ := by
      rw [← Finset.add_sum_erase _ _ (Finset.mem_univ k), hk]
      exact EReal.top_add_of_ne_bot (sum_ne_bot _ _ fun k _ => hb' k)
    rw [e]
    exact EReal.add_top_of_ne_bot fun e => (EReal.add_eq_bot_iff.mp e).elim hs hs
  · have z : (∑ k, x k * (w k - w k)) = 0 := Finset.sum_eq_zero fun k _ => by
      rcases hd k with e | ⟨e, e'⟩
      · rw [e, mul_zero]
      · have h1 := hb' k
        have h2 : x k * w k ≠ ⊤ := fun e => ht ⟨k, e⟩
        rw [e'] at h1 h2
        rw [e]
        generalize x k = v at h1 h2 ⊢
        rcases lt_trichotomy v 0 with h | h | h
        · exact absurd (EReal.mul_bot_of_neg h) h2
        · rw [h, zero_mul]
        · exact absurd (EReal.mul_bot_of_pos h) h1
    rw [z, zero_add, zero_add]

end Cert.Gate

end
-- ==== Proof.GateValue.Pays.lean ====
/- What one grid point of the gate computes, read at one element, over the extended reals. -/
module

public import proofs.«01_k».proof.Proof.Gen.GateIdeal.Frame
public import Idealize.ShloMosaic.Lib.WordCmp
public import proofs.«01_k».proof.Proof.GateValue.Cumsum

@[expose] public section

set_option maxRecDepth 16384 -- the pointwise reader needs it

noncomputable section

namespace Cert.GateIdeal.Value

open Idealize.ShloMosaic Idealize.SL.Sem
open Cert.GateIdeal.Gen Cert.Gate

/-- Lane `l` of the first 32 of 128. -/
abbrev lane (l : Fin 32) : Fin 128 := ⟨l.val, by omega⟩

variable (x0 : Vec Ideal S1x512x4096 .bf16) (x1 : Vec Ideal S4096x128 .bf16) (x2 : Vec Ideal S1x128 .f32)

/-- The logit of row `r` and head `l`. -/
def logit (r : Fin 512) (l : Fin 32) : EReal := (∑ k : Fin 4096, x0 (ix3 0 r k) * x1 (ix2 k (lane l))) + x2 (ix2 0 (lane l))

/-- The weights are side by side in three parts, and none is positive infinity. -/
def Split : Prop := ∀ (k : Fin 4096) (l : Fin 32), x1 (ix2 k (lane l)) ≠ (⊤ : EReal)
  ∧ (x1 (ix2 k ⟨l.val + 32, by omega⟩) : EReal) = x1 (ix2 k (lane l)) - x1 (ix2 k (lane l))
  ∧ (x1 (ix2 k ⟨l.val + 64, by omega⟩) : EReal) = x1 (ix2 k (lane l)) - x1 (ix2 k (lane l)) - (x1 (ix2 k (lane l)) - x1 (ix2 k (lane l)))

variable {x1} in
theorem pay3_at (hw : Split x1) (r : Fin 512) (l : Fin 32) : k0_pay3 (F := Ideal) x0 x1 x2 (ix2 r (lane l)) = logit x0 x1 x2 r l := by
  have hl := l.isLt
  pointwise [k0_pay3]
  unfold logit
  have e1 : (l.val + 128 - 64) % 128 = l.val + 64 := by omega
  have e2 : (l.val + 128 - 96) % 128 = l.val + 32 := by omega
  simp only [e1, e2, fun k => (hw k l).2.1, fun k => (hw k l).2.2, zero_add]
  congr 1
  exact dot_split (fun k => x0 (ix3 0 r k)) (fun k => x1 (ix2 k (lane l))) fun k => (hw k l).1

variable {x1} in
theorem pay4_at (hw : Split x1) (r : Fin 512) (l : Fin 32) : k0_pay4 (F := Ideal) x0 x1 x2 (ix3 0 r l) = logit x0 x1 x2 r l := by
  refine Eq.trans ?_ (pay3_at x0 x2 hw r l)
  pointwise [k0_pay4]

/-- The log-sigmoids of a tile, zero beyond the heads' lanes. -/
def lf : FVec Ideal S512x128 .f32 :=
  select k0_pay5 (subf (broadcast S512x128 (Scalar.ofBits .f32 0x00000000#32)) (select (k0_pay9 (F := Ideal) x0 x1 x2) (k0_pay10 (F := Ideal) x0 x1 x2)
    (addf (k0_pay7 (F := Ideal) x0 x1 x2) (k0_pay11 (F := Ideal) x0 x1 x2)))) (broadcast S512x128 (Scalar.ofBits .f32 0x00000000#32))

theorem lf_at (r : Fin 512) (l : Fin 128) : lf x0 x1 x2 (ix2 r l) = if l.val < 32 then logSigmoid (k0_pay3 (F := Ideal) x0 x1 x2 (ix2 r l)) else 0 := by
  have hl := l.isLt
  pointwise [lf, k0_pay5, k0_pay9, k0_pay10, k0_pay7, k0_pay11, k0_pay8, k0_pay6]
  rw [WordCmp.cmpi_slt_ofNat (by omega) (by omega)]
  have e : ∀ z : EReal, FloatOps.absf (F := Ideal) (φ := .f32) z = max z (-z) := fun _ => rfl
  by_cases h : l.val < 32
  · rw [if_pos h, decide_eq_true h]
    unfold logSigmoid
    simp only [e, zero_sub, ne_eq, not_true_eq_false, decide_false]
    rfl
  · rw [if_neg h, decide_eq_false h]
    rfl

/-- The cumulative sums of a tile's log-sigmoids, plus what the tiles before it left. -/
def cum (v42 : FVec Ideal S512x128 .f32) (v70 : Vec Ideal S1x128 .f32) : FVec Ideal S512x128 .f32 :=
  have v43 : FVec Ideal S512x128 .bf16 := truncf .bf16 v42 bitsLt_bf16_f32
  have v44 : FVec Ideal S512x128 .f32 := extf .f32 v43 bitsLt_bf16_f32
  have v45 : FVec Ideal S512x128 .f32 := subf v42 v44
  have v46 : FVec Ideal S512x128 .bf16 := truncf .bf16 v45 bitsLt_bf16_f32
  have v47 : FVec Ideal S512x128 .f32 := extf .f32 v46 bitsLt_bf16_f32
  have v48 : FVec Ideal S512x128 .f32 := subf v45 v47
  have v49 : FVec Ideal S512x128 .bf16 := truncf .bf16 v48 bitsLt_bf16_f32
  have v50 : FVec Ideal S512x128 .f32 := extf .f32 v43 bitsLt_bf16_f32
  have v51 : FVec Ideal S512x128 .f32 := extf .f32 v46 bitsLt_bf16_f32
  have v52 : FVec Ideal S512x128 .f32 := dynamicRotate 1 32#32 none v51 rotates_S512x128_d1
  have v53 : FVec Ideal S512x128 .f32 := addf v50 v52
  have v54 : FVec Ideal S512x128 .f32 := extf .f32 v49 bitsLt_bf16_f32
  have v55 : FVec Ideal S512x128 .f32 := dynamicRotate 1 64#32 none v54 rotates_S512x128_d1
  have v56 : FVec Ideal S512x128 .f32 := addf v53 v55
  have v57 : FVec Ideal S512x128 .bf16 := truncf .bf16 v56 bitsLt_bf16_f32
  have v58 : IVec S512x512 32 := iota .tc S512x512 32 [0] iota_S512x512_d0_w32
  have v59 : IVec S512x512 32 := iota .tc S512x512 32 [1] iota_S512x512_d1_w32
  have v60 : IVec S512x512 1 := cmpi .sle v59 v58
  have v61 : FVec Ideal S512x512 .f32 := broadcast S512x512 (Scalar.ofBits .f32 0x3F800000#32)
  have v62 : FVec Ideal S512x512 .f32 := broadcast S512x512 (Scalar.ofBits .f32 0x00000000#32)
  have v63 : FVec Ideal S512x512 .f32 := select v60 v61 v62
  have v64 : FVec Ideal S512x512 .bf16 := truncf .bf16 v63 bitsLt_bf16_f32
  have v65 : FVec Ideal S512x128 .f32 := matmul dot_S512x512_S512x128_S512x128_1_0_0_1_n_n none v64 v57 (constant S512x128 .f32 0x00000000#32)
  have v66 : FVec Ideal S512x128 .f32 := dynamicRotate 1 64#32 none v65 rotates_S512x128_d1
  have v67 : FVec Ideal S512x128 .f32 := dynamicRotate 1 96#32 none v65 rotates_S512x128_d1
  have v68 : FVec Ideal S512x128 .f32 := addf v66 v67
  have v69 : FVec Ideal S512x128 .f32 := addf v68 v65
  have v71 : FVec Ideal S512x128 .f32 := broadcastTo S512x128 v70 broadcasts_S1x128_S512x128
  addf v69 v71

theorem pay12_eq (v70 : Vec Ideal S1x128 .f32) :
    k0_pay12 (F := Ideal) k0_pay5 (k0_pay7 x0 x1 x2) (k0_pay9 x0 x1 x2) (k0_pay10 x0 x1 x2) (k0_pay11 x0 x1 x2) v70 = cum (lf x0 x1 x2) v70 := rfl

theorem cum_at (u : FVec Ideal S512x128 .f32) (hu : ∀ s (l : Fin 128), 32 ≤ l.val → u (ix2 s l) = (0 : EReal))
    (ht : ∀ s (l : Fin 32), u (ix2 s (lane l)) ≠ (⊤ : EReal)) (v70 : Vec Ideal S1x128 .f32) (r : Fin 512) (l : Fin 32) :
    cum u v70 (ix2 r (lane l)) = (∑ s : Fin 512, if s.val ≤ r.val then (u (ix2 s (lane l)) : EReal) else 0) + v70 (ix2 0 (lane l)) := by
  have hl := l.isLt
  have hr := r.isLt
  pointwise [cum]
  have e1 : (l.val + 128 - 64) % 128 = l.val + 64 := by omega
  have e2 : (l.val + 128 - 96) % 128 = l.val + 32 := by omega
  have e3 : (l.val + 128 - 32) % 128 = l.val + 96 := by omega
  have e4 : (l.val + 64 + 128 - 32) % 128 = l.val + 32 := by omega
  have e5 : (l.val + 64 + 128 - 64) % 128 = l.val := by omega
  have e6 : (l.val + 32 + 128 - 32) % 128 = l.val := by omega
  have e7 : (l.val + 32 + 128 - 64) % 128 = l.val + 96 := by omega
  have z1 : ∀ s, u (ix2 s ⟨l.val + 32, by omega⟩) = (0 : EReal) := fun s => hu _ _ (by show 32 ≤ l.val + 32; omega)
  have z2 : ∀ s, u (ix2 s ⟨l.val + 64, by omega⟩) = (0 : EReal) := fun s => hu _ _ (by show 32 ≤ l.val + 64; omega)
  have z3 : ∀ s, u (ix2 s ⟨l.val + 96, by omega⟩) = (0 : EReal) := fun s => hu _ _ (by show 32 ≤ l.val + 96; omega)
  simp only [e1, e2, e3, e4, e5, e6, e7, z1, z2, z3, sub_zero, zero_add, add_zero]
  congr 1
  rw [← Finset.sum_add_distrib, ← Finset.sum_add_distrib]
  refine Finset.sum_congr rfl fun s _ => ?_
  have hs := s.isLt
  rw [WordCmp.cmpi_sle_ofNat (by omega) (by omega)]
  by_cases h : s.val ≤ r.val
  · rw [if_pos h, decide_eq_true h]
    exact split3 (ht s l)
  · rw [if_neg h, decide_eq_false h]
    show (0 : EReal) + 0 + 0 = 0
    rw [add_zero, add_zero]

end Cert.GateIdeal.Value

end
-- ==== Proof.GateValue.Blocks.lean ====
/- The blocks that a grid point of the gate reads, over the extended reals: each at an index, from the arguments. -/
module

public import proofs.«01_k».proof.Proof.GateValue.Pays
public import Idealize.ShloMosaic.Lib.StableHlo.ReadAt
public import Idealize.ShloMosaic.Lib.Pipeline.ValueKit

@[expose] public section

set_option maxRecDepth 16384 -- the pointwise reader needs it

noncomputable section

namespace Cert.GateIdeal.Value

open Idealize.ShloMosaic Idealize.ShloMosaic.TcCoe Idealize.SL.Sem
open Cert.GateIdeal.Gen Cert.Gate

theorem idx : ∀ t : Fin grid0.N, win0_0.index t = ![t.val / 32, t.val % 32, 0] ∧ win0_1.index t = ![0, 0] ∧ win0_2.index t = ![0, 0]
    ∧ win0_3.index t = ![t.val / 32, t.val % 32, 0] ∧ win0_4.index t = ![t.val / 32, 0, t.val % 32] := by decide +kernel

theorem lt_N (t : Fin cfg0.N) : t.val < 64 := lt_of_lt_of_eq t.isLt N_0

variable (m : (ℓ : Loc nD τ sig) → Buf (Elt Ideal) ℓ) (c : Dev nD)

/-- The arguments, as functions to the extended reals. -/
abbrev ax : S2x16384x4096.Idx → EReal := fun i => m ((c : Thread nD τ).loc main_arg0) i
abbrev aw : S4096x32.Idx → EReal := fun i => m ((c : Thread nD τ).loc main_arg1) i
abbrev ab : S32.Idx → EReal := fun i => m ((c : Thread nD τ).loc main_arg2) i

/-- The weights' three parts, side by side. -/
theorem V_v8 (k : Fin 4096) (l : Fin 32) : (V m c main_v8 : FVec Ideal S4096x128 .bf16) (ix2 k (lane l)) = aw m c (ix2 k l) := by
  have hl := l.isLt
  after_reads_at
  rfl

theorem V_v8_mid (k : Fin 4096) (l : Fin 32) :
    (V m c main_v8 : FVec Ideal S4096x128 .bf16) (ix2 k ⟨l.val + 32, by omega⟩) = aw m c (ix2 k l) - aw m c (ix2 k l) := by
  have hl := l.isLt
  have e1 : l.val + 32 - 32 = l.val := by omega
  after_reads_at
  simp only [e1]
  rw [dif_neg (by omega), dif_pos hl]
  rfl

theorem V_v8_lo (k : Fin 4096) (l : Fin 32) :
    (V m c main_v8 : FVec Ideal S4096x128 .bf16) (ix2 k ⟨l.val + 64, by omega⟩)
      = aw m c (ix2 k l) - aw m c (ix2 k l) - (aw m c (ix2 k l) - aw m c (ix2 k l)) := by
  have hl := l.isLt
  have e1 : l.val + 64 - 32 - 32 = l.val := by omega
  after_reads_at
  simp only [e1]
  rw [dif_neg (by omega), dif_neg (by omega), dif_pos hl]
  rfl

theorem V_v11 (l : Fin 32) : (V m c main_v11 : FVec Ideal S1x128 .f32) (ix2 0 (lane l)) = ab m c (ix1 l) := by
  have hl := l.isLt
  after_reads_at
  rfl

variable (t : Fin cfg0.N)

theorem blk0 (r : Fin 512) (k : Fin 4096) : (iblk m c 0 t : FVec Ideal S1x512x4096 .bf16) (ix3 0 r k)
    = ax m c (ix3 ⟨t.val / 32, by have := lt_N t; omega⟩ ⟨512 * (t.val % 32) + r.val, by omega⟩ k) := by
  refine Eq.trans ?_ (congrFun (V_main_arg0 m c) (ix3 ⟨t.val / 32, by have := lt_N t; omega⟩ ⟨512 * (t.val % 32) + r.val, by omega⟩ k))
  obtain ⟨h0, -⟩ := idx t
  blk_ext [iblk, h0]

theorem blk1 (k : Fin 4096) (l : Fin 128) : (iblk m c 1 t : FVec Ideal S4096x128 .bf16) (ix2 k l) = (V m c main_v8 : FVec Ideal S4096x128 .bf16) (ix2 k l) := by
  obtain ⟨-, h1, -⟩ := idx t
  blk_ext [iblk, h1]

theorem blk2 (l : Fin 128) : (iblk m c 2 t : FVec Ideal S1x128 .f32) (ix2 0 l) = (V m c main_v11 : FVec Ideal S1x128 .f32) (ix2 0 l) := by
  obtain ⟨-, -, h2, -⟩ := idx t
  blk_ext [iblk, h2]

end Cert.GateIdeal.Value

end
-- ==== Proof.GateValue.Cases.lean ====
/- What one grid point of the gate leaves in its two output blocks and in the carried row, as the kernel's own terms. -/
module

public import proofs.«01_k».proof.Proof.Gen.GateIdeal.Frame
public import Idealize.ShloMosaic.Lib.Tactic
public import Idealize.ShloMosaic.Lib.Pipeline.Value

@[expose] public section

noncomputable section

namespace Cert.GateIdeal.Value

open Idealize.ShloMosaic Idealize.SL.Sem
open Cert.GateIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (arg2 : Memref sig .tc .vmem S1x512x4096 .bf16) (harg2 : arg2.IsWhole) (arg3 : Memref sig .tc .vmem S4096x128 .bf16) (harg3 : arg3.IsWhole)
  (arg4 : Memref sig .tc .vmem S1x128 .f32) (harg4 : arg4.IsWhole) (arg5 : Memref sig .tc .vmem S1x512x32 .f32) (harg5 : arg5.IsWhole) (arg6 : Memref sig .tc .vmem S1x32x512 .f32) (harg6 : arg6.IsWhole)
  (arg7 : Memref sig .tc .vmem S1x128 .f32) (harg7 : arg7.IsWhole)
  (x0 : Vec F S1x512x4096 .bf16) (x1 : Vec F S4096x128 .bf16) (x2 : Vec F S1x128 .f32) (xs0 : Vec F S1x128 .f32)

theorem out_A_3 (hc0 : cond0_0 i) : out0_A_3 c i arg2 harg2 arg3 harg3 arg4 harg4 arg5 harg5 arg6 harg6 arg7 harg7 hc0 x0 x1 x2 = k0_pay4 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, harg4.read_unread, View.ld_unit_zero (S := S1x512x4096) hz3, View.ld_unit_zero (S := S4096x128) hz2, View.ld_unit_zero (S := S1x128) hz2]

theorem out_B_3 (hc0 : ¬cond0_0 i) : out0_B_3 c i arg2 harg2 arg3 harg3 arg4 harg4 arg5 harg5 arg6 harg6 arg7 harg7 hc0 x0 x1 x2 xs0 = k0_pay4 x0 x1 x2 := by
  unfold out0_B_3
  rw [View.read_writes_eq_canon _ _ _ (cover0_B_3 c i arg2 harg2 arg3 harg3 arg4 harg4 arg5 harg5 arg6 harg6 arg7 harg7 hc0 x0 x1 x2 xs0)]
  unfold kernelRun0_B
  dsimp only
  sl_unfold_words
  rw [View.canon_unit_zero hz3]
  simp only [View.readAt_eq_ld, harg2.read_unread, harg3.read_unread, harg4.read_unread, View.ld_unit_zero (S := S1x512x4096) hz3, View.ld_unit_zero (S := S4096x128) hz2, View.ld_unit_zero (S := S1x128) hz2]

theorem out_A_4 (hc0 : cond0_0 i) : out0_A_4 c i arg2 harg2 arg3 harg3 arg4 harg4 arg5 harg5 arg6 harg6 arg7 harg7 hc0 x0 x1 x2
    = k0_pay1 (k0_pay14 k0_pay5 (k0_pay7 x0 x1 x2) (k0_pay9 x0 x1 x2) (k0_pay10 x0 x1 x2) (k0_pay11 x0 x1 x2) (k0_pay2 (F := F))) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, harg4.read_unread, View.ld_unit_zero (S := S1x512x4096) hz3, View.ld_unit_zero (S := S4096x128) hz2, View.ld_unit_zero (S := S1x128) hz2, View.readCov_unit_zero (S := S1x128) _ hz2]

theorem out_B_4 (hc0 : ¬cond0_0 i) : out0_B_4 c i arg2 harg2 arg3 harg3 arg4 harg4 arg5 harg5 arg6 harg6 arg7 harg7 hc0 x0 x1 x2 xs0
    = k0_pay1 (k0_pay14 k0_pay5 (k0_pay7 x0 x1 x2) (k0_pay9 x0 x1 x2) (k0_pay10 x0 x1 x2) (k0_pay11 x0 x1 x2) xs0) := by
  unfold out0_B_4
  rw [View.read_writes_eq_canon _ _ _ (cover0_B_4 c i arg2 harg2 arg3 harg3 arg4 harg4 arg5 harg5 arg6 harg6 arg7 harg7 hc0 x0 x1 x2 xs0)]
  unfold kernelRun0_B
  dsimp only
  sl_unfold_words
  rw [View.canon_unit_zero hz3]
  simp only [View.readAt_eq_ld, harg2.read_unread, harg3.read_unread, harg4.read_unread, harg7.read_unread, View.ld_unit_zero (S := S1x512x4096) hz3, View.ld_unit_zero (S := S4096x128) hz2, View.ld_unit_zero (S := S1x128) hz2]

theorem sout_A (hc0 : cond0_0 i) : sout0_A_0 c i arg2 harg2 arg3 harg3 arg4 harg4 arg5 harg5 arg6 harg6 arg7 harg7 hc0 x0 x1 x2
    = k0_pay13 k0_pay5 (k0_pay7 x0 x1 x2) (k0_pay9 x0 x1 x2) (k0_pay10 x0 x1 x2) (k0_pay11 x0 x1 x2) (k0_pay2 (F := F)) := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_cons_unit_zero (S := S1x128) hz2]
  simp only [View.readAt_eq_ld, harg2.read_unread, harg3.read_unread, harg4.read_unread, View.ld_unit_zero (S := S1x512x4096) hz3, View.ld_unit_zero (S := S4096x128) hz2, View.ld_unit_zero (S := S1x128) hz2, View.readCov_unit_zero (S := S1x128) _ hz2]

theorem sout_B (hc0 : ¬cond0_0 i) : sout0_B_0 c i arg2 harg2 arg3 harg3 arg4 harg4 arg5 harg5 arg6 harg6 arg7 harg7 hc0 x0 x1 x2 xs0
    = k0_pay13 k0_pay5 (k0_pay7 x0 x1 x2) (k0_pay9 x0 x1 x2) (k0_pay10 x0 x1 x2) (k0_pay11 x0 x1 x2) xs0 := by
  unfold sout0_B_0
  rw [View.read_writes_eq_canon _ _ _ (scover0_B_0 c i arg2 harg2 arg3 harg3 arg4 harg4 arg5 harg5 arg6 harg6 arg7 harg7 hc0 x0 x1 x2 xs0)]
  unfold kernelRun0_B
  dsimp only
  sl_unfold_words
  rw [View.canon_unit_zero hz2]
  simp only [View.readAt_eq_ld, harg2.read_unread, harg3.read_unread, harg4.read_unread, harg7.read_unread, View.ld_unit_zero (S := S1x512x4096) hz3, View.ld_unit_zero (S := S4096x128) hz2, View.ld_unit_zero (S := S1x128) hz2]

end

end Cert.GateIdeal.Value

end
-- ==== Proof.GateValue.Kernel.lean ====
/- The gate's two results: the logits, and the cumulative sums of their log-sigmoids. -/
module

public import proofs.«01_k».proof.Proof.GateValue.Blocks
public import proofs.«01_k».proof.Proof.GateValue.Cases
public import proofs.«01_k».proof.Proof.Gen.GateIdeal.Value

@[expose] public section

set_option maxRecDepth 16384 -- the pointwise reader needs it

noncomputable section

namespace Cert.GateIdeal.Value

open Idealize.ShloMosaic Idealize.ShloMosaic.TcCoe Idealize.SL.Sem
open Cert.GateIdeal.Gen Cert.Gate

variable (m : (ℓ : Loc nD τ sig) → Buf (Elt Ideal) ℓ) (c : Dev nD)

/-- No weight is positive infinity. -/
def Below : Prop := ∀ k l, aw m c (ix2 k l) ≠ ⊤

/-- The logit of batch `b`, row `i`, head `h`. -/
def rowLogit (b : Fin 2) (i : Fin 16384) (h : Fin 32) : EReal := (∑ k : Fin 4096, ax m c (ix3 b i k) * aw m c (ix2 k h)) + ab m c (ix1 h)

/-- The log-sigmoid of row `j`'s logit. -/
def gate (b : Fin 2) (h : Fin 32) (j : ℕ) : EReal := if hj : j < 16384 then logSigmoid (rowLogit m c b ⟨j, hj⟩ h) else 0

/-- A cumulative sum of a tile, read through the kernel's last steps. -/
theorem pay2_at (l : Fin 128) : k0_pay2 (F := Ideal) (ix2 0 l) = (0 : EReal) := by
  pointwise [k0_pay2]

section

variable (v22 : IVec S512x128 1) (v26 v31 v36 : FVec Ideal S512x128 .f32) (v29 : IVec S512x128 1) (v70 : Vec Ideal S1x128 .f32)

theorem pay13_at (l : Fin 128) : k0_pay13 (F := Ideal) v22 v26 v29 v31 v36 v70 (ix2 0 l) = k0_pay12 (F := Ideal) v22 v26 v29 v31 v36 v70 (ix2 ⟨511, by omega⟩ l) := by
  pointwise [k0_pay13]

theorem pay1_at (l : Fin 32) (r : Fin 512) : k0_pay1 (F := Ideal) (k0_pay14 v22 v26 v29 v31 v36 v70) (ix3 0 l r) = k0_pay12 (F := Ideal) v22 v26 v29 v31 v36 v70 (ix2 r (lane l)) := by
  pointwise [k0_pay1, k0_pay14]

end

section

variable (t : Fin cfg0.N)

/-- The point's batch, and its row `r` within the batch. -/
abbrev bat : Fin 2 := ⟨t.val / 32, by have := lt_N t; omega⟩
abbrev row (r : Fin 512) : Fin 16384 := ⟨512 * (t.val % 32) + r.val, by omega⟩

variable (hw : Below m c)
include hw

theorem split_blk : Split (iblk m c 1 t : FVec Ideal S4096x128 .bf16) := fun k l => by
  rw [blk1, blk1, blk1, V_v8, V_v8_mid, V_v8_lo]
  exact ⟨hw k l, rfl, rfl⟩

omit hw in
theorem logit_blk (r : Fin 512) (l : Fin 32) : logit (iblk m c 0 t) (iblk m c 1 t) (iblk m c 2 t) r l = rowLogit m c (bat t) (row t r) l := by
  unfold logit rowLogit
  congr 1
  · refine Finset.sum_congr rfl fun k _ => ?_
    exact congrArg₂ (· * ·) (blk0 m c t r k) ((blk1 m c t k (lane l)).trans (V_v8 m c k l))
  · exact (blk2 m c t (lane l)).trans (V_v11 m c l)

theorem lf_blk (s : Fin 512) (l : Fin 32) : lf (iblk m c 0 t) (iblk m c 1 t) (iblk m c 2 t) (ix2 s (lane l)) = gate m c (bat t) l (512 * (t.val % 32) + s.val) := by
  rw [lf_at, if_pos l.isLt, pay3_at _ _ (split_blk m c t hw), logit_blk]
  unfold gate
  rw [dif_pos (by omega)]

/-- One tile's cumulative sums, over the sum of the tiles before it. -/
theorem tile (v70 : Vec Ideal S1x128 .f32) (l : Fin 32) (h : v70 (ix2 0 (lane l)) = ∑ j ∈ Finset.range (512 * (t.val % 32)), gate m c (bat t) l j) (r : Fin 512) :
    k0_pay12 (F := Ideal) k0_pay5 (k0_pay7 (iblk m c 0 t) (iblk m c 1 t) (iblk m c 2 t)) (k0_pay9 (iblk m c 0 t) (iblk m c 1 t) (iblk m c 2 t))
      (k0_pay10 (iblk m c 0 t) (iblk m c 1 t) (iblk m c 2 t)) (k0_pay11 (iblk m c 0 t) (iblk m c 1 t) (iblk m c 2 t)) v70 (ix2 r (lane l))
      = ∑ j ∈ Finset.range (512 * (t.val % 32) + (r.val + 1)), gate m c (bat t) l j := by
  rw [pay12_eq, cum_at _ (fun s l hl => by rw [lf_at, if_neg (by omega)]) (fun s l => by
    rw [lf_at, if_pos l.isLt]; exact logSigmoid_ne_top _), h]
  rw [Finset.sum_congr rfl fun s _ => by rw [lf_blk m c t hw s l], masked (fun s => gate m c (bat t) l (512 * (t.val % 32) + s)) r.isLt, Finset.sum_range_add (gate m c (bat t) l) (512 * (t.val % 32)) (r.val + 1), add_comm]

end

theorem tile_congr {b b' : Fin 2} (hb : b = b') {n n' : ℕ} (hn : n = n') (l : Fin 32) :
    (∑ j ∈ Finset.range n, gate m c b l j) = ∑ j ∈ Finset.range n', gate m c b' l j := by rw [hb, hn]

section

variable (hw : Below m c)
include hw

/-- The carried row after point `n`: the sum of everything up to the end of the point's tile. -/
theorem carry (n : ℕ) : ∀ (hn : n < cfg0.N) (l : Fin 32),
    (outsAt0 m c n hn).2.2 (ix2 0 (lane l)) = ∑ j ∈ Finset.range (512 * (n % 32) + 512), gate m c (bat ⟨n, hn⟩) l j := by
  induction n using Nat.strong_induction_on with
  | _ n ih =>
    intro hn l
    by_cases h0 : n % 32 = 0
    · have e := congrArg (fun p => p.2.2) (outsAt0_A m c ⟨n, hn⟩ h0)
      refine (congrFun e _).trans ?_
      dsimp only
      rw [sout_A, pay13_at, tile m c ⟨n, hn⟩ hw _ l]
      dsimp only
      rw [pay2_at, h0]
      rfl
    · have e := congrArg (fun p => p.2.2) (outsAt0_B m c ⟨n, hn⟩ h0)
      refine (congrFun e _).trans ?_
      dsimp only
      rw [sout_B, pay13_at, tile m c ⟨n, hn⟩ hw _ l]
      rw [ih (n - 1) (by omega)]
      exact tile_congr m c (Fin.ext (by show (n - 1) / 32 = n / 32; omega)) (by show 512 * ((n - 1) % 32) + 512 = 512 * (n % 32); omega) l

/-- What a point leaves in the second output's block. -/
theorem ct_at (t : Fin cfg0.N) (l : Fin 32) (r : Fin 512) :
    (outsAt0 m c t.val t.isLt).2.1 (ix3 0 l r) = ∑ j ∈ Finset.range (512 * (t.val % 32) + (r.val + 1)), gate m c (bat t) l j := by
  by_cases h0 : t.val % 32 = 0
  · have e := congrArg (fun p => p.2.1) (outsAt0_A m c t h0)
    refine (congrFun e _).trans ?_
    dsimp only
    rw [out_A_4, pay1_at, tile m c t hw _ l]
    rw [pay2_at, h0]
    rfl
  · have e := congrArg (fun p => p.2.1) (outsAt0_B m c t h0)
    refine (congrFun e _).trans ?_
    dsimp only
    rw [out_B_4, pay1_at, tile m c t hw _ l]
    rw [carry m c hw (t.val - 1)]
    exact tile_congr m c (Fin.ext (by show (t.val - 1) / 32 = t.val / 32; omega)) (by omega) l

/-- What a point leaves in the first output's block. -/
theorem logit_at (t : Fin cfg0.N) (r : Fin 512) (l : Fin 32) :
    (outsAt0 m c t.val t.isLt).1 (ix3 0 r l) = rowLogit m c (bat t) (row t r) l := by
  by_cases h0 : t.val % 32 = 0
  · have e := congrArg (fun p => p.1) (outsAt0_A m c t h0)
    refine (congrFun e _).trans ?_
    dsimp only
    rw [out_A_3, pay4_at _ _ (split_blk m c t hw), logit_blk]
  · have e := congrArg (fun p => p.1) (outsAt0_B m c t h0)
    refine (congrFun e _).trans ?_
    dsimp only
    rw [out_B_3, pay4_at _ _ (split_blk m c t hw), logit_blk]

end

/-! ## The arrays -/

/-- The two results. -/
def resLogit : Buf (Elt Ideal) ((c : Thread nD τ).loc main_v12_0) := fun i => rowLogit m c (i 0) (i 1) (i 2)
def resCt : Buf (Elt Ideal) ((c : Thread nD τ).loc main_v12_1) := fun i => (∑ j ∈ Finset.range ((i 2).val + 1), gate m c (i 0) (i 1) j : EReal)

theorem rowLogit_congr {b b' : Fin 2} {i i' : Fin 16384} {h h' : Fin 32} (hb : b.val = b'.val) (hi : i.val = i'.val) (hh : h.val = h'.val) :
    rowLogit m c b i h = rowLogit m c b' i' h' := by
  rw [Fin.ext hb, Fin.ext hi, Fin.ext hh]

theorem sum_congr' {b b' : Fin 2} {n n' : ℕ} {h h' : Fin 32} (hb : b.val = b'.val) (hn : n = n') (hh : h.val = h'.val) :
    (∑ j ∈ Finset.range n, gate m c b h j) = ∑ j ∈ Finset.range n', gate m c b' h' j := by
  rw [Fin.ext hb, hn, Fin.ext hh]

theorem arr_logit (hw : Below m c) : (dats m 0 c).arrAt 3 (cfgs 0).N = resLogit m c := by
  refine (dats m 0 c).arrAt_eq_of_covers 3 _ (by decide +kernel) fun t ht y => ?_
  have hN := lt_N t
  obtain ⟨-, -, -, h3, -⟩ := idx t
  have hy0 : (y 0).val < 1 := (y 0).isLt
  have hy1 : (y 1).val < 512 := (y 1).isLt
  have hy2 : (y 2).val < 32 := (y 2).isLt
  have e : y = (ix3 0 (y 1) (y 2) : S1x512x32.Idx) := by
    funext a
    fin_cases a
    · exact Fin.ext (by show (y 0).val = 0; omega)
    · rfl
    · rfl
  blk_simp
  rw [after0_3]
  conv_lhs => rw [e]
  refine (logit_at m c hw t (y 1) (y 2)).trans ?_
  unfold resLogit
  apply rowLogit_congr
  all_goals blk_simp [h3]
  all_goals (try simp only [bat, row]); omega

theorem arr_ct (hw : Below m c) : (dats m 0 c).arrAt 4 (cfgs 0).N = resCt m c := by
  refine (dats m 0 c).arrAt_eq_of_covers 4 _ (by decide +kernel) fun t ht y => ?_
  have hN := lt_N t
  obtain ⟨-, -, -, -, h4⟩ := idx t
  have hy0 : (y 0).val < 1 := (y 0).isLt
  have hy1 : (y 1).val < 32 := (y 1).isLt
  have hy2 : (y 2).val < 512 := (y 2).isLt
  have e : y = (ix3 0 (y 1) (y 2) : S1x32x512.Idx) := by
    funext a
    fin_cases a
    · exact Fin.ext (by show (y 0).val = 0; omega)
    · rfl
    · rfl
  blk_simp
  rw [after0_4]
  conv_lhs => rw [e]
  refine (ct_at m c hw t (y 1) (y 2)).trans ?_
  unfold resCt
  apply sum_congr'
  all_goals blk_simp [h4]
  all_goals (try simp only [bat, row]); omega

end Cert.GateIdeal.Value

end
-- ==== Proof.GateValue.Reference.lean ====
/- The gate's reference, read at one element, over the extended reals. -/
module

public import proofs.«01_k».proof.Proof.Gen.GateReferenceIdeal.Read
public import proofs.«01_k».proof.Proof.GateValue.Cumsum

@[expose] public section

set_option maxRecDepth 16384 -- the pointwise reader needs it

noncomputable section

namespace Cert.GateReferenceIdeal.Value

open Idealize.ShloMosaic Idealize.SL.Sem
open Cert.GateReferenceIdeal.Gen Cert.Gate Cert.GateReferenceIdeal.Read

variable (x0 : (⟨S2x16384x4096, .bf16⟩ : BufTy).Contents (Elt Ideal)) (x1 : (⟨S4096x32, .f32⟩ : BufTy).Contents (Elt Ideal)) (x2 : (⟨S32, .f32⟩ : BufTy).Contents (Elt Ideal))

theorem v4_at (b : Fin 2) (i : Fin 16384) (h : Fin 32) :
    val_main_v4 (F := Ideal) x0 x1 x2 (ix3 b i h) = (∑ k : Fin 4096, x0 (ix3 b i k) * x1 (ix2 k h)) + x2 (ix1 h) := by
  pointwise [val_main_v4_apply, val_main_v1_apply, val_main_v3_apply, val_main_v2_apply, val_main_v0_apply]
  congr 1
  · refine Finset.sum_congr rfl fun k _ => ?_
    congr 1
    · congr 1; funext a; fin_cases a <;> rfl
    · congr 1; funext a; fin_cases a <;> rfl
  · congr 1; funext a; fin_cases a; rfl

theorem v5_at (i : S2x16384x32.Idx) : val_main_v5 (F := Ideal) x0 x1 x2 i = logSigmoid (val_main_v4 (F := Ideal) x0 x1 x2 i) := by
  rw [val_main_v5_apply, val_main_call0_v1_apply, val_main_call0_call0_v11_apply, val_main_call0_call0_v10_apply, val_main_call0_call0_v9_apply,
    val_main_call0_call0_v8_apply, val_main_call0_call0_v7_apply, val_main_call0_call0_v4_apply, val_main_call0_call0_v3_apply, val_main_call0_call0_v1_apply,
    val_main_call0_call0_v2_apply, val_main_call0_call0_v0_apply, val_main_call0_v0_apply]
  have z : ∀ j, val_main_call0_call0_cst (F := Ideal) j = (0 : EReal) := fun j => by
    pointwise [val_main_call0_call0_cst_apply]
  rw [z]
  have e : ∀ z : EReal, FloatOps.cmpf (F := Ideal) (φ := .f32) .une z z = 0#1 := fun z => by
    show BitVec.ofBool (decide (z ≠ z)) = 0#1
    simp
  rw [e]
  show -(max (-(val_main_v4 (F := Ideal) x0 x1 x2 i)) 0 + Ideal.log1p (Ideal.exp (-(max (-(val_main_v4 (F := Ideal) x0 x1 x2 i) - 0) (-(-(val_main_v4 (F := Ideal) x0 x1 x2 i) - 0)))))) = _
  rw [sub_zero]
  rfl

theorem v6_at (b : Fin 2) (i : Fin 16384) (h : Fin 32) :
    val_main_v6 (F := Ideal) x0 x1 x2 (ix3 b i h) = ∑ j : Fin 16384, if j.val ≤ i.val then (val_main_v5 (F := Ideal) x0 x1 x2 (ix3 b j h) : EReal) else 0 := by
  unfold val_main_v6 Host.reduceWindowAdd
  generalize val_main_v5 (F := Ideal) x0 x1 x2 = y
  have z : ∀ j, val_main_call1_call0_v0 (F := Ideal) j = (0 : EReal) := fun j => by
    rw [val_main_call1_call0_v0_apply]
    pointwise [val_main_call1_call0_cst_apply]
  rw [z]
  exact cumsum_at 2 16384 32 _ y b i h

theorem v7_at (b : Fin 2) (h : Fin 32) (i : Fin 16384) :
    val_main_v7 (F := Ideal) x0 x1 x2 (ix3 b h i) = ∑ j : Fin 16384, if j.val ≤ i.val then logSigmoid ((∑ k : Fin 4096, x0 (ix3 b j k) * x1 (ix2 k h)) + x2 (ix1 h)) else 0 := by
  rw [val_main_v7_apply]
  refine Eq.trans ?_ ((v6_at x0 x1 x2 b i h).trans (Finset.sum_congr rfl fun j _ => by rw [v5_at, v4_at]))
  congr 1
  funext a
  fin_cases a <;> rfl

end Cert.GateReferenceIdeal.Value

end
-- ==== Proof.GateClaims.lean ====
/- The claims about the gate: the programs' frames, and, where no weight is plus infinity, that the idealized kernel and the
   reference end with the same two results. -/
module

public import proofs.«01_k».proof.Proof.Algebraic
public import proofs.«01_k».proof.Proof.Gen.Gate.Frame
public import proofs.«01_k».proof.Proof.GateValue.Kernel
public import proofs.«01_k».proof.Proof.GateValue.Reference
public import Idealize.ShloMosaic.Lib.Quiescent

@[expose] public section

noncomputable section

open Idealize.ShloMosaic Idealize.ShloMosaic.TcCoe Idealize.SL.Sem

/-- The precondition `weights_below_inf`: its broadcast is in shape. -/
theorem Cert.Pre_weights_below_inf.facts : Cert.Pre_weights_below_inf.Facts where
  bcast_S_S4096x32 := by decide

namespace Cert.Proof

attribute [local instance] Cert.Pre_weights_below_inf.facts

theorem frame_gate : Cert.quiescent_Gate := fun m ρ _ => Cert.Gate.Gen.frame m ρ
theorem frame_gate_ideal : Cert.quiescent_GateIdeal := fun m ρ _ => Cert.GateIdeal.Gen.frame m ρ
theorem frame_gate_ideal_below : Cert.quiescent_GateIdeal_pre_weights_below_inf := fun m ρ _ => Cert.GateIdeal.Gen.frame m ρ

/-- The reference has no semaphore, and leaves its arguments alone. -/
theorem frame_gate_reference : Cert.quiescent_GateReferenceIdeal := fun m ρ _ =>
  (θ_run _ _ _).mono (fun r h => ⟨fun c => (h c).2.2, sem_eq_zero_of_no_sems rfl r.2⟩) (Cert.GateReferenceIdeal.Value.run m ρ)
theorem frame_gate_reference_below : Cert.quiescent_GateReferenceIdeal_pre_weights_below_inf := fun m ρ _ => frame_gate_reference m ρ trivial

/-- The idealized program is the program itself. -/
theorem preserves_gate : Cert.preserves_Gate_GateIdeal := trivial

/-- What the precondition says. -/
theorem weights_of (m : (ℓ : Loc Cert.GateIdeal.nD Cert.GateIdeal.τ Cert.GateIdeal.sig) → Buf (Elt Ideal) ℓ) (h : Cert.Pre_GateIdeal_weights_below_inf m)
    (c : Dev Cert.GateIdeal.nD) : Cert.GateIdeal.Value.Below m c := fun k l => by
  have h1 := congrFun (h c) (ix2 k l)
  exact ne_top_of_lt (of_decide_eq_true ((StableHlo.Predicate.ofBool_eq_one_iff _).mp h1))

open Cert.GateIdeal.Value (resLogit resCt rowLogit gate) in
/-- The two programs end with the same results. -/
theorem algebraic_gate : Cert.algebraic_GateIdeal_GateReferenceIdeal_pre_weights_below_inf := fun m ρ m' ρ' h hargs => by
  refine ⟨fun c => resLogit m c, fun c => resCt m c, ?_, ?_⟩
  · refine (θ_run _ _ _).mono (fun r hr c => ?_) (Cert.GateIdeal.Value.run_blocks m ρ)
    exact ⟨(hr c).1.trans (Cert.GateIdeal.Value.arr_logit m c (weights_of m h c)),
      (hr c).2.1.trans (Cert.GateIdeal.Value.arr_ct m c (weights_of m h c)), (hr c).2.2⟩
  · refine (θ_run _ _ _).mono (fun r hr c => ?_) (Cert.GateReferenceIdeal.Value.run m' ρ')
    obtain ⟨a0, a1, a2⟩ := hargs c
    obtain ⟨r4, r7, hk⟩ := hr c
    refine ⟨r4.trans ((Cert.GateReferenceIdeal.Read.val_main_v4_eq _ _ _).trans ?_), r7.trans ((Cert.GateReferenceIdeal.Read.val_main_v7_eq _ _ _).trans ?_), hk⟩
    · rw [a0, a1, a2]
      funext y
      have e : y = (ix3 (y 0) (y 1) (y 2) : Cert.GateReferenceIdeal.S2x16384x32.Idx) := by
        funext a; fin_cases a <;> rfl
      conv_lhs => rw [e]
      exact Cert.GateReferenceIdeal.Value.v4_at _ _ _ (y 0) (y 1) (y 2)
    · rw [a0, a1, a2]
      funext y
      have e : y = (ix3 (y 0) (y 1) (y 2) : Cert.GateReferenceIdeal.S2x32x16384.Idx) := by
        funext a; fin_cases a <;> rfl
      conv_lhs => rw [e]
      refine (Cert.GateReferenceIdeal.Value.v7_at _ _ _ (y 0) (y 1) (y 2)).trans ?_
      refine Eq.trans (Finset.sum_congr rfl fun j _ => ?_) (Cert.Gate.masked (gate m c (y 0) (y 1)) (N := 16384) (r := (y 2).val) (y 2).isLt)
      unfold gate
      rw [dif_pos j.isLt]
      rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Algebraic
public import proofs.«01_k».proof.Proof.Gen.Gate
public import proofs.«01_k».proof.Proof.Gen.GateIdeal
public import proofs.«01_k».proof.Proof.Gen.GateReferenceIdeal
public import proofs.«01_k».proof.Proof.GateClaims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Gate.Gen.facts, Cert.GateIdeal.Gen.facts,
    Cert.GateReferenceIdeal.Gen.facts, Cert.Pre_start_fits.facts, Cert.Pre_from_zero_and_finite.facts, Cert.Pre_weights_below_inf.facts,
    frame_kernel, frame_ideal, frame_ideal_zero, frame_reference, frame_reference_zero, frame_gate, frame_gate_ideal, frame_gate_ideal_below,
    frame_gate_reference, frame_gate_reference_below, preserves, algebraic, preserves_gate, algebraic_gate⟩

end Cert.Proof

end
